-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x4096x512 : Shape := ⟨3, ![4, 4096, 512]⟩
abbrev S4x8x80x4096 : Shape := ⟨4, ![4, 8, 80, 4096]⟩
abbrev S4x4096x1024 : Shape := ⟨3, ![4, 4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S1x512x512 : Shape := ⟨3, ![1, 512, 512]⟩
abbrev S1x8x80x512 : Shape := ⟨4, ![1, 8, 80, 512]⟩
abbrev S1x512x1024 : Shape := ⟨3, ![1, 512, 1024]⟩
abbrev S1024x2816 : Shape := ⟨2, ![1024, 2816]⟩
abbrev S1x256x512 : Shape := ⟨3, ![1, 256, 512]⟩
abbrev S256x512 : Shape := ⟨2, ![256, 512]⟩
abbrev S1x1x64x256 : Shape := ⟨4, ![1, 1, 64, 256]⟩
abbrev S64x256 : Shape := ⟨2, ![64, 256]⟩
abbrev S1x1x1x256 : Shape := ⟨4, ![1, 1, 1, 256]⟩
abbrev S1x256 : Shape := ⟨2, ![1, 256]⟩
abbrev S128x256 : Shape := ⟨2, ![128, 256]⟩
abbrev S256x128 : Shape := ⟨2, ![256, 128]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 15
  | .smem => 0
  | _ => 0

abbrev bufTy : (tb : Table) → Fin (tcTables nBuf tb) → BufTy
  | .hbm, ⟨0, _⟩ => ⟨S4x4096x512, .bf16⟩
  | .hbm, ⟨1, _⟩ => ⟨S4x8x80x4096, .f32⟩
  | .hbm, ⟨2, _⟩ => ⟨S4x4096x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x8x80x512, .f32⟩
  | .local _ .vmem, ⟨3, _⟩ => ⟨S1x8x80x512, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x80x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x4096x512 : Shape := ⟨3, ![4, 4096, 512]⟩
abbrev S4x8x80x4096 : Shape := ⟨4, ![4, 8, 80, 4096]⟩
abbrev S4x4096x1024 : Shape := ⟨3, ![4, 4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4x8x64x4096 : Shape := ⟨4, ![4, 8, 64, 4096]⟩
abbrev S4x8x1x4096 : Shape := ⟨4, ![4, 8, 1, 4096]⟩
abbrev S4x4096x8x64 : Shape := ⟨4, ![4, 4096, 8, 64]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x8x80x4096, .f32⟩
  | .hbm, ⟨2, _⟩ => ⟨S4x4096x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S4x8x64x4096, .f32⟩
  | .hbm, ⟨13, _⟩ => ⟨S4x8x1x4096, .f32⟩
  | .hbm, ⟨14, _⟩ => ⟨S4x8x64x4096, .f32⟩
  | .hbm, ⟨15, _⟩ => ⟨S4x8x64x4096, .f32⟩
  | .hbm, ⟨16, _⟩ => ⟨S4x4096x8x64, .f32⟩
  | .hbm, ⟨17, _⟩ => ⟨S4x4096x512, .f32⟩
  | .hbm, ⟨18, _⟩ => ⟨S4x4096x512, .f32⟩
  | .hbm, ⟨19, _⟩ => ⟨S4x4096x1024, .f32⟩
  | .hbm, ⟨20, _⟩ => ⟨S4x4096x1024, .f32⟩
  | .hbm, ⟨21, _⟩ => ⟨S1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S4x4096x5632, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x1024, .f32⟩
  | .hbm, ⟨70, _⟩ => ⟨S1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Kernel2.lean ====
abbrev S32 : Shape := ⟨1, ![32]⟩
abbrev S4x8x8x80x512 : Shape := ⟨5, ![4, 8, 8, 80, 512]⟩
abbrev S4x8x4096x128 : Shape := ⟨4, ![4, 8, 4096, 128]⟩
abbrev S1x8x128x128 : Shape := ⟨4, ![1, 8, 128, 128]⟩
abbrev S1x1x8x80x128 : Shape := ⟨5, ![1, 1, 8, 80, 128]⟩
abbrev S1024x1024 : Shape := ⟨2, ![1024, 1024]⟩
abbrev S1024x5632 : Shape := ⟨2, ![1024, 5632]⟩
abbrev S2816x1024 : Shape := ⟨2, ![2816, 1024]⟩
abbrev S4x8x80x4096 : Shape := ⟨4, ![4, 8, 80, 4096]⟩
abbrev S1x1x8x80x512 : Shape := ⟨5, ![1, 1, 8, 80, 512]⟩
abbrev S1x8x4096x128 : Shape := ⟨4, ![1, 8, 4096, 128]⟩
abbrev S1x8x8x80x512 : Shape := ⟨5, ![1, 8, 8, 80, 512]⟩
abbrev S1x8x16x128 : Shape := ⟨4, ![1, 8, 16, 128]⟩
abbrev S32x1024 : Shape := ⟨2, ![32, 1024]⟩
abbrev S32x5632 : Shape := ⟨2, ![32, 5632]⟩
abbrev S128x1024 : Shape := ⟨2, ![128, 1024]⟩
abbrev S1x8x80x512 : Shape := ⟨4, ![1, 8, 80, 512]⟩
abbrev S1 : Shape := ⟨1, ![1]⟩
abbrev S1x1x1x80x512 : Shape := ⟨5, ![1, 1, 1, 80, 512]⟩
abbrev S80x512 : Shape := ⟨2, ![80, 512]⟩
abbrev S1x1x512x80 : Shape := ⟨4, ![1, 1, 512, 80]⟩
abbrev S512x80 : Shape := ⟨2, ![512, 80]⟩
abbrev S512x512 : Shape := ⟨2, ![512, 512]⟩
abbrev S1x1x16x80 : Shape := ⟨4, ![1, 1, 16, 80]⟩
abbrev S16x80 : Shape := ⟨2, ![16, 80]⟩
abbrev S16x512 : Shape := ⟨2, ![16, 512]⟩
abbrev S528x512 : Shape := ⟨2, ![528, 512]⟩
abbrev S1x1x1x80x16 : Shape := ⟨5, ![1, 1, 1, 80, 16]⟩
abbrev S80x16 : Shape := ⟨2, ![80, 16]⟩
abbrev S80x528 : Shape := ⟨2, ![80, 528]⟩
abbrev S1x1x80x512 : Shape := ⟨4, ![1, 1, 80, 512]⟩
abbrev S512 : Shape := ⟨1, ![512]⟩
abbrev S1x512 : Shape := ⟨2, ![1, 512]⟩

abbrev nBuf : Space → Nat
  | .hbm => 12
  | .vmem => 22
  | .smem => 1
  | _ => 0

abbrev bufTy : (tb : Table) → Fin (tcTables nBuf tb) → BufTy
  | .hbm, ⟨0, _⟩ => ⟨S4x8x8x80x512, .bf16⟩
  | .hbm, ⟨1, _⟩ => ⟨S4x8x4096x128, .bf16⟩
  | .hbm, ⟨2, _⟩ => ⟨S4x8x8x80x512, .bf16⟩
  | .hbm, ⟨3, _⟩ => ⟨S1x8x128x128, .bf16⟩
  | .hbm, ⟨4, _⟩ => ⟨S1x1x8x80x128, .bf16⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S4x8x80x4096, .f32⟩
  | .hbm, ⟨9, _⟩ => ⟨S1024x1024, .bf16⟩
  | .hbm, ⟨10, _⟩ => ⟨S1024x5632, .bf16⟩
  | .hbm, ⟨11, _⟩ => ⟨S2816x1024, .bf16⟩
  | .local _ .vmem, ⟨0, _⟩ => ⟨S1x1x8x80x512, .bf16⟩
  | .local _ .vmem, ⟨1, _⟩ => ⟨S1x1x8x80x512, .bf16⟩
  | .local _ .vmem, ⟨2, _⟩ => ⟨S1x8x4096x128, .bf16⟩
  | .local _ .vmem, ⟨3, _⟩ => ⟨S1x8x4096x128, .bf16⟩
  | .local _ .vmem, ⟨4, _⟩ => ⟨S1x8x8x80x512, .bf16⟩
  | .local _ .vmem, ⟨5, _⟩ => ⟨S1x8x8x80x512, .bf16⟩
  | .local _ .vmem, ⟨6, _⟩ => ⟨S1x8x16x128, .bf16⟩
  | .local _ .vmem, ⟨7, _⟩ => ⟨S1x1x8x80x128, .bf16⟩
  | .local _ .vmem, ⟨8, _⟩ => ⟨S32x1024, .f32⟩
  | .local _ .vmem, ⟨9, _⟩ => ⟨S32x1024, .f32⟩
  | .local _ .vmem, ⟨10, _⟩ => ⟨S32x5632, .f32⟩
  | .local _ .vmem, ⟨11, _⟩ => ⟨S32x5632, .f32⟩
  | .local _ .vmem, ⟨12, _⟩ => ⟨S128x1024, .f32⟩
  | .local _ .vmem, ⟨13, _⟩ => ⟨S128x1024, .f32⟩
  | .local _ .vmem, ⟨14, _⟩ => ⟨S1x8x80x512, .f32⟩
  | .local _ .vmem, ⟨15, _⟩ => ⟨S1x8x80x512, .f32⟩
  | .local _ .vmem, ⟨16, _⟩ => ⟨S32x1024, .bf16⟩
  | .local _ .vmem, ⟨17, _⟩ => ⟨S32x1024, .bf16⟩
  | .local _ .vmem, ⟨18, _⟩ => ⟨S32x5632, .bf16⟩
  | .local _ .vmem, ⟨19, _⟩ => ⟨S32x5632, .bf16⟩
  | .local _ .vmem, ⟨20, _⟩ => ⟨S128x1024, .bf16⟩
  | .local _ .vmem, ⟨21, _⟩ => ⟨S128x1024, .bf16⟩
  | .local _ .smem, ⟨0, _⟩ => ⟨S32, .i32⟩
  | _, _ => ⟨S4x8x8x80x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 1, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v9 : BitVec 32 := Scalar.muli arg0 c8_i32
  let arg2 : BitVec 32 := BitVec.ofNat 32 (i 2).val
  let v10 : BitVec 32 := Scalar.addi v9 arg2
  let c1_i32 : BitVec 32 := 1#32
  let v11 : BitVec 32 := Scalar.muli v10 c1_i32
  let arg1 : BitVec 32 := BitVec.ofNat 32 (i 1).val
  let v12 : BitVec 32 := Scalar.addi v11 arg1
  let v13 : Index := Scalar.indexCast v12
  ![v13.toNat]
def k0_mult1 (i : grid0.Coords) : BitVec 32 :=
  let arg2 : BitVec 32 := BitVec.ofNat 32 (i 2).val
  let c512_i32 : BitVec 32 := 512#32
  let v37 : BitVec 32 := Scalar.muli arg2 c512_i32
  v37
def k0_off2 (i : grid0.Coords) : Fin 4 → Nat :=
  let c0_46 : Index := 0#32
  let c0_47 : Index := 0#32
  let arg2 : BitVec 32 := BitVec.ofNat 32 (i 2).val
  let c512_i32 : BitVec 32 := 512#32
  let v37 : BitVec 32 := Scalar.muli arg2 c512_i32
  let v38 : BitVec 32 := v37
  let v39 : Index := Scalar.indexCast v38
  let c0_48 : Index := 0#32
  ![0, 0, v39.toNat, 0]
def k0_mult2 (i : grid0.Coords) : BitVec 32 :=
  let arg2 : BitVec 32 := BitVec.ofNat 32 (i 2).val
  let c512_i32_55 : BitVec 32 := 512#32
  let v52 : BitVec 32 := Scalar.muli arg2 c512_i32_55
  v52
def k0_off3 (i : grid0.Coords) : Fin 4 → Nat :=
  let c0_56 : Index := 0#32
  let c1_57 : Index := 1#32
  let arg2 : BitVec 32 := BitVec.ofNat 32 (i 2).val
  let c512_i32_55 : BitVec 32 := 512#32
  let v52 : BitVec 32 := Scalar.muli arg2 c512_i32_55
  let v53 : BitVec 32 := v52
  let v54 : Index := Scalar.indexCast v53
  let c0_58 : Index := 0#32
  ![0, 1, v54.toNat, 0]
def k0_off4 (i : grid0.Coords) : Fin 5 → Nat :=
  let c0_66 : Index := 0#32
  let arg2 : BitVec 32 := BitVec.ofNat 32 (i 2).val
  let v67 : Index := Scalar.indexCast arg2
  let c0_67 : Index := 0#32
  let c0_68 : Index := 0#32
  let c0_69 : Index := 0#32
  ![0, v67.toNat, 0, 0, 0]
def k0_mult3 (i : grid0.Coords) : BitVec 32 :=
  let arg2 : BitVec 32 := BitVec.ofNat 32 (i 2).val
  let c512_i32_80 : BitVec 32 := 512#32
  let v79 : BitVec 32 := Scalar.muli arg2 c512_i32_80
  v79
def k0_off5 (i : grid0.Coords) : Fin 4 → Nat :=
  let c0_81 : Index := 0#32
  let c2_82 : Index := 2#32
  let arg2 : BitVec 32 := BitVec.ofNat 32 (i 2).val
  let c512_i32_80 : BitVec 32 := 512#32
  let v79 : BitVec 32 := Scalar.muli arg2 c512_i32_80
  let v80 : BitVec 32 := v79
  let v81 : Index := Scalar.indexCast v80
  let c0_83 : Index := 0#32
  ![0, 2, v81.toNat, 0]
def k0_off6 (i : grid0.Coords) : Fin 5 → Nat :=
  let c0_91 : Index := 0#32
  let arg2 : BitVec 32 := BitVec.ofNat 32 (i 2).val
  let v94 : Index := Scalar.indexCast arg2
  let c1_92 : Index := 1#32
  let c0_93 : Index := 0#32
  let c0_94 : Index := 0#32
  ![0, v94.toNat, 1, 0, 0]
def k0_mult4 (i : grid0.Coords) : BitVec 32 :=
  let arg2 : BitVec 32 := BitVec.ofNat 32 (i 2).val
  let c512_i32_105 : BitVec 32 := 512#32
  let v106 : BitVec 32 := Scalar.muli arg2 c512_i32_105
  v106
def k0_off7 (i : grid0.Coords) : Fin 4 → Nat :=
  let c0_106 : Index := 0#32
  let c3_107 : Index := 3#32
  let arg2 : BitVec 32 := BitVec.ofNat 32 (i 2).val
  let c512_i32_105 : BitVec 32 := 512#32
  let v106 : BitVec 32 := Scalar.muli arg2 c512_i32_105
  let v107 : BitVec 32 := v106
  let v108 : Index := Scalar.indexCast v107
  let c0_108 : Index := 0#32
  ![0, 3, v108.toNat, 0]
def k0_off8 (i : grid0.Coords) : Fin 5 → Nat :=
  let c0_116 : Index := 0#32
  let arg2 : BitVec 32 := BitVec.ofNat 32 (i 2).val
  let v121 : Index := Scalar.indexCast arg2
  let c2_117 : Index := 2#32
  let c0_118 : Index := 0#32
  let c0_119 : Index := 0#32
  ![0, v121.toNat, 2, 0, 0]
def k0_mult5 (i : grid0.Coords) : BitVec 32 :=
  let arg2 : BitVec 32 := BitVec.ofNat 32 (i 2).val
  let c512_i32_130 : BitVec 32 := 512#32
  let v133 : BitVec 32 := Scalar.muli arg2 c512_i32_130
  v133
def k0_off9 (i : grid0.Coords) : Fin 4 → Nat :=
  let c0_131 : Index := 0#32
  let c4_132 : Index := 4#32
  let arg2 : BitVec 32 := BitVec.ofNat 32 (i 2).val
  let c512_i32_130 : BitVec 32 := 512#32
  let v133 : BitVec 32 := Scalar.muli arg2 c512_i32_130
  let v134 : BitVec 32 := v133
  let v135 : Index := Scalar.indexCast v134
  let c0_133 : Index := 0#32
  ![0, 4, v135.toNat, 0]
def k0_off10 (i : grid0.Coords) : Fin 5 → Nat :=
  let c0_141 : Index := 0#32
  let arg2 : BitVec 32 := BitVec.ofNat 32 (i 2).val
  let v148 : Index := Scalar.indexCast arg2
  let c3_142 : Index := 3#32
  let c0_143 : Index := 0#32
  let c0_144 : Index := 0#32
  ![0, v148.toNat, 3, 0, 0]
def k0_mult6 (i : grid0.Coords) : BitVec 32 :=
  let arg2 : BitVec 32 := BitVec.ofNat 32 (i 2).val
  let c512_i32_155 : BitVec 32 := 512#32
  let v160 : BitVec 32 := Scalar.muli arg2 c512_i32_155
  v160
def k0_off11 (i : grid0.Coords) : Fin 4 → Nat :=
  let c0_156 : Index := 0#32
  let c5_157 : Index := 5#32
  let arg2 : BitVec 32 := BitVec.ofNat 32 (i 2).val
  let c512_i32_155 : BitVec 32 := 512#32
  let v160 : BitVec 32 := Scalar.muli arg2 c512_i32_155
  let v161 : BitVec 32 := v160
  let v162 : Index := Scalar.indexCast v161
  let c0_158 : Index := 0#32
  ![0, 5, v162.toNat, 0]
def k0_off12 (i : grid0.Coords) : Fin 5 → Nat :=
  let c0_166 : Index := 0#32
  let arg2 : BitVec 32 := BitVec.ofNat 32 (i 2).val
  let v175 : Index := Scalar.indexCast arg2
  let c4_167 : Index := 4#32
  let c0_168 : Index := 0#32
  let c0_169 : Index := 0#32
  ![0, v175.toNat, 4, 0, 0]
def k0_mult7 (i : grid0.Coords) : BitVec 32 :=
  let arg2 : BitVec 32 := BitVec.ofNat 32 (i 2).val
  let c512_i32_180 : BitVec 32 := 512#32
  let v187 : BitVec 32 := Scalar.muli arg2 c512_i32_180
  v187
def k0_off13 (i : grid0.Coords) : Fin 4 → Nat :=
  let c0_181 : Index := 0#32
  let c6_182 : Index := 6#32
  let arg2 : BitVec 32 := BitVec.ofNat 32 (i 2).val
  let c512_i32_180 : BitVec 32 := 512#32
  let v187 : BitVec 32 := Scalar.muli arg2 c512_i32_180
  let v188 : BitVec 32 := v187
  let v189 : Index := Scalar.indexCast v188
  let c0_183 : Index := 0#32
  ![0, 6, v189.toNat, 0]
def k0_off14 (i : grid0.Coords) : Fin 5 → Nat :=
  let c0_191 : Index := 0#32
  let arg2 : BitVec 32 := BitVec.ofNat 32 (i 2).val
  let v202 : Index := Scalar.indexCast arg2
  let c5_192 : Index := 5#32
  let c0_193 : Index := 0#32
  let c0_194 : Index := 0#32
  ![0, v202.toNat, 5, 0, 0]
def k0_mult8 (i : grid0.Coords) : BitVec 32 :=
  let arg2 : BitVec 32 := BitVec.ofNat 32 (i 2).val
  let c512_i32_205 : BitVec 32 := 512#32
  let v214 : BitVec 32 := Scalar.muli arg2 c512_i32_205
  v214
def k0_off15 (i : grid0.Coords) : Fin 4 → Nat :=
  let c0_206 : Index := 0#32
  let c7_207 : Index := 7#32
  let arg2 : BitVec 32 := BitVec.ofNat 32 (i 2).val
  let c512_i32_205 : BitVec 32 := 512#32
  let v214 : BitVec 32 := Scalar.muli arg2 c512_i32_205
  let v215 : BitVec 32 := v214
  let v216 : Index := Scalar.indexCast v215
  let c0_208 : Index := 0#32
  ![0, 7, v216.toNat, 0]
def k0_off16 (i : grid0.Coords) : Fin 5 → Nat :=
  let c0_216 : Index := 0#32
  let arg2 : BitVec 32 := BitVec.ofNat 32 (i 2).val
  let v229 : Index := Scalar.indexCast arg2
  let c6_217 : Index := 6#32
  let c0_218 : Index := 0#32
  let c0_219 : Index := 0#32
  ![0, v229.toNat, 6, 0, 0]
def k0_off17 (i : grid0.Coords) : Fin 5 → Nat :=
  let c0_230 : Index := 0#32
  let arg2 : BitVec 32 := BitVec.ofNat 32 (i 2).val
  let v241 : Index := Scalar.indexCast arg2
  let c7_231 : Index := 7#32
  let c0_232 : Index := 0#32
  let c0_233 : Index := 0#32
  ![0, v241.toNat, 7, 0, 0]
@[reducible] def k0_t1_loop (i : grid0.Coords) : Scf.Loop 32 :=
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_253 : BitVec 32 := 1#32
  ⟨c0_i32_251, v274, c1_i32_253⟩
def k0_mult9 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_266 : BitVec 32 := 512#32
  let v291 : BitVec 32 := Scalar.muli v288 c512_i32_266
  v291
def k0_off18 (i : grid0.Coords) (k0_t1 : Fin (k0_t1_loop i).trips) : Fin 4 → Nat :=
  let c0_267 : Index := 0#32
  let c0_268 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_266 : BitVec 32 := 512#32
  let v291 : BitVec 32 := Scalar.muli v288 c512_i32_266
  let v292 : BitVec 32 := v291
  let v293 : Index := Scalar.indexCast v292
  let c0_269 : Index := 0#32
  ![0, 0, v293.toNat, 0]
def k0_mult10 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_271 : BitVec 32 := 512#32
  let v297 : BitVec 32 := Scalar.muli v288 c512_i32_271
  v297
def k0_off19 (i : grid0.Coords) (k0_t1 : Fin (k0_t1_loop i).trips) : Fin 4 → Nat :=
  let c0_272 : Index := 0#32
  let c1_273 : Index := 1#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_271 : BitVec 32 := 512#32
  let v297 : BitVec 32 := Scalar.muli v288 c512_i32_271
  let v298 : BitVec 32 := v297
  let v299 : Index := Scalar.indexCast v298
  let c0_274 : Index := 0#32
  ![0, 1, v299.toNat, 0]
def k0_off20 (i : grid0.Coords) (k0_t1 : Fin (k0_t1_loop i).trips) : Fin 5 → Nat :=
  let c0_280 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v305 : Index := Scalar.indexCast v288
  let c0_281 : Index := 0#32
  let c0_282 : Index := 0#32
  let c0_283 : Index := 0#32
  ![0, v305.toNat, 0, 0, 0]
def k0_mult11 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_289 : BitVec 32 := 512#32
  let v315 : BitVec 32 := Scalar.muli v288 c512_i32_289
  v315
def k0_off21 (i : grid0.Coords) (k0_t1 : Fin (k0_t1_loop i).trips) : Fin 4 → Nat :=
  let c0_290 : Index := 0#32
  let c2_291 : Index := 2#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_289 : BitVec 32 := 512#32
  let v315 : BitVec 32 := Scalar.muli v288 c512_i32_289
  let v316 : BitVec 32 := v315
  let v317 : Index := Scalar.indexCast v316
  let c0_292 : Index := 0#32
  ![0, 2, v317.toNat, 0]
def k0_off22 (i : grid0.Coords) (k0_t1 : Fin (k0_t1_loop i).trips) : Fin 5 → Nat :=
  let c0_298 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v323 : Index := Scalar.indexCast v288
  let c1_299 : Index := 1#32
  let c0_300 : Index := 0#32
  let c0_301 : Index := 0#32
  ![0, v323.toNat, 1, 0, 0]
def k0_mult12 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_307 : BitVec 32 := 512#32
  let v333 : BitVec 32 := Scalar.muli v288 c512_i32_307
  v333
def k0_off23 (i : grid0.Coords) (k0_t1 : Fin (k0_t1_loop i).trips) : Fin 4 → Nat :=
  let c0_308 : Index := 0#32
  let c3_309 : Index := 3#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_307 : BitVec 32 := 512#32
  let v333 : BitVec 32 := Scalar.muli v288 c512_i32_307
  let v334 : BitVec 32 := v333
  let v335 : Index := Scalar.indexCast v334
  let c0_310 : Index := 0#32
  ![0, 3, v335.toNat, 0]
def k0_off24 (i : grid0.Coords) (k0_t1 : Fin (k0_t1_loop i).trips) : Fin 5 → Nat :=
  let c0_316 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v341 : Index := Scalar.indexCast v288
  let c2_317 : Index := 2#32
  let c0_318 : Index := 0#32
  let c0_319 : Index := 0#32
  ![0, v341.toNat, 2, 0, 0]
def k0_mult13 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_325 : BitVec 32 := 512#32
  let v351 : BitVec 32 := Scalar.muli v288 c512_i32_325
  v351
def k0_off25 (i : grid0.Coords) (k0_t1 : Fin (k0_t1_loop i).trips) : Fin 4 → Nat :=
  let c0_326 : Index := 0#32
  let c4_327 : Index := 4#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_325 : BitVec 32 := 512#32
  let v351 : BitVec 32 := Scalar.muli v288 c512_i32_325
  let v352 : BitVec 32 := v351
  let v353 : Index := Scalar.indexCast v352
  let c0_328 : Index := 0#32
  ![0, 4, v353.toNat, 0]
def k0_off26 (i : grid0.Coords) (k0_t1 : Fin (k0_t1_loop i).trips) : Fin 5 → Nat :=
  let c0_334 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v359 : Index := Scalar.indexCast v288
  let c3_335 : Index := 3#32
  let c0_336 : Index := 0#32
  let c0_337 : Index := 0#32
  ![0, v359.toNat, 3, 0, 0]
def k0_mult14 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_343 : BitVec 32 := 512#32
  let v369 : BitVec 32 := Scalar.muli v288 c512_i32_343
  v369
def k0_off27 (i : grid0.Coords) (k0_t1 : Fin (k0_t1_loop i).trips) : Fin 4 → Nat :=
  let c0_344 : Index := 0#32
  let c5_345 : Index := 5#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_343 : BitVec 32 := 512#32
  let v369 : BitVec 32 := Scalar.muli v288 c512_i32_343
  let v370 : BitVec 32 := v369
  let v371 : Index := Scalar.indexCast v370
  let c0_346 : Index := 0#32
  ![0, 5, v371.toNat, 0]
def k0_off28 (i : grid0.Coords) (k0_t1 : Fin (k0_t1_loop i).trips) : Fin 5 → Nat :=
  let c0_352 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v377 : Index := Scalar.indexCast v288
  let c4_353 : Index := 4#32
  let c0_354 : Index := 0#32
  let c0_355 : Index := 0#32
  ![0, v377.toNat, 4, 0, 0]
def k0_mult15 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_361 : BitVec 32 := 512#32
  let v387 : BitVec 32 := Scalar.muli v288 c512_i32_361
  v387
def k0_off29 (i : grid0.Coords) (k0_t1 : Fin (k0_t1_loop i).trips) : Fin 4 → Nat :=
  let c0_362 : Index := 0#32
  let c6_363 : Index := 6#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_361 : BitVec 32 := 512#32
  let v387 : BitVec 32 := Scalar.muli v288 c512_i32_361
  let v388 : BitVec 32 := v387
  let v389 : Index := Scalar.indexCast v388
  let c0_364 : Index := 0#32
  ![0, 6, v389.toNat, 0]
def k0_off30 (i : grid0.Coords) (k0_t1 : Fin (k0_t1_loop i).trips) : Fin 5 → Nat :=
  let c0_370 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v395 : Index := Scalar.indexCast v288
  let c5_371 : Index := 5#32
  let c0_372 : Index := 0#32
  let c0_373 : Index := 0#32
  ![0, v395.toNat, 5, 0, 0]
def k0_mult16 (i : grid0.Coords) (k0_t1 : Fin (k0_t1_loop i).trips) : BitVec 32 :=
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_379 : BitVec 32 := 512#32
  let v405 : BitVec 32 := Scalar.muli v288 c512_i32_379
  v405
def k0_off31 (i : grid0.Coords) (k0_t1 : Fin (k0_t1_loop i).trips) : Fin 4 → Nat :=
  let c0_380 : Index := 0#32
  let c7_381 : Index := 7#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let c512_i32_379 : BitVec 32 := 512#32
  let v405 : BitVec 32 := Scalar.muli v288 c512_i32_379
  let v406 : BitVec 32 := v405
  let v407 : Index := Scalar.indexCast v406
  let c0_382 : Index := 0#32
  ![0, 7, v407.toNat, 0]
def k0_off32 (i : grid0.Coords) (k0_t1 : Fin (k0_t1_loop i).trips) : Fin 5 → Nat :=
  let c0_388 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v413 : Index := Scalar.indexCast v288
  let c6_389 : Index := 6#32
  let c0_390 : Index := 0#32
  let c0_391 : Index := 0#32
  ![0, v413.toNat, 6, 0, 0]
def k0_mult17 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_397 : BitVec 32 := 512#32
  let v423 : BitVec 32 := Scalar.muli v290 c512_i32_397
  v423
def k0_off33 (i : grid0.Coords) (k0_t1 : Fin (k0_t1_loop i).trips) : Fin 4 → Nat :=
  let c0_398 : Index := 0#32
  let c0_399 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_397 : BitVec 32 := 512#32
  let v423 : BitVec 32 := Scalar.muli v290 c512_i32_397
  let v424 : BitVec 32 := v423
  let v425 : Index := Scalar.indexCast v424
  let c0_400 : Index := 0#32
  ![0, 0, v425.toNat, 0]
def k0_off34 (i : grid0.Coords) (k0_t1 : Fin (k0_t1_loop i).trips) : Fin 5 → Nat :=
  let c0_406 : Index := 0#32
  let c2_i32_263 : BitVec 32 := 2#32
  let c0_i32_251 : BitVec 32 := 0#32
  let c1_i32_253 : BitVec 32 := 1#32
  let arg16 : BitVec 32 := Scf.iv c0_i32_251 c1_i32_253 k0_t1
  let v288 : BitVec 32 := Scalar.muli c2_i32_263 arg16
  let v431 : Index := Scalar.indexCast v288
  let c7_407 : Index := 7#32
  let c0_408 : Index := 0#32
  let c0_409 : Index := 0#32
  ![0, v431.toNat, 7, 0, 0]
def k0_mult18 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_415 : BitVec 32 := 512#32
  let v441 : BitVec 32 := Scalar.muli v290 c512_i32_415
  v441
def k0_off35 (i : grid0.Coords) (k0_t1 : Fin (k0_t1_loop i).trips) : Fin 4 → Nat :=
  let c0_416 : Index := 0#32
  let c1_417 : Index := 1#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_415 : BitVec 32 := 512#32
  let v441 : BitVec 32 := Scalar.muli v290 c512_i32_415
  let v442 : BitVec 32 := v441
  let v443 : Index := Scalar.indexCast v442
  let c0_418 : Index := 0#32
  ![0, 1, v443.toNat, 0]
def k0_off36 (i : grid0.Coords) (k0_t1 : Fin (k0_t1_loop i).trips) : Fin 5 → Nat :=
  let c0_424 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v449 : Index := Scalar.indexCast v290
  let c0_425 : Index := 0#32
  let c0_426 : Index := 0#32
  let c0_427 : Index := 0#32
  ![0, v449.toNat, 0, 0, 0]
def k0_mult19 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_433 : BitVec 32 := 512#32
  let v459 : BitVec 32 := Scalar.muli v290 c512_i32_433
  v459
def k0_off37 (i : grid0.Coords) (k0_t1 : Fin (k0_t1_loop i).trips) : Fin 4 → Nat :=
  let c0_434 : Index := 0#32
  let c2_435 : Index := 2#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_433 : BitVec 32 := 512#32
  let v459 : BitVec 32 := Scalar.muli v290 c512_i32_433
  let v460 : BitVec 32 := v459
  let v461 : Index := Scalar.indexCast v460
  let c0_436 : Index := 0#32
  ![0, 2, v461.toNat, 0]
def k0_off38 (i : grid0.Coords) (k0_t1 : Fin (k0_t1_loop i).trips) : Fin 5 → Nat :=
  let c0_442 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v467 : Index := Scalar.indexCast v290
  let c1_443 : Index := 1#32
  let c0_444 : Index := 0#32
  let c0_445 : Index := 0#32
  ![0, v467.toNat, 1, 0, 0]
def k0_mult20 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_451 : BitVec 32 := 512#32
  let v477 : BitVec 32 := Scalar.muli v290 c512_i32_451
  v477
def k0_off39 (i : grid0.Coords) (k0_t1 : Fin (k0_t1_loop i).trips) : Fin 4 → Nat :=
  let c0_452 : Index := 0#32
  let c3_453 : Index := 3#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_451 : BitVec 32 := 512#32
  let v477 : BitVec 32 := Scalar.muli v290 c512_i32_451
  let v478 : BitVec 32 := v477
  let v479 : Index := Scalar.indexCast v478
  let c0_454 : Index := 0#32
  ![0, 3, v479.toNat, 0]
def k0_off40 (i : grid0.Coords) (k0_t1 : Fin (k0_t1_loop i).trips) : Fin 5 → Nat :=
  let c0_460 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v485 : Index := Scalar.indexCast v290
  let c2_461 : Index := 2#32
  let c0_462 : Index := 0#32
  let c0_463 : Index := 0#32
  ![0, v485.toNat, 2, 0, 0]
def k0_mult21 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_469 : BitVec 32 := 512#32
  let v495 : BitVec 32 := Scalar.muli v290 c512_i32_469
  v495
def k0_off41 (i : grid0.Coords) (k0_t1 : Fin (k0_t1_loop i).trips) : Fin 4 → Nat :=
  let c0_470 : Index := 0#32
  let c4_471 : Index := 4#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_469 : BitVec 32 := 512#32
  let v495 : BitVec 32 := Scalar.muli v290 c512_i32_469
  let v496 : BitVec 32 := v495
  let v497 : Index := Scalar.indexCast v496
  let c0_472 : Index := 0#32
  ![0, 4, v497.toNat, 0]
def k0_off42 (i : grid0.Coords) (k0_t1 : Fin (k0_t1_loop i).trips) : Fin 5 → Nat :=
  let c0_478 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v503 : Index := Scalar.indexCast v290
  let c3_479 : Index := 3#32
  let c0_480 : Index := 0#32
  let c0_481 : Index := 0#32
  ![0, v503.toNat, 3, 0, 0]
def k0_mult22 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_487 : BitVec 32 := 512#32
  let v513 : BitVec 32 := Scalar.muli v290 c512_i32_487
  v513
def k0_off43 (i : grid0.Coords) (k0_t1 : Fin (k0_t1_loop i).trips) : Fin 4 → Nat :=
  let c0_488 : Index := 0#32
  let c5_489 : Index := 5#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_487 : BitVec 32 := 512#32
  let v513 : BitVec 32 := Scalar.muli v290 c512_i32_487
  let v514 : BitVec 32 := v513
  let v515 : Index := Scalar.indexCast v514
  let c0_490 : Index := 0#32
  ![0, 5, v515.toNat, 0]
def k0_off44 (i : grid0.Coords) (k0_t1 : Fin (k0_t1_loop i).trips) : Fin 5 → Nat :=
  let c0_496 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v521 : Index := Scalar.indexCast v290
  let c4_497 : Index := 4#32
  let c0_498 : Index := 0#32
  let c0_499 : Index := 0#32
  ![0, v521.toNat, 4, 0, 0]
def k0_mult23 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_505 : BitVec 32 := 512#32
  let v531 : BitVec 32 := Scalar.muli v290 c512_i32_505
  v531
def k0_off45 (i : grid0.Coords) (k0_t1 : Fin (k0_t1_loop i).trips) : Fin 4 → Nat :=
  let c0_506 : Index := 0#32
  let c6_507 : Index := 6#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_505 : BitVec 32 := 512#32
  let v531 : BitVec 32 := Scalar.muli v290 c512_i32_505
  let v532 : BitVec 32 := v531
  let v533 : Index := Scalar.indexCast v532
  let c0_508 : Index := 0#32
  ![0, 6, v533.toNat, 0]
def k0_off46 (i : grid0.Coords) (k0_t1 : Fin (k0_t1_loop i).trips) : Fin 5 → Nat :=
  let c0_514 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v539 : Index := Scalar.indexCast v290
  let c5_515 : Index := 5#32
  let c0_516 : Index := 0#32
  let c0_517 : Index := 0#32
  ![0, v539.toNat, 5, 0, 0]
def k0_mult24 (i : grid0.Coords) (k0_t1 : Fin (k0_t1_loop i).trips) : BitVec 32 :=
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_523 : BitVec 32 := 512#32
  let v549 : BitVec 32 := Scalar.muli v290 c512_i32_523
  v549
def k0_off47 (i : grid0.Coords) (k0_t1 : Fin (k0_t1_loop i).trips) : Fin 4 → Nat :=
  let c0_524 : Index := 0#32
  let c7_525 : Index := 7#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let c512_i32_523 : BitVec 32 := 512#32
  let v549 : BitVec 32 := Scalar.muli v290 c512_i32_523
  let v550 : BitVec 32 := v549
  let v551 : Index := Scalar.indexCast v550
  let c0_526 : Index := 0#32
  ![0, 7, v551.toNat, 0]
def k0_off48 (i : grid0.Coords) (k0_t1 : Fin (k0_t1_loop i).trips) : Fin 5 → Nat :=
  let c0_532 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v557 : Index := Scalar.indexCast v290
  let c6_533 : Index := 6#32
  let c0_534 : Index := 0#32
  let c0_535 : Index := 0#32
  ![0, v557.toNat, 6, 0, 0]
def k0_off49 (i : grid0.Coords) (k0_t1 : Fin (k0_t1_loop i).trips) : Fin 5 → Nat :=
  let c0_545 : Index := 0#32
  let c2_i32_264 : BitVec 32 := 2#32
  let c0_i32_251 : BitVec 32 := 0#32
  let c1_i32_253 : BitVec 32 := 1#32
  let arg16 : BitVec 32 := Scf.iv c0_i32_251 c1_i32_253 k0_t1
  let v289 : BitVec 32 := Scalar.muli c2_i32_264 arg16
  let c1_i32_265 : BitVec 32 := 1#32
  let v290 : BitVec 32 := Scalar.addi v289 c1_i32_265
  let v569 : Index := Scalar.indexCast v290
  let c7_546 : Index := 7#32
  let c0_547 : Index := 0#32
  let c0_548 : Index := 0#32
  ![0, v569.toNat, 7, 0, 0]
@[reducible] def k0_t2_loop (i : grid0.Coords) : Scf.Loop 32 :=
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let v271 : BitVec 32 := Scalar.addi c0_i32_251 v270
  let c1_i32_254 : BitVec 32 := 1#32
  ⟨v274, v271, c1_i32_254⟩
def k0_mult25 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_266 : BitVec 32 := 512#32
  let v291 : BitVec 32 := Scalar.muli v288 c512_i32_266
  v291
def k0_off50 (i : grid0.Coords) (k0_t2 : Fin (k0_t2_loop i).trips) : Fin 4 → Nat :=
  let c0_267 : Index := 0#32
  let c0_268 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_266 : BitVec 32 := 512#32
  let v291 : BitVec 32 := Scalar.muli v288 c512_i32_266
  let v292 : BitVec 32 := v291
  let v293 : Index := Scalar.indexCast v292
  let c0_269 : Index := 0#32
  ![0, 0, v293.toNat, 0]
def k0_mult26 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_271 : BitVec 32 := 512#32
  let v297 : BitVec 32 := Scalar.muli v288 c512_i32_271
  v297
def k0_off51 (i : grid0.Coords) (k0_t2 : Fin (k0_t2_loop i).trips) : Fin 4 → Nat :=
  let c0_272 : Index := 0#32
  let c1_273 : Index := 1#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_271 : BitVec 32 := 512#32
  let v297 : BitVec 32 := Scalar.muli v288 c512_i32_271
  let v298 : BitVec 32 := v297
  let v299 : Index := Scalar.indexCast v298
  let c0_274 : Index := 0#32
  ![0, 1, v299.toNat, 0]
def k0_off52 (i : grid0.Coords) (k0_t2 : Fin (k0_t2_loop i).trips) : Fin 5 → Nat :=
  let c0_280 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v305 : Index := Scalar.indexCast v288
  let c0_281 : Index := 0#32
  let c0_282 : Index := 0#32
  let c0_283 : Index := 0#32
  ![0, v305.toNat, 0, 0, 0]
def k0_mult27 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_289 : BitVec 32 := 512#32
  let v315 : BitVec 32 := Scalar.muli v288 c512_i32_289
  v315
def k0_off53 (i : grid0.Coords) (k0_t2 : Fin (k0_t2_loop i).trips) : Fin 4 → Nat :=
  let c0_290 : Index := 0#32
  let c2_291 : Index := 2#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_289 : BitVec 32 := 512#32
  let v315 : BitVec 32 := Scalar.muli v288 c512_i32_289
  let v316 : BitVec 32 := v315
  let v317 : Index := Scalar.indexCast v316
  let c0_292 : Index := 0#32
  ![0, 2, v317.toNat, 0]
def k0_off54 (i : grid0.Coords) (k0_t2 : Fin (k0_t2_loop i).trips) : Fin 5 → Nat :=
  let c0_298 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v323 : Index := Scalar.indexCast v288
  let c1_299 : Index := 1#32
  let c0_300 : Index := 0#32
  let c0_301 : Index := 0#32
  ![0, v323.toNat, 1, 0, 0]
def k0_mult28 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_307 : BitVec 32 := 512#32
  let v333 : BitVec 32 := Scalar.muli v288 c512_i32_307
  v333
def k0_off55 (i : grid0.Coords) (k0_t2 : Fin (k0_t2_loop i).trips) : Fin 4 → Nat :=
  let c0_308 : Index := 0#32
  let c3_309 : Index := 3#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_307 : BitVec 32 := 512#32
  let v333 : BitVec 32 := Scalar.muli v288 c512_i32_307
  let v334 : BitVec 32 := v333
  let v335 : Index := Scalar.indexCast v334
  let c0_310 : Index := 0#32
  ![0, 3, v335.toNat, 0]
def k0_off56 (i : grid0.Coords) (k0_t2 : Fin (k0_t2_loop i).trips) : Fin 5 → Nat :=
  let c0_316 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v341 : Index := Scalar.indexCast v288
  let c2_317 : Index := 2#32
  let c0_318 : Index := 0#32
  let c0_319 : Index := 0#32
  ![0, v341.toNat, 2, 0, 0]
def k0_mult29 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_325 : BitVec 32 := 512#32
  let v351 : BitVec 32 := Scalar.muli v288 c512_i32_325
  v351
def k0_off57 (i : grid0.Coords) (k0_t2 : Fin (k0_t2_loop i).trips) : Fin 4 → Nat :=
  let c0_326 : Index := 0#32
  let c4_327 : Index := 4#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_325 : BitVec 32 := 512#32
  let v351 : BitVec 32 := Scalar.muli v288 c512_i32_325
  let v352 : BitVec 32 := v351
  let v353 : Index := Scalar.indexCast v352
  let c0_328 : Index := 0#32
  ![0, 4, v353.toNat, 0]
def k0_off58 (i : grid0.Coords) (k0_t2 : Fin (k0_t2_loop i).trips) : Fin 5 → Nat :=
  let c0_334 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v359 : Index := Scalar.indexCast v288
  let c3_335 : Index := 3#32
  let c0_336 : Index := 0#32
  let c0_337 : Index := 0#32
  ![0, v359.toNat, 3, 0, 0]
def k0_mult30 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_343 : BitVec 32 := 512#32
  let v369 : BitVec 32 := Scalar.muli v288 c512_i32_343
  v369
def k0_off59 (i : grid0.Coords) (k0_t2 : Fin (k0_t2_loop i).trips) : Fin 4 → Nat :=
  let c0_344 : Index := 0#32
  let c5_345 : Index := 5#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_343 : BitVec 32 := 512#32
  let v369 : BitVec 32 := Scalar.muli v288 c512_i32_343
  let v370 : BitVec 32 := v369
  let v371 : Index := Scalar.indexCast v370
  let c0_346 : Index := 0#32
  ![0, 5, v371.toNat, 0]
def k0_off60 (i : grid0.Coords) (k0_t2 : Fin (k0_t2_loop i).trips) : Fin 5 → Nat :=
  let c0_352 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v377 : Index := Scalar.indexCast v288
  let c4_353 : Index := 4#32
  let c0_354 : Index := 0#32
  let c0_355 : Index := 0#32
  ![0, v377.toNat, 4, 0, 0]
def k0_mult31 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_361 : BitVec 32 := 512#32
  let v387 : BitVec 32 := Scalar.muli v288 c512_i32_361
  v387
def k0_off61 (i : grid0.Coords) (k0_t2 : Fin (k0_t2_loop i).trips) : Fin 4 → Nat :=
  let c0_362 : Index := 0#32
  let c6_363 : Index := 6#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_361 : BitVec 32 := 512#32
  let v387 : BitVec 32 := Scalar.muli v288 c512_i32_361
  let v388 : BitVec 32 := v387
  let v389 : Index := Scalar.indexCast v388
  let c0_364 : Index := 0#32
  ![0, 6, v389.toNat, 0]
def k0_off62 (i : grid0.Coords) (k0_t2 : Fin (k0_t2_loop i).trips) : Fin 5 → Nat :=
  let c0_370 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v395 : Index := Scalar.indexCast v288
  let c5_371 : Index := 5#32
  let c0_372 : Index := 0#32
  let c0_373 : Index := 0#32
  ![0, v395.toNat, 5, 0, 0]
def k0_mult32 (i : grid0.Coords) (k0_t2 : Fin (k0_t2_loop i).trips) : BitVec 32 :=
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_379 : BitVec 32 := 512#32
  let v405 : BitVec 32 := Scalar.muli v288 c512_i32_379
  v405
def k0_off63 (i : grid0.Coords) (k0_t2 : Fin (k0_t2_loop i).trips) : Fin 4 → Nat :=
  let c0_380 : Index := 0#32
  let c7_381 : Index := 7#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let c512_i32_379 : BitVec 32 := 512#32
  let v405 : BitVec 32 := Scalar.muli v288 c512_i32_379
  let v406 : BitVec 32 := v405
  let v407 : Index := Scalar.indexCast v406
  let c0_382 : Index := 0#32
  ![0, 7, v407.toNat, 0]
def k0_off64 (i : grid0.Coords) (k0_t2 : Fin (k0_t2_loop i).trips) : Fin 5 → Nat :=
  let c0_388 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v413 : Index := Scalar.indexCast v288
  let c6_389 : Index := 6#32
  let c0_390 : Index := 0#32
  let c0_391 : Index := 0#32
  ![0, v413.toNat, 6, 0, 0]
def k0_mult33 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_397 : BitVec 32 := 512#32
  let v423 : BitVec 32 := Scalar.muli v290 c512_i32_397
  v423
def k0_off65 (i : grid0.Coords) (k0_t2 : Fin (k0_t2_loop i).trips) : Fin 4 → Nat :=
  let c0_398 : Index := 0#32
  let c0_399 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_397 : BitVec 32 := 512#32
  let v423 : BitVec 32 := Scalar.muli v290 c512_i32_397
  let v424 : BitVec 32 := v423
  let v425 : Index := Scalar.indexCast v424
  let c0_400 : Index := 0#32
  ![0, 0, v425.toNat, 0]
def k0_off66 (i : grid0.Coords) (k0_t2 : Fin (k0_t2_loop i).trips) : Fin 5 → Nat :=
  let c0_406 : Index := 0#32
  let c2_i32_263 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v288 : BitVec 32 := Scalar.muli c2_i32_263 arg16
  let v431 : Index := Scalar.indexCast v288
  let c7_407 : Index := 7#32
  let c0_408 : Index := 0#32
  let c0_409 : Index := 0#32
  ![0, v431.toNat, 7, 0, 0]
def k0_mult34 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_415 : BitVec 32 := 512#32
  let v441 : BitVec 32 := Scalar.muli v290 c512_i32_415
  v441
def k0_off67 (i : grid0.Coords) (k0_t2 : Fin (k0_t2_loop i).trips) : Fin 4 → Nat :=
  let c0_416 : Index := 0#32
  let c1_417 : Index := 1#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_415 : BitVec 32 := 512#32
  let v441 : BitVec 32 := Scalar.muli v290 c512_i32_415
  let v442 : BitVec 32 := v441
  let v443 : Index := Scalar.indexCast v442
  let c0_418 : Index := 0#32
  ![0, 1, v443.toNat, 0]
def k0_off68 (i : grid0.Coords) (k0_t2 : Fin (k0_t2_loop i).trips) : Fin 5 → Nat :=
  let c0_424 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v449 : Index := Scalar.indexCast v290
  let c0_425 : Index := 0#32
  let c0_426 : Index := 0#32
  let c0_427 : Index := 0#32
  ![0, v449.toNat, 0, 0, 0]
def k0_mult35 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_433 : BitVec 32 := 512#32
  let v459 : BitVec 32 := Scalar.muli v290 c512_i32_433
  v459
def k0_off69 (i : grid0.Coords) (k0_t2 : Fin (k0_t2_loop i).trips) : Fin 4 → Nat :=
  let c0_434 : Index := 0#32
  let c2_435 : Index := 2#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_433 : BitVec 32 := 512#32
  let v459 : BitVec 32 := Scalar.muli v290 c512_i32_433
  let v460 : BitVec 32 := v459
  let v461 : Index := Scalar.indexCast v460
  let c0_436 : Index := 0#32
  ![0, 2, v461.toNat, 0]
def k0_off70 (i : grid0.Coords) (k0_t2 : Fin (k0_t2_loop i).trips) : Fin 5 → Nat :=
  let c0_442 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v467 : Index := Scalar.indexCast v290
  let c1_443 : Index := 1#32
  let c0_444 : Index := 0#32
  let c0_445 : Index := 0#32
  ![0, v467.toNat, 1, 0, 0]
def k0_mult36 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_451 : BitVec 32 := 512#32
  let v477 : BitVec 32 := Scalar.muli v290 c512_i32_451
  v477
def k0_off71 (i : grid0.Coords) (k0_t2 : Fin (k0_t2_loop i).trips) : Fin 4 → Nat :=
  let c0_452 : Index := 0#32
  let c3_453 : Index := 3#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_451 : BitVec 32 := 512#32
  let v477 : BitVec 32 := Scalar.muli v290 c512_i32_451
  let v478 : BitVec 32 := v477
  let v479 : Index := Scalar.indexCast v478
  let c0_454 : Index := 0#32
  ![0, 3, v479.toNat, 0]
def k0_off72 (i : grid0.Coords) (k0_t2 : Fin (k0_t2_loop i).trips) : Fin 5 → Nat :=
  let c0_460 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v485 : Index := Scalar.indexCast v290
  let c2_461 : Index := 2#32
  let c0_462 : Index := 0#32
  let c0_463 : Index := 0#32
  ![0, v485.toNat, 2, 0, 0]
def k0_mult37 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_469 : BitVec 32 := 512#32
  let v495 : BitVec 32 := Scalar.muli v290 c512_i32_469
  v495
def k0_off73 (i : grid0.Coords) (k0_t2 : Fin (k0_t2_loop i).trips) : Fin 4 → Nat :=
  let c0_470 : Index := 0#32
  let c4_471 : Index := 4#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_469 : BitVec 32 := 512#32
  let v495 : BitVec 32 := Scalar.muli v290 c512_i32_469
  let v496 : BitVec 32 := v495
  let v497 : Index := Scalar.indexCast v496
  let c0_472 : Index := 0#32
  ![0, 4, v497.toNat, 0]
def k0_off74 (i : grid0.Coords) (k0_t2 : Fin (k0_t2_loop i).trips) : Fin 5 → Nat :=
  let c0_478 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v503 : Index := Scalar.indexCast v290
  let c3_479 : Index := 3#32
  let c0_480 : Index := 0#32
  let c0_481 : Index := 0#32
  ![0, v503.toNat, 3, 0, 0]
def k0_mult38 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_487 : BitVec 32 := 512#32
  let v513 : BitVec 32 := Scalar.muli v290 c512_i32_487
  v513
def k0_off75 (i : grid0.Coords) (k0_t2 : Fin (k0_t2_loop i).trips) : Fin 4 → Nat :=
  let c0_488 : Index := 0#32
  let c5_489 : Index := 5#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_487 : BitVec 32 := 512#32
  let v513 : BitVec 32 := Scalar.muli v290 c512_i32_487
  let v514 : BitVec 32 := v513
  let v515 : Index := Scalar.indexCast v514
  let c0_490 : Index := 0#32
  ![0, 5, v515.toNat, 0]
def k0_off76 (i : grid0.Coords) (k0_t2 : Fin (k0_t2_loop i).trips) : Fin 5 → Nat :=
  let c0_496 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v521 : Index := Scalar.indexCast v290
  let c4_497 : Index := 4#32
  let c0_498 : Index := 0#32
  let c0_499 : Index := 0#32
  ![0, v521.toNat, 4, 0, 0]
def k0_mult39 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_505 : BitVec 32 := 512#32
  let v531 : BitVec 32 := Scalar.muli v290 c512_i32_505
  v531
def k0_off77 (i : grid0.Coords) (k0_t2 : Fin (k0_t2_loop i).trips) : Fin 4 → Nat :=
  let c0_506 : Index := 0#32
  let c6_507 : Index := 6#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_505 : BitVec 32 := 512#32
  let v531 : BitVec 32 := Scalar.muli v290 c512_i32_505
  let v532 : BitVec 32 := v531
  let v533 : Index := Scalar.indexCast v532
  let c0_508 : Index := 0#32
  ![0, 6, v533.toNat, 0]
def k0_off78 (i : grid0.Coords) (k0_t2 : Fin (k0_t2_loop i).trips) : Fin 5 → Nat :=
  let c0_514 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v539 : Index := Scalar.indexCast v290
  let c5_515 : Index := 5#32
  let c0_516 : Index := 0#32
  let c0_517 : Index := 0#32
  ![0, v539.toNat, 5, 0, 0]
def k0_mult40 (i : grid0.Coords) (k0_t2 : Fin (k0_t2_loop i).trips) : BitVec 32 :=
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_523 : BitVec 32 := 512#32
  let v549 : BitVec 32 := Scalar.muli v290 c512_i32_523
  v549
def k0_off79 (i : grid0.Coords) (k0_t2 : Fin (k0_t2_loop i).trips) : Fin 4 → Nat :=
  let c0_524 : Index := 0#32
  let c7_525 : Index := 7#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let c512_i32_523 : BitVec 32 := 512#32
  let v549 : BitVec 32 := Scalar.muli v290 c512_i32_523
  let v550 : BitVec 32 := v549
  let v551 : Index := Scalar.indexCast v550
  let c0_526 : Index := 0#32
  ![0, 7, v551.toNat, 0]
def k0_off80 (i : grid0.Coords) (k0_t2 : Fin (k0_t2_loop i).trips) : Fin 5 → Nat :=
  let c0_532 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v557 : Index := Scalar.indexCast v290
  let c6_533 : Index := 6#32
  let c0_534 : Index := 0#32
  let c0_535 : Index := 0#32
  ![0, v557.toNat, 6, 0, 0]
def k0_off81 (i : grid0.Coords) (k0_t2 : Fin (k0_t2_loop i).trips) : Fin 5 → Nat :=
  let c0_545 : Index := 0#32
  let c2_i32_264 : BitVec 32 := 2#32
  let c0_i32_251 : BitVec 32 := 0#32
  let arg2 : BitVec 32 := BitVec.ofNat 32 (i 2).val
  let c0_i32_244 : BitVec 32 := 0#32
  let v254 : BitVec 1 := Scalar.cmpi .sgt arg2 c0_i32_244
  let v255 : BitVec 32 := Scalar.extui v254
  let c0_i32_245 : BitVec 32 := 0#32
  let v256 : BitVec 1 := Scalar.cmpi .slt arg2 c0_i32_245
  let v257 : BitVec 32 := Scalar.extui v256
  let v258 : BitVec 32 := Scalar.subi v255 v257
  let c2_i32 : BitVec 32 := 2#32
  let c0_i32_246 : BitVec 32 := 0#32
  let v259 : BitVec 1 := Scalar.cmpi .sgt c2_i32 c0_i32_246
  let v260 : BitVec 32 := Scalar.extui v259
  let c0_i32_247 : BitVec 32 := 0#32
  let v261 : BitVec 1 := Scalar.cmpi .slt c2_i32 c0_i32_247
  let v262 : BitVec 32 := Scalar.extui v261
  let v263 : BitVec 32 := Scalar.subi v260 v262
  let v264 : BitVec 1 := Scalar.cmpi .ne v258 v263
  let v265 : BitVec 32 := Scalar.remsi arg2 c2_i32
  let c0_i32_248 : BitVec 32 := 0#32
  let v266 : BitVec 1 := Scalar.cmpi .ne v265 c0_i32_248
  let v267 : BitVec 1 := Scalar.andi v264 v266
  let v253 : BitVec 32 := Scalar.divsi arg2 c2_i32
  let c1_i32_249 : BitVec 32 := 1#32
  let v268 : BitVec 32 := Scalar.subi v253 c1_i32_249
  let v269 : BitVec 32 := Scalar.select v267 v268 v253
  let v270 : BitVec 32 := Scalar.subi v269 c0_i32_251
  let c1_i32_252 : BitVec 32 := 1#32
  let v272 : BitVec 32 := Scalar.divsi v270 c1_i32_252
  let v273 : BitVec 32 := Scalar.muli v272 c1_i32_252
  let v274 : BitVec 32 := Scalar.addi c0_i32_251 v273
  let c1_i32_254 : BitVec 32 := 1#32
  let arg16 : BitVec 32 := Scf.iv v274 c1_i32_254 k0_t2
  let v289 : BitVec 32 := Scalar.muli c2_i32_264 arg16
  let c1_i32_265 : BitVec 32 := 1#32
  let v290 : BitVec 32 := Scalar.addi v289 c1_i32_265
  let v569 : Index := Scalar.indexCast v290
  let c7_546 : Index := 7#32
  let c0_547 : Index := 0#32
  let c0_548 : Index := 0#32
  ![0, v569.toNat, 7, 0, 0]
def k0_cond2 (i : grid0.Coords) : BitVec 1 :=
  let arg2 : BitVec 32 := BitVec.ofNat 32 (i 2).val
  let c2_i32_255 : BitVec 32 := 2#32
  let c0_i32_256 : BitVec 32 := 0#32
  let v275 : BitVec 1 := Scalar.cmpi .eq c2_i32_255 c0_i32_256
  let c1_i32_257 : BitVec 32 := 1#32
  let v276 : BitVec 32 := Scalar.select v275 c1_i32_257 c2_i32_255
  let v277 : BitVec 32 := Scalar.remsi arg2 v276
  let c0_i32_259 : BitVec 32 := 0#32
  let v279 : BitVec 1 := Scalar.cmpi .slt v277 c0_i32_259
  let c0_i32_260 : BitVec 32 := 0#32
  let v280 : BitVec 1 := Scalar.cmpi .slt v276 c0_i32_260
  let v281 : BitVec 1 := Scalar.xori v279 v280
  let c0_i32_258 : BitVec 32 := 0#32
  let v278 : BitVec 1 := Scalar.cmpi .ne v277 c0_i32_258
  let v282 : BitVec 1 := Scalar.andi v281 v278
  let v283 : BitVec 32 := Scalar.addi v277 v276
  let v284 : BitVec 32 := Scalar.select v282 v283 v277
  let c1_i32_261 : BitVec 32 := 1#32
  let v285 : BitVec 1 := Scalar.cmpi .eq v284 c1_i32_261
  let v286 : BitVec 32 := Scalar.extui v285
  let c0_i32_262 : BitVec 32 := 0#32
  let v287 : BitVec 1 := Scalar.cmpi .ne v286 c0_i32_262
  v287

def k0_mult41 (i : grid0.Coords) : BitVec 32 :=
  let arg2 : BitVec 32 := BitVec.ofNat 32 (i 2).val
  let c1_i32_263 : BitVec 32 := 1#32
  let v288 : BitVec 32 := Scalar.subi arg2 c1_i32_263
  let c512_i32_264 : BitVec 32 := 512#32
  let v289 : BitVec 32 := Scalar.muli v288 c512_i32_264
  v289
def k0_off82 (i : grid0.Coords) : Fin 4 → Nat :=
  let c0_265 : Index := 0#32
  let c0_266 : Index := 0#32
  let arg2 : BitVec 32 := BitVec.ofNat 32 (i 2).val
  let c1_i32_263 : BitVec 32 := 1#32
  let v288 : BitVec 32 := Scalar.subi arg2 c1_i32_263
  let c512_i32_264 : BitVec 32 := 512#32
  let v289 : BitVec 32 := Scalar.muli v288 c512_i32_264
  let v290 : BitVec 32 := v289
  let v291 : Index := Scalar.indexCast v290
  let c0_267 : Index := 0#32
  ![0, 0, v291.toNat, 0]
def k0_mult42 (i : grid0.Coords) : BitVec 32 :=
  let arg2 : BitVec 32 := BitVec.ofNat 32 (i 2).val
  let c1_i32_263 : BitVec 32 := 1#32
  let v288 : BitVec 32 := Scalar.subi arg2 c1_i32_263
  let c512_i32_269 : BitVec 32 := 512#32
  let v295 : BitVec 32 := Scalar.muli v288 c512_i32_269
  v295
def k0_off83 (i : grid0.Coords) : Fin 4 → Nat :=
  let c0_270 : Index := 0#32
  let c1_271 : Index := 1#32
  let arg2 : BitVec 32 := BitVec.ofNat 32 (i 2).val
  let c1_i32_263 : BitVec 32 := 1#32
  let v288 : BitVec 32 := Scalar.subi arg2 c1_i32_263
  let c512_i32_269 : BitVec 32 := 512#32
  let v295 : BitVec 32 := Scalar.muli v288 c512_i32_269
  let v296 : BitVec 32 := v295
  let v297 : Index := Scalar.indexCast v296
  let c0_272 : Index := 0#32
  ![0, 1, v297.toNat, 0]
def k0_off84 (i : grid0.Coords) : Fin 5 → Nat :=
  let c0_278 : Index := 0#32
  let arg2 : BitVec 32 := BitVec.ofNat 32 (i 2).val
  let c1_i32_263 : BitVec 32 := 1#32
  let v288 : BitVec 32 := Scalar.subi arg2 c1_i32_263
  let v303 : Index := Scalar.indexCast v288
  let c0_279 : Index := 0#32
  let c0_280 : Index := 0#32
  let c0_281 : Index := 0#32
  ![0, v303.toNat, 0, 0, 0]
def k0_mult43 (i : grid0.Coords) : BitVec 32 :=
  let arg2 : BitVec 32 := BitVec.ofNat 32 (i 2).val
  let c1_i32_263 : BitVec 32 := 1#32
  let v288 : BitVec 32 := Scalar.subi arg2 c1_i32_263
  let c512_i32_287 : BitVec 32 := 512#32
  let v313 : BitVec 32 := Scalar.muli v288 c512_i32_287
  v313
def k0_off85 (i : grid0.Coords) : Fin 4 → Nat :=
  let c0_288 : Index := 0#32
  let c2_289 : Index := 2#32
  let arg2 : BitVec 32 := BitVec.ofNat 32 (i 2).val
  let c1_i32_263 : BitVec 32 := 1#32
  let v288 : BitVec 32 := Scalar.subi arg2 c1_i32_263
  let c512_i32_287 : BitVec 32 := 512#32
  let v313 : BitVec 32 := Scalar.muli v288 c512_i32_287
  let v314 : BitVec 32 := v313
  let v315 : Index := Scalar.indexCast v314
  let c0_290 : Index := 0#32
  ![0, 2, v315.toNat, 0]
def k0_off86 (i : grid0.Coords) : Fin 5 → Nat :=
  let c0_296 : Index := 0#32
  let arg2 : BitVec 32 := BitVec.ofNat 32 (i 2).val
  let c1_i32_263 : BitVec 32 := 1#32
  let v288 : BitVec 32 := Scalar.subi arg2 c1_i32_263
  let v321 : Index := Scalar.indexCast v288
  let c1_297 : Index := 1#32
  let c0_298 : Index := 0#32
  let c0_299 : Index := 0#32
  ![0, v321.toNat, 1, 0, 0]
def k0_mult44 (i : grid0.Coords) : BitVec 32 :=
  let arg2 : BitVec 32 := BitVec.ofNat 32 (i 2).val
  let c1_i32_263 : BitVec 32 := 1#32
  let v288 : BitVec 32 := Scalar.subi arg2 c1_i32_263
  let c512_i32_305 : BitVec 32 := 512#32
  let v331 : BitVec 32 := Scalar.muli v288 c512_i32_305
  v331
def k0_off87 (i : grid0.Coords) : Fin 4 → Nat :=
  let c0_306 : Index := 0#32
  let c3_307 : Index := 3#32
  let arg2 : BitVec 32 := BitVec.ofNat 32 (i 2).val
  let c1_i32_263 : BitVec 32 := 1#32
  let v288 : BitVec 32 := Scalar.subi arg2 c1_i32_263
  let c512_i32_305 : BitVec 32 := 512#32
  let v331 : BitVec 32 := Scalar.muli v288 c512_i32_305
  let v332 : BitVec 32 := v331
  let v333 : Index := Scalar.indexCast v332
  let c0_308 : Index := 0#32
  ![0, 3, v333.toNat, 0]
def k0_off88 (i : grid0.Coords) : Fin 5 → Nat :=
  let c0_314 : Index := 0#32
  let arg2 : BitVec 32 := BitVec.ofNat 32 (i 2).val
  let c1_i32_263 : BitVec 32 := 1#32
  let v288 : BitVec 32 := Scalar.subi arg2 c1_i32_263
  let v339 : Index := Scalar.indexCast v288
  let c2_315 : Index := 2#32
  let c0_316 : Index := 0#32
  let c0_317 : Index := 0#32
  ![0, v339.toNat, 2, 0, 0]
def k0_mult45 (i : grid0.Coords) : BitVec 32 :=
  let arg2 : BitVec 32 := BitVec.ofNat 32 (i 2).val
  let c1_i32_263 : BitVec 32 := 1#32
  let v288 : BitVec 32 := Scalar.subi arg2 c1_i32_263
  let c512_i32_323 : BitVec 32 := 512#32
  let v349 : BitVec 32 := Scalar.muli v288 c512_i32_323
  v349
def k0_off89 (i : grid0.Coords) : Fin 4 → Nat :=
  let c0_324 : Index := 0#32
  let c4_325 : Index := 4#32
  let arg2 : BitVec 32 := BitVec.ofNat 32 (i 2).val
  let c1_i32_263 : BitVec 32 := 1#32
  let v288 : BitVec 32 := Scalar.subi arg2 c1_i32_263
  let c512_i32_323 : BitVec 32 := 512#32
  let v349 : BitVec 32 := Scalar.muli v288 c512_i32_323
  let v350 : BitVec 32 := v349
  let v351 : Index := Scalar.indexCast v350
  let c0_326 : Index := 0#32
  ![0, 4, v351.toNat, 0]
def k0_off90 (i : grid0.Coords) : Fin 5 → Nat :=
  let c0_332 : Index := 0#32
  let arg2 : BitVec 32 := BitVec.ofNat 32 (i 2).val
  let c1_i32_263 : BitVec 32 := 1#32
  let v288 : BitVec 32 := Scalar.subi arg2 c1_i32_263
  let v357 : Index := Scalar.indexCast v288
  let c3_333 : Index := 3#32
  let c0_334 : Index := 0#32
  let c0_335 : Index := 0#32
  ![0, v357.toNat, 3, 0, 0]
def k0_mult46 (i : grid0.Coords) : BitVec 32 :=
  let arg2 : BitVec 32 := BitVec.ofNat 32 (i 2).val
  let c1_i32_263 : BitVec 32 := 1#32
  let v288 : BitVec 32 := Scalar.subi arg2 c1_i32_263
  let c512_i32_341 : BitVec 32 := 512#32
  let v367 : BitVec 32 := Scalar.muli v288 c512_i32_341
  v367
def k0_off91 (i : grid0.Coords) : Fin 4 → Nat :=
  let c0_342 : Index := 0#32
  let c5_343 : Index := 5#32
  let arg2 : BitVec 32 := BitVec.ofNat 32 (i 2).val
  let c1_i32_263 : BitVec 32 := 1#32
  let v288 : BitVec 32 := Scalar.subi arg2 c1_i32_263
  let c512_i32_341 : BitVec 32 := 512#32
  let v367 : BitVec 32 := Scalar.muli v288 c512_i32_341
  let v368 : BitVec 32 := v367
  let v369 : Index := Scalar.indexCast v368
  let c0_344 : Index := 0#32
  ![0, 5, v369.toNat, 0]
def k0_off92 (i : grid0.Coords) : Fin 5 → Nat :=
  let c0_350 : Index := 0#32
  let arg2 : BitVec 32 := BitVec.ofNat 32 (i 2).val
  let c1_i32_263 : BitVec 32 := 1#32
  let v288 : BitVec 32 := Scalar.subi arg2 c1_i32_263
  let v375 : Index := Scalar.indexCast v288
  let c4_351 : Index := 4#32
  let c0_352 : Index := 0#32
  let c0_353 : Index := 0#32
  ![0, v375.toNat, 4, 0, 0]
def k0_mult47 (i : grid0.Coords) : BitVec 32 :=
  let arg2 : BitVec 32 := BitVec.ofNat 32 (i 2).val
  let c1_i32_263 : BitVec 32 := 1#32
  let v288 : BitVec 32 := Scalar.subi arg2 c1_i32_263
  let c512_i32_359 : BitVec 32 := 512#32
  let v385 : BitVec 32 := Scalar.muli v288 c512_i32_359
  v385
def k0_off93 (i : grid0.Coords) : Fin 4 → Nat :=
  let c0_360 : Index := 0#32
  let c6_361 : Index := 6#32
  let arg2 : BitVec 32 := BitVec.ofNat 32 (i 2).val
  let c1_i32_263 : BitVec 32 := 1#32
  let v288 : BitVec 32 := Scalar.subi arg2 c1_i32_263
  let c512_i32_359 : BitVec 32 := 512#32
  let v385 : BitVec 32 := Scalar.muli v288 c512_i32_359
  let v386 : BitVec 32 := v385
  let v387 : Index := Scalar.indexCast v386
  let c0_362 : Index := 0#32
  ![0, 6, v387.toNat, 0]
def k0_off94 (i : grid0.Coords) : Fin 5 → Nat :=
  let c0_368 : Index := 0#32
  let arg2 : BitVec 32 := BitVec.ofNat 32 (i 2).val
  let c1_i32_263 : BitVec 32 := 1#32
  let v288 : BitVec 32 := Scalar.subi arg2 c1_i32_263
  let v393 : Index := Scalar.indexCast v288
  let c5_369 : Index := 5#32
  let c0_370 : Index := 0#32
  let c0_371 : Index := 0#32
  ![0, v393.toNat, 5, 0, 0]
def k0_mult48 (i : grid0.Coords) : BitVec 32 :=
  let arg2 : BitVec 32 := BitVec.ofNat 32 (i 2).val
  let c1_i32_263 : BitVec 32 := 1#32
  let v288 : BitVec 32 := Scalar.subi arg2 c1_i32_263
  let c512_i32_377 : BitVec 32 := 512#32
  let v403 : BitVec 32 := Scalar.muli v288 c512_i32_377
  v403
def k0_off95 (i : grid0.Coords) : Fin 4 → Nat :=
  let c0_378 : Index := 0#32
  let c7_379 : Index := 7#32
  let arg2 : BitVec 32 := BitVec.ofNat 32 (i 2).val
  let c1_i32_263 : BitVec 32 := 1#32
  let v288 : BitVec 32 := Scalar.subi arg2 c1_i32_263
  let c512_i32_377 : BitVec 32 := 512#32
  let v403 : BitVec 32 := Scalar.muli v288 c512_i32_377
  let v404 : BitVec 32 := v403
  let v405 : Index := Scalar.indexCast v404
  let c0_380 : Index := 0#32
  ![0, 7, v405.toNat, 0]
def k0_off96 (i : grid0.Coords) : Fin 5 → Nat :=
  let c0_386 : Index := 0#32
  let arg2 : BitVec 32 := BitVec.ofNat 32 (i 2).val
  let c1_i32_263 : BitVec 32 := 1#32
  let v288 : BitVec 32 := Scalar.subi arg2 c1_i32_263
  let v411 : Index := Scalar.indexCast v288
  let c6_387 : Index := 6#32
  let c0_388 : Index := 0#32
  let c0_389 : Index := 0#32
  ![0, v411.toNat, 6, 0, 0]
def k0_off97 (i : grid0.Coords) : Fin 5 → Nat :=
  let c0_399 : Index := 0#32
  let arg2 : BitVec 32 := BitVec.ofNat 32 (i 2).val
  let c1_i32_263 : BitVec 32 := 1#32
  let v288 : BitVec 32 := Scalar.subi arg2 c1_i32_263
  let v423 : Index := Scalar.indexCast v288
  let c7_400 : Index := 7#32
  let c0_401 : Index := 0#32
  let c0_402 : Index := 0#32
  ![0, v423.toNat, 7, 0, 0]
@[reducible] def k0_t3_loop (i : grid0.Coords) : Scf.Loop 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_175 : BitVec 32 := 1#32
  ⟨c0_i32_173, v161, c1_i32_175⟩
def k0_mult49 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_336 : BitVec 32 := 512#32
  let v420 : BitVec 32 := Scalar.muli arg16 c512_i32_336
  v420
def k0_off98 (i : grid0.Coords) (k0_t3 : Fin (k0_t3_loop i).trips) : Fin 4 → Nat :=
  let c0_337 : Index := 0#32
  let c0_338 : Index := 0#32
  let c0_i32_173 : BitVec 32 := 0#32
  let c1_i32_175 : BitVec 32 := 1#32
  let arg16 : BitVec 32 := Scf.iv c0_i32_173 c1_i32_175 k0_t3
  let c512_i32_336 : BitVec 32 := 512#32
  let v420 : BitVec 32 := Scalar.muli arg16 c512_i32_336
  let v421 : BitVec 32 := v420
  let v422 : Index := Scalar.indexCast v421
  let c0_339 : Index := 0#32
  ![0, 0, v422.toNat, 0]
def k0_mult50 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_341 : BitVec 32 := 512#32
  let v426 : BitVec 32 := Scalar.muli arg16 c512_i32_341
  v426
def k0_off99 (i : grid0.Coords) (k0_t3 : Fin (k0_t3_loop i).trips) : Fin 4 → Nat :=
  let c0_342 : Index := 0#32
  let c1_343 : Index := 1#32
  let c0_i32_173 : BitVec 32 := 0#32
  let c1_i32_175 : BitVec 32 := 1#32
  let arg16 : BitVec 32 := Scf.iv c0_i32_173 c1_i32_175 k0_t3
  let c512_i32_341 : BitVec 32 := 512#32
  let v426 : BitVec 32 := Scalar.muli arg16 c512_i32_341
  let v427 : BitVec 32 := v426
  let v428 : Index := Scalar.indexCast v427
  let c0_344 : Index := 0#32
  ![0, 1, v428.toNat, 0]
def k0_mult51 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_346 : BitVec 32 := 512#32
  let v432 : BitVec 32 := Scalar.muli arg16 c512_i32_346
  v432
def k0_off100 (i : grid0.Coords) (k0_t3 : Fin (k0_t3_loop i).trips) : Fin 4 → Nat :=
  let c0_347 : Index := 0#32
  let c2_348 : Index := 2#32
  let c0_i32_173 : BitVec 32 := 0#32
  let c1_i32_175 : BitVec 32 := 1#32
  let arg16 : BitVec 32 := Scf.iv c0_i32_173 c1_i32_175 k0_t3
  let c512_i32_346 : BitVec 32 := 512#32
  let v432 : BitVec 32 := Scalar.muli arg16 c512_i32_346
  let v433 : BitVec 32 := v432
  let v434 : Index := Scalar.indexCast v433
  let c0_349 : Index := 0#32
  ![0, 2, v434.toNat, 0]
def k0_mult52 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_351 : BitVec 32 := 512#32
  let v438 : BitVec 32 := Scalar.muli arg16 c512_i32_351
  v438
def k0_off101 (i : grid0.Coords) (k0_t3 : Fin (k0_t3_loop i).trips) : Fin 4 → Nat :=
  let c0_352 : Index := 0#32
  let c3_353 : Index := 3#32
  let c0_i32_173 : BitVec 32 := 0#32
  let c1_i32_175 : BitVec 32 := 1#32
  let arg16 : BitVec 32 := Scf.iv c0_i32_173 c1_i32_175 k0_t3
  let c512_i32_351 : BitVec 32 := 512#32
  let v438 : BitVec 32 := Scalar.muli arg16 c512_i32_351
  let v439 : BitVec 32 := v438
  let v440 : Index := Scalar.indexCast v439
  let c0_354 : Index := 0#32
  ![0, 3, v440.toNat, 0]
def k0_mult53 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_356 : BitVec 32 := 512#32
  let v444 : BitVec 32 := Scalar.muli arg16 c512_i32_356
  v444
def k0_off102 (i : grid0.Coords) (k0_t3 : Fin (k0_t3_loop i).trips) : Fin 4 → Nat :=
  let c0_357 : Index := 0#32
  let c4_358 : Index := 4#32
  let c0_i32_173 : BitVec 32 := 0#32
  let c1_i32_175 : BitVec 32 := 1#32
  let arg16 : BitVec 32 := Scf.iv c0_i32_173 c1_i32_175 k0_t3
  let c512_i32_356 : BitVec 32 := 512#32
  let v444 : BitVec 32 := Scalar.muli arg16 c512_i32_356
  let v445 : BitVec 32 := v444
  let v446 : Index := Scalar.indexCast v445
  let c0_359 : Index := 0#32
  ![0, 4, v446.toNat, 0]
def k0_mult54 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_361 : BitVec 32 := 512#32
  let v450 : BitVec 32 := Scalar.muli arg16 c512_i32_361
  v450
def k0_off103 (i : grid0.Coords) (k0_t3 : Fin (k0_t3_loop i).trips) : Fin 4 → Nat :=
  let c0_362 : Index := 0#32
  let c5_363 : Index := 5#32
  let c0_i32_173 : BitVec 32 := 0#32
  let c1_i32_175 : BitVec 32 := 1#32
  let arg16 : BitVec 32 := Scf.iv c0_i32_173 c1_i32_175 k0_t3
  let c512_i32_361 : BitVec 32 := 512#32
  let v450 : BitVec 32 := Scalar.muli arg16 c512_i32_361
  let v451 : BitVec 32 := v450
  let v452 : Index := Scalar.indexCast v451
  let c0_364 : Index := 0#32
  ![0, 5, v452.toNat, 0]
def k0_mult55 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_366 : BitVec 32 := 512#32
  let v456 : BitVec 32 := Scalar.muli arg16 c512_i32_366
  v456
def k0_off104 (i : grid0.Coords) (k0_t3 : Fin (k0_t3_loop i).trips) : Fin 4 → Nat :=
  let c0_367 : Index := 0#32
  let c6_368 : Index := 6#32
  let c0_i32_173 : BitVec 32 := 0#32
  let c1_i32_175 : BitVec 32 := 1#32
  let arg16 : BitVec 32 := Scf.iv c0_i32_173 c1_i32_175 k0_t3
  let c512_i32_366 : BitVec 32 := 512#32
  let v456 : BitVec 32 := Scalar.muli arg16 c512_i32_366
  let v457 : BitVec 32 := v456
  let v458 : Index := Scalar.indexCast v457
  let c0_369 : Index := 0#32
  ![0, 6, v458.toNat, 0]
def k0_mult56 (i : grid0.Coords) (k0_t3 : Fin (k0_t3_loop i).trips) : BitVec 32 :=
  let c0_i32_173 : BitVec 32 := 0#32
  let c1_i32_175 : BitVec 32 := 1#32
  let arg16 : BitVec 32 := Scf.iv c0_i32_173 c1_i32_175 k0_t3
  let c512_i32_371 : BitVec 32 := 512#32
  let v462 : BitVec 32 := Scalar.muli arg16 c512_i32_371
  v462
def k0_off105 (i : grid0.Coords) (k0_t3 : Fin (k0_t3_loop i).trips) : Fin 4 → Nat :=
  let c0_372 : Index := 0#32
  let c7_373 : Index := 7#32
  let c0_i32_173 : BitVec 32 := 0#32
  let c1_i32_175 : BitVec 32 := 1#32
  let arg16 : BitVec 32 := Scf.iv c0_i32_173 c1_i32_175 k0_t3
  let c512_i32_371 : BitVec 32 := 512#32
  let v462 : BitVec 32 := Scalar.muli arg16 c512_i32_371
  let v463 : BitVec 32 := v462
  let v464 : Index := Scalar.indexCast v463
  let c0_374 : Index := 0#32
  ![0, 7, v464.toNat, 0]
def k0_off106 (i : grid0.Coords) (k0_t3 : Fin (k0_t3_loop i).trips) : Fin 5 → Nat :=
  let c0_381 : Index := 0#32
  let c0_i32_173 : BitVec 32 := 0#32
  let c1_i32_175 : BitVec 32 := 1#32
  let arg16 : BitVec 32 := Scf.iv c0_i32_173 c1_i32_175 k0_t3
  let v481 : Index := Scalar.indexCast arg16
  let c0_382 : Index := 0#32
  let c0_383 : Index := 0#32
  let c0_384 : Index := 0#32
  ![0, v481.toNat, 0, 0, 0]
def k0_off107 (i : grid0.Coords) (k0_t3 : Fin (k0_t3_loop i).trips) : Fin 5 → Nat :=
  let c0_395 : Index := 0#32
  let c0_i32_173 : BitVec 32 := 0#32
  let c1_i32_175 : BitVec 32 := 1#32
  let arg16 : BitVec 32 := Scf.iv c0_i32_173 c1_i32_175 k0_t3
  let v502 : Index := Scalar.indexCast arg16
  let c1_396 : Index := 1#32
  let c0_397 : Index := 0#32
  let c0_398 : Index := 0#32
  ![0, v502.toNat, 1, 0, 0]
def k0_off108 (i : grid0.Coords) (k0_t3 : Fin (k0_t3_loop i).trips) : Fin 5 → Nat :=
  let c0_409 : Index := 0#32
  let c0_i32_173 : BitVec 32 := 0#32
  let c1_i32_175 : BitVec 32 := 1#32
  let arg16 : BitVec 32 := Scf.iv c0_i32_173 c1_i32_175 k0_t3
  let v523 : Index := Scalar.indexCast arg16
  let c2_410 : Index := 2#32
  let c0_411 : Index := 0#32
  let c0_412 : Index := 0#32
  ![0, v523.toNat, 2, 0, 0]
def k0_off109 (i : grid0.Coords) (k0_t3 : Fin (k0_t3_loop i).trips) : Fin 5 → Nat :=
  let c0_423 : Index := 0#32
  let c0_i32_173 : BitVec 32 := 0#32
  let c1_i32_175 : BitVec 32 := 1#32
  let arg16 : BitVec 32 := Scf.iv c0_i32_173 c1_i32_175 k0_t3
  let v544 : Index := Scalar.indexCast arg16
  let c3_424 : Index := 3#32
  let c0_425 : Index := 0#32
  let c0_426 : Index := 0#32
  ![0, v544.toNat, 3, 0, 0]
def k0_off110 (i : grid0.Coords) (k0_t3 : Fin (k0_t3_loop i).trips) : Fin 5 → Nat :=
  let c0_437 : Index := 0#32
  let c0_i32_173 : BitVec 32 := 0#32
  let c1_i32_175 : BitVec 32 := 1#32
  let arg16 : BitVec 32 := Scf.iv c0_i32_173 c1_i32_175 k0_t3
  let v565 : Index := Scalar.indexCast arg16
  let c4_438 : Index := 4#32
  let c0_439 : Index := 0#32
  let c0_440 : Index := 0#32
  ![0, v565.toNat, 4, 0, 0]
def k0_off111 (i : grid0.Coords) (k0_t3 : Fin (k0_t3_loop i).trips) : Fin 5 → Nat :=
  let c0_451 : Index := 0#32
  let c0_i32_173 : BitVec 32 := 0#32
  let c1_i32_175 : BitVec 32 := 1#32
  let arg16 : BitVec 32 := Scf.iv c0_i32_173 c1_i32_175 k0_t3
  let v586 : Index := Scalar.indexCast arg16
  let c5_452 : Index := 5#32
  let c0_453 : Index := 0#32
  let c0_454 : Index := 0#32
  ![0, v586.toNat, 5, 0, 0]
def k0_off112 (i : grid0.Coords) (k0_t3 : Fin (k0_t3_loop i).trips) : Fin 5 → Nat :=
  let c0_465 : Index := 0#32
  let c0_i32_173 : BitVec 32 := 0#32
  let c1_i32_175 : BitVec 32 := 1#32
  let arg16 : BitVec 32 := Scf.iv c0_i32_173 c1_i32_175 k0_t3
  let v607 : Index := Scalar.indexCast arg16
  let c6_466 : Index := 6#32
  let c0_467 : Index := 0#32
  let c0_468 : Index := 0#32
  ![0, v607.toNat, 6, 0, 0]
def k0_off113 (i : grid0.Coords) (k0_t3 : Fin (k0_t3_loop i).trips) : Fin 5 → Nat :=
  let c0_479 : Index := 0#32
  let c0_i32_173 : BitVec 32 := 0#32
  let c1_i32_175 : BitVec 32 := 1#32
  let arg16 : BitVec 32 := Scf.iv c0_i32_173 c1_i32_175 k0_t3
  let v628 : Index := Scalar.indexCast arg16
  let c7_480 : Index := 7#32
  let c0_481 : Index := 0#32
  let c0_482 : Index := 0#32
  ![0, v628.toNat, 7, 0, 0]
@[reducible] def k0_t4_loop (i : grid0.Coords) : Scf.Loop 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let v158 : BitVec 32 := Scalar.addi c0_i32_173 v157
  let c1_i32_176 : BitVec 32 := 1#32
  ⟨v161, v158, c1_i32_176⟩
def k0_mult57 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_336 : BitVec 32 := 512#32
  let v420 : BitVec 32 := Scalar.muli arg16 c512_i32_336
  v420
def k0_off114 (i : grid0.Coords) (k0_t4 : Fin (k0_t4_loop i).trips) : Fin 4 → Nat :=
  let c0_337 : Index := 0#32
  let c0_338 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_336 : BitVec 32 := 512#32
  let v420 : BitVec 32 := Scalar.muli arg16 c512_i32_336
  let v421 : BitVec 32 := v420
  let v422 : Index := Scalar.indexCast v421
  let c0_339 : Index := 0#32
  ![0, 0, v422.toNat, 0]
def k0_mult58 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_341 : BitVec 32 := 512#32
  let v426 : BitVec 32 := Scalar.muli arg16 c512_i32_341
  v426
def k0_off115 (i : grid0.Coords) (k0_t4 : Fin (k0_t4_loop i).trips) : Fin 4 → Nat :=
  let c0_342 : Index := 0#32
  let c1_343 : Index := 1#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_341 : BitVec 32 := 512#32
  let v426 : BitVec 32 := Scalar.muli arg16 c512_i32_341
  let v427 : BitVec 32 := v426
  let v428 : Index := Scalar.indexCast v427
  let c0_344 : Index := 0#32
  ![0, 1, v428.toNat, 0]
def k0_mult59 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_346 : BitVec 32 := 512#32
  let v432 : BitVec 32 := Scalar.muli arg16 c512_i32_346
  v432
def k0_off116 (i : grid0.Coords) (k0_t4 : Fin (k0_t4_loop i).trips) : Fin 4 → Nat :=
  let c0_347 : Index := 0#32
  let c2_348 : Index := 2#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_346 : BitVec 32 := 512#32
  let v432 : BitVec 32 := Scalar.muli arg16 c512_i32_346
  let v433 : BitVec 32 := v432
  let v434 : Index := Scalar.indexCast v433
  let c0_349 : Index := 0#32
  ![0, 2, v434.toNat, 0]
def k0_mult60 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_351 : BitVec 32 := 512#32
  let v438 : BitVec 32 := Scalar.muli arg16 c512_i32_351
  v438
def k0_off117 (i : grid0.Coords) (k0_t4 : Fin (k0_t4_loop i).trips) : Fin 4 → Nat :=
  let c0_352 : Index := 0#32
  let c3_353 : Index := 3#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_351 : BitVec 32 := 512#32
  let v438 : BitVec 32 := Scalar.muli arg16 c512_i32_351
  let v439 : BitVec 32 := v438
  let v440 : Index := Scalar.indexCast v439
  let c0_354 : Index := 0#32
  ![0, 3, v440.toNat, 0]
def k0_mult61 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_356 : BitVec 32 := 512#32
  let v444 : BitVec 32 := Scalar.muli arg16 c512_i32_356
  v444
def k0_off118 (i : grid0.Coords) (k0_t4 : Fin (k0_t4_loop i).trips) : Fin 4 → Nat :=
  let c0_357 : Index := 0#32
  let c4_358 : Index := 4#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_356 : BitVec 32 := 512#32
  let v444 : BitVec 32 := Scalar.muli arg16 c512_i32_356
  let v445 : BitVec 32 := v444
  let v446 : Index := Scalar.indexCast v445
  let c0_359 : Index := 0#32
  ![0, 4, v446.toNat, 0]
def k0_mult62 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_361 : BitVec 32 := 512#32
  let v450 : BitVec 32 := Scalar.muli arg16 c512_i32_361
  v450
def k0_off119 (i : grid0.Coords) (k0_t4 : Fin (k0_t4_loop i).trips) : Fin 4 → Nat :=
  let c0_362 : Index := 0#32
  let c5_363 : Index := 5#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_361 : BitVec 32 := 512#32
  let v450 : BitVec 32 := Scalar.muli arg16 c512_i32_361
  let v451 : BitVec 32 := v450
  let v452 : Index := Scalar.indexCast v451
  let c0_364 : Index := 0#32
  ![0, 5, v452.toNat, 0]
def k0_mult63 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_366 : BitVec 32 := 512#32
  let v456 : BitVec 32 := Scalar.muli arg16 c512_i32_366
  v456
def k0_off120 (i : grid0.Coords) (k0_t4 : Fin (k0_t4_loop i).trips) : Fin 4 → Nat :=
  let c0_367 : Index := 0#32
  let c6_368 : Index := 6#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_366 : BitVec 32 := 512#32
  let v456 : BitVec 32 := Scalar.muli arg16 c512_i32_366
  let v457 : BitVec 32 := v456
  let v458 : Index := Scalar.indexCast v457
  let c0_369 : Index := 0#32
  ![0, 6, v458.toNat, 0]
def k0_mult64 (i : grid0.Coords) (k0_t4 : Fin (k0_t4_loop i).trips) : BitVec 32 :=
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_371 : BitVec 32 := 512#32
  let v462 : BitVec 32 := Scalar.muli arg16 c512_i32_371
  v462
def k0_off121 (i : grid0.Coords) (k0_t4 : Fin (k0_t4_loop i).trips) : Fin 4 → Nat :=
  let c0_372 : Index := 0#32
  let c7_373 : Index := 7#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let c512_i32_371 : BitVec 32 := 512#32
  let v462 : BitVec 32 := Scalar.muli arg16 c512_i32_371
  let v463 : BitVec 32 := v462
  let v464 : Index := Scalar.indexCast v463
  let c0_374 : Index := 0#32
  ![0, 7, v464.toNat, 0]
def k0_off122 (i : grid0.Coords) (k0_t4 : Fin (k0_t4_loop i).trips) : Fin 5 → Nat :=
  let c0_381 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v481 : Index := Scalar.indexCast arg16
  let c0_382 : Index := 0#32
  let c0_383 : Index := 0#32
  let c0_384 : Index := 0#32
  ![0, v481.toNat, 0, 0, 0]
def k0_off123 (i : grid0.Coords) (k0_t4 : Fin (k0_t4_loop i).trips) : Fin 5 → Nat :=
  let c0_395 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v502 : Index := Scalar.indexCast arg16
  let c1_396 : Index := 1#32
  let c0_397 : Index := 0#32
  let c0_398 : Index := 0#32
  ![0, v502.toNat, 1, 0, 0]
def k0_off124 (i : grid0.Coords) (k0_t4 : Fin (k0_t4_loop i).trips) : Fin 5 → Nat :=
  let c0_409 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v523 : Index := Scalar.indexCast arg16
  let c2_410 : Index := 2#32
  let c0_411 : Index := 0#32
  let c0_412 : Index := 0#32
  ![0, v523.toNat, 2, 0, 0]
def k0_off125 (i : grid0.Coords) (k0_t4 : Fin (k0_t4_loop i).trips) : Fin 5 → Nat :=
  let c0_423 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v544 : Index := Scalar.indexCast arg16
  let c3_424 : Index := 3#32
  let c0_425 : Index := 0#32
  let c0_426 : Index := 0#32
  ![0, v544.toNat, 3, 0, 0]
def k0_off126 (i : grid0.Coords) (k0_t4 : Fin (k0_t4_loop i).trips) : Fin 5 → Nat :=
  let c0_437 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v565 : Index := Scalar.indexCast arg16
  let c4_438 : Index := 4#32
  let c0_439 : Index := 0#32
  let c0_440 : Index := 0#32
  ![0, v565.toNat, 4, 0, 0]
def k0_off127 (i : grid0.Coords) (k0_t4 : Fin (k0_t4_loop i).trips) : Fin 5 → Nat :=
  let c0_451 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v586 : Index := Scalar.indexCast arg16
  let c5_452 : Index := 5#32
  let c0_453 : Index := 0#32
  let c0_454 : Index := 0#32
  ![0, v586.toNat, 5, 0, 0]
def k0_off128 (i : grid0.Coords) (k0_t4 : Fin (k0_t4_loop i).trips) : Fin 5 → Nat :=
  let c0_465 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v607 : Index := Scalar.indexCast arg16
  let c6_466 : Index := 6#32
  let c0_467 : Index := 0#32
  let c0_468 : Index := 0#32
  ![0, v607.toNat, 6, 0, 0]
def k0_off129 (i : grid0.Coords) (k0_t4 : Fin (k0_t4_loop i).trips) : Fin 5 → Nat :=
  let c0_479 : Index := 0#32
  let c0_i32_173 : BitVec 32 := 0#32
  let arg2 : BitVec 32 := BitVec.ofNat 32 (i 2).val
  let v157 : BitVec 32 := Scalar.subi arg2 c0_i32_173
  let c1_i32_174 : BitVec 32 := 1#32
  let v159 : BitVec 32 := Scalar.divsi v157 c1_i32_174
  let v160 : BitVec 32 := Scalar.muli v159 c1_i32_174
  let v161 : BitVec 32 := Scalar.addi c0_i32_173 v160
  let c1_i32_176 : BitVec 32 := 1#32
  let arg16 : BitVec 32 := Scf.iv v161 c1_i32_176 k0_t4
  let v628 : Index := Scalar.indexCast arg16
  let c7_480 : Index := 7#32
  let c0_481 : Index := 0#32
  let c0_482 : Index := 0#32
  ![0, v628.toNat, 7, 0, 0]
def k0_mult65 (i : grid0.Coords) : BitVec 32 :=
  let arg2 : BitVec 32 := BitVec.ofNat 32 (i 2).val
  let c512_i32 : BitVec 32 := 512#32
  let v164 : BitVec 32 := Scalar.muli arg2 c512_i32
  v164
def k0_off130 (i : grid0.Coords) : Fin 4 → Nat :=
  let c0_177 : Index := 0#32
  let c0_178 : Index := 0#32
  let arg2 : BitVec 32 := BitVec.ofNat 32 (i 2).val
  let c512_i32 : BitVec 32 := 512#32
  let v164 : BitVec 32 := Scalar.muli arg2 c512_i32
  let v165 : BitVec 32 := v164
  let v166 : Index := Scalar.indexCast v165
  let c0_179 : Index := 0#32
  ![0, 0, v166.toNat, 0]
def k0_mult66 (i : grid0.Coords) : BitVec 32 :=
  let arg2 : BitVec 32 := BitVec.ofNat 32 (i 2).val
  let c512_i32_182 : BitVec 32 := 512#32
  let v175 : BitVec 32 := Scalar.muli arg2 c512_i32_182
  v175
def k0_off131 (i : grid0.Coords) : Fin 4 → Nat :=
  let c0_183 : Index := 0#32
  let c1_184 : Index := 1#32
  let arg2 : BitVec 32 := BitVec.ofNat 32 (i 2).val
  let c512_i32_182 : BitVec 32 := 512#32
  let v175 : BitVec 32 := Scalar.muli arg2 c512_i32_182
  let v176 : BitVec 32 := v175
  let v177 : Index := Scalar.indexCast v176
  let c0_185 : Index := 0#32
  ![0, 1, v177.toNat, 0]
def k0_mult67 (i : grid0.Coords) : BitVec 32 :=
  let arg2 : BitVec 32 := BitVec.ofNat 32 (i 2).val
  let c512_i32_188 : BitVec 32 := 512#32
  let v186 : BitVec 32 := Scalar.muli arg2 c512_i32_188
  v186
def k0_off132 (i : grid0.Coords) : Fin 4 → Nat :=
  let c0_189 : Index := 0#32
  let c2_190 : Index := 2#32
  let arg2 : BitVec 32 := BitVec.ofNat 32 (i 2).val
  let c512_i32_188 : BitVec 32 := 512#32
  let v186 : BitVec 32 := Scalar.muli arg2 c512_i32_188
  let v187 : BitVec 32 := v186
  let v188 : Index := Scalar.indexCast v187
  let c0_191 : Index := 0#32
  ![0, 2, v188.toNat, 0]
def k0_mult68 (i : grid0.Coords) : BitVec 32 :=
  let arg2 : BitVec 32 := BitVec.ofNat 32 (i 2).val
  let c512_i32_194 : BitVec 32 := 512#32
  let v197 : BitVec 32 := Scalar.muli arg2 c512_i32_194
  v197
def k0_off133 (i : grid0.Coords) : Fin 4 → Nat :=
  let c0_195 : Index := 0#32
  let c3_196 : Index := 3#32
  let arg2 : BitVec 32 := BitVec.ofNat 32 (i 2).val
  let c512_i32_194 : BitVec 32 := 512#32
  let v197 : BitVec 32 := Scalar.muli arg2 c512_i32_194
  let v198 : BitVec 32 := v197
  let v199 : Index := Scalar.indexCast v198
  let c0_197 : Index := 0#32
  ![0, 3, v199.toNat, 0]
def k0_mult69 (i : grid0.Coords) : BitVec 32 :=
  let arg2 : BitVec 32 := BitVec.ofNat 32 (i 2).val
  let c512_i32_200 : BitVec 32 := 512#32
  let v208 : BitVec 32 := Scalar.muli arg2 c512_i32_200
  v208
def k0_off134 (i : grid0.Coords) : Fin 4 → Nat :=
  let c0_201 : Index := 0#32
  let c4_202 : Index := 4#32
  let arg2 : BitVec 32 := BitVec.ofNat 32 (i 2).val
  let c512_i32_200 : BitVec 32 := 512#32
  let v208 : BitVec 32 := Scalar.muli arg2 c512_i32_200
  let v209 : BitVec 32 := v208
  let v210 : Index := Scalar.indexCast v209
  let c0_203 : Index := 0#32
  ![0, 4, v210.toNat, 0]
def k0_mult70 (i : grid0.Coords) : BitVec 32 :=
  let arg2 : BitVec 32 := BitVec.ofNat 32 (i 2).val
  let c512_i32_206 : BitVec 32 := 512#32
  let v219 : BitVec 32 := Scalar.muli arg2 c512_i32_206
  v219
def k0_off135 (i : grid0.Coords) : Fin 4 → Nat :=
  let c0_207 : Index := 0#32
  let c5_208 : Index := 5#32
  let arg2 : BitVec 32 := BitVec.ofNat 32 (i 2).val
  let c512_i32_206 : BitVec 32 := 512#32
  let v219 : BitVec 32 := Scalar.muli arg2 c512_i32_206
  let v220 : BitVec 32 := v219
  let v221 : Index := Scalar.indexCast v220
  let c0_209 : Index := 0#32
  ![0, 5, v221.toNat, 0]
def k0_mult71 (i : grid0.Coords) : BitVec 32 :=
  let arg2 : BitVec 32 := BitVec.ofNat 32 (i 2).val
  let c512_i32_212 : BitVec 32 := 512#32
  let v230 : BitVec 32 := Scalar.muli arg2 c512_i32_212
  v230
def k0_off136 (i : grid0.Coords) : Fin 4 → Nat :=
  let c0_213 : Index := 0#32
  let c6_214 : Index := 6#32
  let arg2 : BitVec 32 := BitVec.ofNat 32 (i 2).val
  let c512_i32_212 : BitVec 32 := 512#32
  let v230 : BitVec 32 := Scalar.muli arg2 c512_i32_212
  let v231 : BitVec 32 := v230
  let v232 : Index := Scalar.indexCast v231
  let c0_215 : Index := 0#32
  ![0, 6, v232.toNat, 0]
def k0_mult72 (i : grid0.Coords) : BitVec 32 :=
  let arg2 : BitVec 32 := BitVec.ofNat 32 (i 2).val
  let c512_i32_218 : BitVec 32 := 512#32
  let v241 : BitVec 32 := Scalar.muli arg2 c512_i32_218
  v241
def k0_off137 (i : grid0.Coords) : Fin 4 → Nat :=
  let c0_219 : Index := 0#32
  let c7_220 : Index := 7#32
  let arg2 : BitVec 32 := BitVec.ofNat 32 (i 2).val
  let c512_i32_218 : BitVec 32 := 512#32
  let v241 : BitVec 32 := Scalar.muli arg2 c512_i32_218
  let v242 : BitVec 32 := v241
  let v243 : Index := Scalar.indexCast v242
  let c0_221 : Index := 0#32
  ![0, 7, v243.toNat, 0]
def k0_off138 (i : grid0.Coords) : Fin 5 → Nat :=
  let c0_229 : Index := 0#32
  let arg2 : BitVec 32 := BitVec.ofNat 32 (i 2).val
  let v265 : Index := Scalar.indexCast arg2
  let c0_230 : Index := 0#32
  let c0_231 : Index := 0#32
  let c0_232 : Index := 0#32
  ![0, v265.toNat, 0, 0, 0]
def k0_off139 (i : grid0.Coords) : Fin 5 → Nat :=
  let c0_243 : Index := 0#32
  let arg2 : BitVec 32 := BitVec.ofNat 32 (i 2).val
  let v286 : Index := Scalar.indexCast arg2
  let c1_244 : Index := 1#32
  let c0_245 : Index := 0#32
  let c0_246 : Index := 0#32
  ![0, v286.toNat, 1, 0, 0]
def k0_off140 (i : grid0.Coords) : Fin 5 → Nat :=
  let c0_257 : Index := 0#32
  let arg2 : BitVec 32 := BitVec.ofNat 32 (i 2).val
  let v307 : Index := Scalar.indexCast arg2
  let c2_258 : Index := 2#32
  let c0_259 : Index := 0#32
  let c0_260 : Index := 0#32
  ![0, v307.toNat, 2, 0, 0]
def k0_off141 (i : grid0.Coords) : Fin 5 → Nat :=
  let c0_271 : Index := 0#32
  let arg2 : BitVec 32 := BitVec.ofNat 32 (i 2).val
  let v328 : Index := Scalar.indexCast arg2
  let c3_272 : Index := 3#32
  let c0_273 : Index := 0#32
  let c0_274 : Index := 0#32
  ![0, v328.toNat, 3, 0, 0]
def k0_off142 (i : grid0.Coords) : Fin 5 → Nat :=
  let c0_285 : Index := 0#32
  let arg2 : BitVec 32 := BitVec.ofNat 32 (i 2).val
  let v349 : Index := Scalar.indexCast arg2
  let c4_286 : Index := 4#32
  let c0_287 : Index := 0#32
  let c0_288 : Index := 0#32
  ![0, v349.toNat, 4, 0, 0]
def k0_off143 (i : grid0.Coords) : Fin 5 → Nat :=
  let c0_299 : Index := 0#32
  let arg2 : BitVec 32 := BitVec.ofNat 32 (i 2).val
  let v370 : Index := Scalar.indexCast arg2
  let c5_300 : Index := 5#32
  let c0_301 : Index := 0#32
  let c0_302 : Index := 0#32
  ![0, v370.toNat, 5, 0, 0]
def k0_off144 (i : grid0.Coords) : Fin 5 → Nat :=
  let c0_313 : Index := 0#32
  let arg2 : BitVec 32 := BitVec.ofNat 32 (i 2).val
  let v391 : Index := Scalar.indexCast arg2
  let c6_314 : Index := 6#32
  let c0_315 : Index := 0#32
  let c0_316 : Index := 0#32
  ![0, v391.toNat, 6, 0, 0]
def k0_off145 (i : grid0.Coords) : Fin 5 → Nat :=
  let c0_327 : Index := 0#32
  let arg2 : BitVec 32 := BitVec.ofNat 32 (i 2).val
  let v412 : Index := Scalar.indexCast arg2
  let c7_328 : Index := 7#32
  let c0_329 : Index := 0#32
  let c0_330 : Index := 0#32
  ![0, v412.toNat, 7, 0, 0]
def k0_cond1 (v14 : BitVec 32) : BitVec 1 :=
  let c0_i32 : BitVec 32 := 0#32
  let v15 : BitVec 1 := Scalar.cmpi .sgt v14 c0_i32
  let v32 : BitVec 32 := Scalar.extui v15
  let c0_i32_44 : BitVec 32 := 0#32
  let v33 : BitVec 1 := Scalar.cmpi .ne v32 c0_i32_44
  v33

def k0_cond3 (v14 : BitVec 32) : BitVec 1 :=
  let c0_i32 : BitVec 32 := 0#32
  let v15 : BitVec 1 := Scalar.cmpi .sgt v14 c0_i32
  let v_true : BitVec 1 := 1#1
  let v34 : BitVec 1 := Scalar.xori v15 v_true
  let v35 : BitVec 32 := Scalar.extui v34
  let c0_i32_45 : BitVec 32 := 0#32
  let v36 : BitVec 1 := Scalar.cmpi .ne v35 c0_i32_45
  v36

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c21_i32 : BitVec 32 := 21#32
  let v4 : BitVec 32 := Scalar.minsi v3 c21_i32
  let c0_i32 : BitVec 32 := 0#32
  let c0_i32_0 : BitVec 32 := 0#32
  ![v4.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c8_i32 : BitVec 32 := 8#32
  let v2 : BitVec 32 := Scalar.muli v1 c8_i32
  let v3 : BitVec 32 := Scalar.addi v2 arg2
  let c21_i32 : BitVec 32 := 21#32
  let v4 : BitVec 32 := Scalar.minsi v3 c21_i32
  let c0_i32 : BitVec 32 := 0#32
  let c0_i32_0 : BitVec 32 := 0#32
  ![v4.toNat, c0_i32.toNat]

abbrev stage0_0 : Fin 2 → Memref sig .tc .vmem S1x1x8x80x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x8x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x8x16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1x8x80x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x80x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S32x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S32 : Shape := ⟨1, ![32]⟩
abbrev S4x8x8x80x512 : Shape := ⟨5, ![4, 8, 8, 80, 512]⟩
abbrev S4x8x4096x128 : Shape := ⟨4, ![4, 8, 4096, 128]⟩
abbrev S1x8x128x128 : Shape := ⟨4, ![1, 8, 128, 128]⟩
abbrev S1x1x8x80x128 : Shape := ⟨5, ![1, 1, 8, 80, 128]⟩
abbrev S1024x1024 : Shape := ⟨2, ![1024, 1024]⟩
abbrev S1024x5632 : Shape := ⟨2, ![1024, 5632]⟩
abbrev S2816x1024 : Shape := ⟨2, ![2816, 1024]⟩
abbrev S4x8x8x512x80 : Shape := ⟨5, ![4, 8, 8, 512, 80]⟩
abbrev S4x8x4096x80 : Shape := ⟨4, ![4, 8, 4096, 80]⟩
abbrev S8x128x128 : Shape := ⟨3, ![8, 128, 128]⟩
abbrev S8x16x80 : Shape := ⟨3, ![8, 16, 80]⟩
abbrev S8x80x128 : Shape := ⟨3, ![8, 80, 128]⟩
abbrev S8x80x16 : Shape := ⟨3, ![8, 80, 16]⟩
abbrev S8x16x4x4096 : Shape := ⟨4, ![8, 16, 4, 4096]⟩
abbrev S4x8x4096x16 : Shape := ⟨4, ![4, 8, 4096, 16]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x4096 : Shape := ⟨3, ![4, 8, 4096]⟩
abbrev S4x1x8x1 : Shape := ⟨4, ![4, 1, 8, 1]⟩
abbrev S4x8x8x512 : Shape := ⟨4, ![4, 8, 8, 512]⟩
abbrev S4x8x4096x1 : Shape := ⟨4, ![4, 8, 4096, 1]⟩
abbrev S8x4x4096x80 : Shape := ⟨4, ![8, 4, 4096, 80]⟩
abbrev S4x8x80x4096 : Shape := ⟨4, ![4, 8, 80, 4096]⟩

abbrev nBuf : Space → Nat
  | .hbm => 74
  | .vmem => 0
  | .smem => 0
  | _ => 0

abbrev bufTy : (tb : Table) → Fin (tcTables nBuf tb) → BufTy
  | .hbm, ⟨0, _⟩ => ⟨S32, .i32⟩
  | .hbm, ⟨1, _⟩ => ⟨S4x8x8x80x512, .bf16⟩
  | .hbm, ⟨2, _⟩ => ⟨S4x8x4096x128, .bf16⟩
  | .hbm, ⟨3, _⟩ => ⟨S4x8x8x80x512, .bf16⟩
  | .hbm, ⟨4, _⟩ => ⟨S1x8x128x128, .bf16⟩
  | .hbm, ⟨5, _⟩ => ⟨S1x1x8x80x128, .bf16⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S4x8x8x80x512, .f32⟩
  | .hbm, ⟨10, _⟩ => ⟨S4x8x8x512x80, .f32⟩
  | .hbm, ⟨11, _⟩ => ⟨S4x8x4096x80, .f32⟩
  | .hbm, ⟨12, _⟩ => ⟨S4x8x4096x128, .f32⟩
  | .hbm, ⟨13, _⟩ => ⟨S4x8x4096x80, .f32⟩
  | .hbm, ⟨14, _⟩ => ⟨S4x8x8x80x512, .f32⟩
  | .hbm, ⟨15, _⟩ => ⟨S4x8x8x512x80, .f32⟩
  | .hbm, ⟨16, _⟩ => ⟨S4x8x4096x80, .f32⟩
  | .hbm, ⟨17, _⟩ => ⟨S8x128x128, .bf16⟩
  | .hbm, ⟨18, _⟩ => ⟨S8x128x128, .f32⟩
  | .hbm, ⟨19, _⟩ => ⟨S8x16x80, .f32⟩
  | .hbm, ⟨20, _⟩ => ⟨S8x80x128, .bf16⟩
  | .hbm, ⟨21, _⟩ => ⟨S8x80x128, .f32⟩
  | .hbm, ⟨22, _⟩ => ⟨S8x80x16, .f32⟩
  | .hbm, ⟨23, _⟩ => ⟨S8x16x4x4096, .f32⟩
  | .hbm, ⟨24, _⟩ => ⟨S4x8x4096x16, .f32⟩
  | .hbm, ⟨25, _⟩ => ⟨S4x8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x8x4096x4096, .i1⟩
  | .hbm, ⟨35, _⟩ => ⟨S4x8x4096x4096, .f32⟩
  | .hbm, ⟨36, _⟩ => ⟨S4x8x4096x4096, .f32⟩
  | .hbm, ⟨37, _⟩ => ⟨S_, .f32⟩
  | .hbm, ⟨38, _⟩ => ⟨S4x8x4096, .f32⟩
  | .hbm, ⟨39, _⟩ => ⟨S_, .f32⟩
  | .hbm, ⟨40, _⟩ => ⟨S4x8x4096, .f32⟩
  | .hbm, ⟨41, _⟩ => ⟨S4x8x4096, .f32⟩
  | .hbm, ⟨42, _⟩ => ⟨S_, .i32⟩
  | .hbm, ⟨43, _⟩ => ⟨S32, .i32⟩
  | .hbm, ⟨44, _⟩ => ⟨S32, .i1⟩
  | .hbm, ⟨45, _⟩ => ⟨S4x1x8x1, .i1⟩
  | .hbm, ⟨46, _⟩ => ⟨S4x8x8x512, .f32⟩
  | .hbm, ⟨47, _⟩ => ⟨S_, .f32⟩
  | .hbm, ⟨48, _⟩ => ⟨S_, .f32⟩
  | .hbm, ⟨49, _⟩ => ⟨S4x8x8x512, .i1⟩
  | .hbm, ⟨50, _⟩ => ⟨S4x8x8x512, .f32⟩
  | .hbm, ⟨51, _⟩ => ⟨S4x8x8x512, .f32⟩
  | .hbm, ⟨52, _⟩ => ⟨S4x8x4096x1, .f32⟩
  | .hbm, ⟨53, _⟩ => ⟨S_, .f32⟩
  | .hbm, ⟨54, _⟩ => ⟨S_, .f32⟩
  | .hbm, ⟨55, _⟩ => ⟨S4x8x4096x16, .f32⟩
  | .hbm, ⟨56, _⟩ => ⟨S4x8x4096x16, .f32⟩
  | .hbm, ⟨57, _⟩ => ⟨S_, .f32⟩
  | .hbm, ⟨58, _⟩ => ⟨S4x8x4096x16, .f32⟩
  | .hbm, ⟨59, _⟩ => ⟨S4x8x4096x16, .f32⟩
  | .hbm, ⟨60, _⟩ => ⟨S4x8x4096x16, .f32⟩
  | .hbm, ⟨61, _⟩ => ⟨S8x4x4096x80, .f32⟩
  | .hbm, ⟨62, _⟩ => ⟨S4x8x80x4096, .f32⟩
  | .hbm, ⟨63, _⟩ => ⟨S4x8x4096x4096, .f32⟩
  | .hbm, ⟨64, _⟩ => ⟨S4x8x4096x4096, .f32⟩
  | .hbm, ⟨65, _⟩ => ⟨S_, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x80x4096, .f32⟩
  | .hbm, ⟨70, _⟩ => ⟨S4x8x80x4096, .f32⟩
  | .hbm, ⟨71, _⟩ => ⟨S1024x1024, .bf16⟩
  | .hbm, ⟨72, _⟩ => ⟨S1024x5632, .bf16⟩
  | .hbm, ⟨73, _⟩ => ⟨S2816x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.Ffn.Rows.lean ====
/- The output projection and the feed-forward part, one row at a time: the row's function over the extended reals, and the
   kernel's stages read at a row. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem

/-- The root-mean-square norm of a row of 1024 values with gains `g`, at column `d`. -/
def rms (v g : Fin 1024 → EReal) (d : Fin 1024) : EReal :=
  v d * FloatOps.rsqrt (F := Ideal) (φ := .f32)
    (FloatOps.addf (F := Ideal) (φ := .f32)
      (FloatOps.divf (F := Ideal) (φ := .f32) (∑ k : Fin 1024, v k * v k) (Ideal.ofBits .f32 0x44800000#32))
      (Ideal.ofBits .f32 0x358637BD#32)) * g d

/-- A row of `x` plus the normalised projection `a` of the mixed heads. -/
def resid (x a g : Fin 1024 → EReal) (d : Fin 1024) : EReal := x d + rms a g d

/-- A gate or up projection of a row. -/
def proj (h : Fin 1024 → EReal) (w : Fin 1024 → Fin 2816 → EReal) (f : Fin 2816) : EReal := ∑ k : Fin 1024, h k * w k f

/-- The gated activation contracted with the down projection: `(gate / (1 + exp (-gate)) * up) · down`. -/
def swiglu (g u : Fin 2816 → EReal) (w : Fin 2816 → Fin 1024 → EReal) (d : Fin 1024) : EReal :=
  ∑ f : Fin 2816, Ideal.div (g f) (1 + Ideal.exp (0 - g f)) * u f * w f d

/-- The whole row after the output projection `a`: residual, norm, feed-forward, norm, residual. -/
def tailRow (a x g1 g2 g3 : Fin 1024 → EReal) (wg wu : Fin 1024 → Fin 2816 → EReal) (wd : Fin 2816 → Fin 1024 → EReal)
    (d : Fin 1024) : EReal :=
  resid (resid x a g1) (swiglu (proj (rms (resid x a g1) g2) wg) (proj (rms (resid x a g1) g2) wu) wd) g3 d

theorem swiglu_congr {g g' u u' : Fin 2816 → EReal} (w : Fin 2816 → Fin 1024 → EReal) (d : Fin 1024)
    (hg : ∀ f, g f = g' f) (hu : ∀ f, u f = u' f) : swiglu g u w d = swiglu g' u' w d := by
  rw [funext hg, funext hu]

/-- Row `R` of the mixed heads of a block: the sliding-window heads, then each forgetting head's numerator over its denominator. -/
def mixRow (x0 : Vec Ideal S1x512x512 .bf16) (x1 : Vec Ideal S1x8x80x512 .f32) (R : Fin 512) (c : Fin 1024) : EReal :=
  if h : (c : ℕ) < 512 then x0 (ix3 0 R ⟨c, h⟩)
  else Ideal.div (x1 (ix4 0 ⟨(c - 512) / 64, by omega⟩ ⟨(c - 512) % 64, by omega⟩ R)) (x1 (ix4 0 ⟨(c - 512) / 64, by omega⟩ 64 R))

theorem pay19_row (v63 : FVec Ideal S256x1024 .bf16) (v128 : Vec Ideal S1024x1024 .bf16) (v132 : Vec Ideal S1x256x1024 .f32)
    (v134 : Vec Ideal S1x1024 .f32) (r : Fin 256) (d : Fin 1024) :
    k0_pay19 v63 v128 v132 v134 (ix2 r d)
      = resid (fun e => v132 (ix3 0 r e)) (fun e => ∑ c : Fin 1024, v63 (ix2 r c) * v128 (ix2 c e)) (fun e => v134 (ix2 0 e)) d := by
  pointwise [k0_pay19, resid, rms]

theorem pay20_row (v131 : FVec Ideal S256x1024 .f32) (v149 : Vec Ideal S1x256x1024 .f32)
    (v151 : Vec Ideal S1x1024 .f32) (r : Fin 256) (d : Fin 1024) :
    k0_pay20 v131 v149 v151 (ix2 r d)
      = resid (fun e => v149 (ix3 0 r e)) (fun e => v131 (ix2 r e)) (fun e => v151 (ix2 0 e)) d := by
  pointwise [k0_pay20, resid, rms]

theorem pay21_row (v148 : FVec Ideal S256x1024 .f32) (v166 : Vec Ideal S1x1024 .f32) (r : Fin 256) (d : Fin 1024) :
    k0_pay21 v148 v166 (ix2 r d) = rms (fun e => v148 (ix2 r e)) (fun e => v166 (ix2 0 e)) d := by
  pointwise [k0_pay21, rms]

theorem pay24_row (v180 : FVec Ideal S256x1024 .bf16) (v196 v198 : Vec Ideal S1024x2816 .bf16)
    (v220 : Vec Ideal S2816x1024 .bf16) (r : Fin 256) (d : Fin 1024) :
    k0_pay24 v180 v196 v198 v220 (ix2 r d)
      = swiglu (proj (fun k => v180 (ix2 r k)) (fun k f => v196 (ix2 k f))) (proj (fun k => v180 (ix2 r k)) (fun k f => v198 (ix2 k f)))
          (fun f d => v220 (ix2 f d)) d := by
  pointwise [k0_pay24, swiglu, proj]

/-- The normalised row the lower half's feed-forward reads, as the skeleton cuts it. -/
theorem low_norm (v131 : FVec Ideal S256x1024 .f32) (v149 : Vec Ideal S1x256x1024 .f32) (v151 v181 : Vec Ideal S1x1024 .f32)
    (v200 v202 : Vec Ideal S1024x2816 .bf16) (v222 : Vec Ideal S2816x1024 .bf16) (r : Fin 256) (d : Fin 1024) :
    k0_pay25 (k0_pay20 v131 v149 v151) (k0_pay22 v181) (k0_pay23 v131 v149 v151) v200 v202 v222 (ix2 r d)
      = swiglu (proj (rms (fun e => k0_pay20 v131 v149 v151 (ix2 r e)) (fun e => v181 (ix2 0 e))) (fun k f => v200 (ix2 k f)))
          (proj (rms (fun e => k0_pay20 v131 v149 v151 (ix2 r e)) (fun e => v181 (ix2 0 e))) (fun k f => v202 (ix2 k f)))
          (fun f d => v222 (ix2 f d)) d := by
  generalize hh : k0_pay20 v131 v149 v151 = h
  have h23 : ∀ e : Fin 1024, k0_pay23 v131 v149 v151 (ix2 r e)
      = FloatOps.rsqrt (F := Ideal) (φ := .f32)
    (FloatOps.addf (F := Ideal) (φ := .f32)
      (FloatOps.divf (F := Ideal) (φ := .f32) (∑ k : Fin 1024, h (ix2 r k) * h (ix2 r k)) (Ideal.ofBits .f32 0x44800000#32))
      (Ideal.ofBits .f32 0x358637BD#32)) := by
    intro e
    unfold k0_pay23
    rw [hh]
    pointwise []
  pointwise [k0_pay25, k0_pay22, swiglu, proj, rms, h23]

theorem pay1_row (v148 v221 : FVec Ideal S256x1024 .f32) (v180 : FVec Ideal S256x1024 .bf16) (v196 v198 : Vec Ideal S1024x2816 .bf16)
    (v220 : Vec Ideal S2816x1024 .bf16) (v224 : Vec Ideal S1x1024 .f32) (h : k0_pay24 v180 v196 v198 v220 = v221) (u : Fin 1) (r : Fin 256) (d : Fin 1024) :
    k0_pay1 v148 v221 (k0_pay26 v224) (k0_pay27 v180 v196 v198 v220) (ix3 u r d)
      = resid (fun e => v148 (ix2 r e)) (fun e => v221 (ix2 r e)) (fun e => v224 (ix2 0 e)) d := by
  unfold k0_pay27
  rw [h]
  pointwise [k0_pay1, k0_pay26, resid, rms]

theorem pay2_row (v165 v223 : FVec Ideal S256x1024 .f32) (v242 : Vec Ideal S1x1024 .f32) (u : Fin 1) (r : Fin 256) (d : Fin 1024) :
    k0_pay2 v165 v223 v242 (ix3 u r d)
      = resid (fun e => v165 (ix2 r e)) (fun e => v223 (ix2 r e)) (fun e => v242 (ix2 0 e)) d := by
  pointwise [k0_pay2, resid, rms]

/-- The upper half's mixed heads. -/
theorem mix_top (x0 : Vec Ideal S1x512x512 .bf16) (x1 : Vec Ideal S1x8x80x512 .f32) (r : Fin 256) (c : Fin 1024) :
    k0_pay11 (k0_pay3 (View.ld x0 r0_0)) (k0_pay4 (View.ld x1 r0_1) (View.ld x1 r0_2) (View.ld x1 r0_3) (View.ld x1 r0_4)) (k0_pay7 (k0_pay5 (View.ld x1 r0_5) (View.ld x1 r0_6)) (k0_pay6 (View.ld x1 r0_7)) (View.ld x1 r0_8)) (k0_pay8 (View.ld x1 r0_9) (View.ld x1 r0_10) (View.ld x1 r0_11) (View.ld x1 r0_12)) (k0_pay9 (View.ld x1 r0_13) (View.ld x1 r0_14)) (k0_pay10 (View.ld x1 r0_15)) (View.ld x1 r0_16) (ix2 r c)
      = mixRow x0 x1 ⟨r, by omega⟩ c := by
  pointwise [k0_pay11, k0_pay3, k0_pay4, k0_pay5, k0_pay6, k0_pay7, k0_pay8, k0_pay9, k0_pay10, mixRow]
  blk_point []
  all_goals (exfalso; omega)

/-- The lower half's output projection. -/
theorem a_low (x0 : Vec Ideal S1x512x512 .bf16) (x1 : Vec Ideal S1x8x80x512 .f32) (x2 : Vec Ideal S1x512x1024 .f32) (x3 : Vec Ideal S1024x1024 .bf16) (x4 x5 : Vec Ideal S1x1024 .f32) (x6 x7 : Vec Ideal S1024x2816 .bf16) (x8 : Vec Ideal S2816x1024 .bf16) (x9 : Vec Ideal S1x1024 .f32) (r : Fin 256) (e : Fin 1024) :
    k0_pay28 x0 x1 x2 x3 x4 x5 x6 x7 x8 x9 (ix2 r e)
      = ∑ c : Fin 1024, mixRow x0 x1 ⟨256 + r, by omega⟩ c * x3 (ix2 c e) := by
  pointwise [k0_pay28, k0_pay12, k0_pay13, k0_pay14, k0_pay15, k0_pay16, k0_pay17, k0_pay18]
  refine Finset.sum_congr rfl fun c _ => ?_
  refine congrArg₂ (· * ·) ?_ rfl
  unfold mixRow
  blk_point []
  all_goals (exfalso; omega)

/-- Row `l` of batch `b` of the mixed heads, from the whole arrays. -/
def mixAt (A0 : Vec Ideal S4x4096x512 .bf16) (A1 : Vec Ideal S4x8x80x4096 .f32) (b : Fin 4) (l : Fin 4096) (c : Fin 1024) : EReal :=
  if h : (c : ℕ) < 512 then A0 (ix3 b l ⟨c, h⟩)
  else Ideal.div (A1 (ix4 b ⟨(c - 512) / 64, by omega⟩ ⟨(c - 512) % 64, by omega⟩ l)) (A1 (ix4 b ⟨(c - 512) / 64, by omega⟩ 64 l))

/-- The result's element at `(b, l, d)` as a function of the nine arguments. -/
def outAt (A0 : Vec Ideal S4x4096x512 .bf16) (A1 : Vec Ideal S4x8x80x4096 .f32) (A2 : Vec Ideal S4x4096x1024 .f32)
    (A3 : Vec Ideal S1024x1024 .bf16) (A4 A5 : Vec Ideal S1x1024 .f32) (A6 : Vec Ideal S1024x5632 .bf16) (A7 : Vec Ideal S2816x1024 .bf16)
    (A8 : Vec Ideal S1x1024 .f32) (b : Fin 4) (l : Fin 4096) (d : Fin 1024) : EReal :=
  tailRow (fun e => ∑ c : Fin 1024, mixAt A0 A1 b l c * A3 (ix2 c e)) (fun e => A2 (ix3 b l e)) (fun e => A4 (ix2 0 e))
    (fun e => A5 (ix2 0 e)) (fun e => A8 (ix2 0 e)) (fun k f => A6 (ix2 k ⟨f, by omega⟩)) (fun k f => A6 (ix2 k ⟨2816 + f, by omega⟩))
    (fun f e => A7 (ix2 f e)) d

end Cert.KernelIdeal.Ffn
end
-- ==== Proof.Ffn.Final.lean ====
/- The kernel's result array: each block's two halves are the row function of the block's rows, and the blocks tile the result. -/
module

public import proofs.«01_k».proof.Proof.Ffn.Rows
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem

section Block

variable (x0 : Vec Ideal S1x512x512 .bf16) (x1 : Vec Ideal S1x8x80x512 .f32) (x2 : Vec Ideal S1x512x1024 .f32) (x3 : Vec Ideal S1024x1024 .bf16)
  (x4 x5 : Vec Ideal S1x1024 .f32) (x6 x7 : Vec Ideal S1024x2816 .bf16) (x8 : Vec Ideal S2816x1024 .bf16) (x9 : Vec Ideal S1x1024 .f32)

/-- Row `R` of a block's result. -/
def blkRow (R : Fin 512) (d : Fin 1024) : EReal :=
  tailRow (fun e => ∑ c : Fin 1024, mixRow x0 x1 R c * x3 (ix2 c e)) (fun e => x2 (ix3 0 R e)) (fun e => x4 (ix2 0 e))
    (fun e => x5 (ix2 0 e)) (fun e => x9 (ix2 0 e)) (fun k f => x6 (ix2 k f)) (fun k f => x7 (ix2 k f)) (fun f e => x8 (ix2 f e)) d

theorem h_top (r : Fin 256) (d : Fin 1024) : k0_pay29 x0 x1 x2 x3 x4 x5 x6 x7 x8 x9 (ix2 r d)
    = resid (fun e => x2 (ix3 0 ⟨r, by omega⟩ e)) (fun e => ∑ c : Fin 1024, mixRow x0 x1 ⟨r, by omega⟩ c * x3 (ix2 c e)) (fun e => x4 (ix2 0 e)) d := by
  unfold k0_pay29
  rw [pay19_row]
  simp only [mix_top]
  pointwise [resid, rms]

theorem h_low (r : Fin 256) (d : Fin 1024) : k0_pay30 x0 x1 x2 x3 x4 x5 x6 x7 x8 x9 (ix2 r d)
    = resid (fun e => x2 (ix3 0 ⟨256 + r, by omega⟩ e)) (fun e => ∑ c : Fin 1024, mixRow x0 x1 ⟨256 + r, by omega⟩ c * x3 (ix2 c e)) (fun e => x4 (ix2 0 e)) d := by
  unfold k0_pay30
  rw [pay20_row]
  simp only [a_low]
  pointwise [resid, rms]

/-- The whole row, top half, as the block's row function. -/
theorem out_top (u : Fin 1) (r : Fin 256) (d : Fin 1024) :
    k0_pay1 (k0_pay29 x0 x1 x2 x3 x4 x5 x6 x7 x8 x9) (k0_pay24 (k0_pay31 x0 x1 x2 x3 x4 x5 x6 x7 x8 x9) (View.ld x6 r0_38) (View.ld x7 r0_38) (View.ld x8 r0_39)) (k0_pay26 (View.ld x9 r0_36)) (k0_pay27 (k0_pay31 x0 x1 x2 x3 x4 x5 x6 x7 x8 x9) (View.ld x6 r0_38) (View.ld x7 r0_38) (View.ld x8 r0_39)) (ix3 u r d)
      = blkRow x0 x1 x2 x3 x4 x5 x6 x7 x8 x9 ⟨r, by omega⟩ d := by
  have h36 : ∀ (x : Vec Ideal S1x1024 .f32), (View.ld x r0_36 : Vec Ideal S1x1024 .f32) = x := by intro x; funext i; idx_vars i; obtain rfl : i0 = 0 := Subsingleton.elim _ _; pointwise []
  have h38 : ∀ (x : Vec Ideal S1024x2816 .bf16), (View.ld x r0_38 : Vec Ideal S1024x2816 .bf16) = x := by intro x; funext i; idx_vars i; pointwise []
  have h39 : ∀ (x : Vec Ideal S2816x1024 .bf16), (View.ld x r0_39 : Vec Ideal S2816x1024 .bf16) = x := by intro x; funext i; idx_vars i; pointwise []
  rw [pay1_row _ _ _ _ _ _ _ rfl]
  unfold k0_pay31
  simp only [pay24_row, pay21_row, h_top]
  erw [h36 x5, h36 x9, h38 x6, h38 x7, h39 x8]
  rfl

/-- The whole row, lower half. -/
theorem out_low (u : Fin 1) (r : Fin 256) (d : Fin 1024) :
    k0_pay2 (k0_pay30 x0 x1 x2 x3 x4 x5 x6 x7 x8 x9) (k0_pay25 (k0_pay30 x0 x1 x2 x3 x4 x5 x6 x7 x8 x9) (k0_pay22 (View.ld x5 r0_36)) (k0_pay23 (k0_pay28 x0 x1 x2 x3 x4 x5 x6 x7 x8 x9) (View.ld x2 r0_37) (View.ld x4 r0_36)) (View.ld x6 r0_38) (View.ld x7 r0_38) (View.ld x8 r0_39)) (View.ld x9 r0_36) (ix3 u r d)
      = blkRow x0 x1 x2 x3 x4 x5 x6 x7 x8 x9 ⟨256 + r, by omega⟩ d := by
  have h36 : ∀ (x : Vec Ideal S1x1024 .f32), (View.ld x r0_36 : Vec Ideal S1x1024 .f32) = x := by intro x; funext i; idx_vars i; obtain rfl : i0 = 0 := Subsingleton.elim _ _; pointwise []
  have h38 : ∀ (x : Vec Ideal S1024x2816 .bf16), (View.ld x r0_38 : Vec Ideal S1024x2816 .bf16) = x := by intro x; funext i; idx_vars i; pointwise []
  have h39 : ∀ (x : Vec Ideal S2816x1024 .bf16), (View.ld x r0_39 : Vec Ideal S2816x1024 .bf16) = x := by intro x; funext i; idx_vars i; pointwise []
  have hl := h_low x0 x1 x2 x3 x4 x5 x6 x7 x8 x9
  rw [pay2_row]
  unfold k0_pay30 at hl ⊢
  simp only [low_norm, hl]
  erw [h36 x5, h36 x9, h38 x6, h38 x7, h39 x8]
  rfl

theorem out_top' (x : S1x256x1024.Idx) :
    k0_pay1 (k0_pay29 x0 x1 x2 x3 x4 x5 x6 x7 x8 x9) (k0_pay24 (k0_pay31 x0 x1 x2 x3 x4 x5 x6 x7 x8 x9) (View.ld x6 r0_38) (View.ld x7 r0_38) (View.ld x8 r0_39)) (k0_pay26 (View.ld x9 r0_36)) (k0_pay27 (k0_pay31 x0 x1 x2 x3 x4 x5 x6 x7 x8 x9) (View.ld x6 r0_38) (View.ld x7 r0_38) (View.ld x8 r0_39)) x
      = blkRow x0 x1 x2 x3 x4 x5 x6 x7 x8 x9 ⟨x 1, by have : ((x 1 : Fin 256) : ℕ) < 256 := (x 1).isLt; omega⟩ (x 2) := by
  obtain ⟨u, r, d, rfl⟩ : ∃ (u : Fin 1) (r : Fin 256) (d : Fin 1024), x = ix3 u r d := ⟨x 0, x 1, x 2, by funext a; fin_cases a <;> rfl⟩
  exact out_top x0 x1 x2 x3 x4 x5 x6 x7 x8 x9 u r d

theorem out_low' (x : S1x256x1024.Idx) :
    k0_pay2 (k0_pay30 x0 x1 x2 x3 x4 x5 x6 x7 x8 x9) (k0_pay25 (k0_pay30 x0 x1 x2 x3 x4 x5 x6 x7 x8 x9) (k0_pay22 (View.ld x5 r0_36)) (k0_pay23 (k0_pay28 x0 x1 x2 x3 x4 x5 x6 x7 x8 x9) (View.ld x2 r0_37) (View.ld x4 r0_36)) (View.ld x6 r0_38) (View.ld x7 r0_38) (View.ld x8 r0_39)) (View.ld x9 r0_36) x
      = blkRow x0 x1 x2 x3 x4 x5 x6 x7 x8 x9 ⟨256 + x 1, by have : ((x 1 : Fin 256) : ℕ) < 256 := (x 1).isLt; omega⟩ (x 2) := by
  obtain ⟨u, r, d, rfl⟩ : ∃ (u : Fin 1) (r : Fin 256) (d : Fin 1024), x = ix3 u r d := ⟨x 0, x 1, x 2, by funext a; fin_cases a <;> rfl⟩
  exact out_low x0 x1 x2 x3 x4 x5 x6 x7 x8 x9 u r d

theorem out_at (y : S1x512x1024.Idx) : out0_10 x0 x1 x2 x3 x4 x5 x6 x7 x8 x9 y = blkRow x0 x1 x2 x3 x4 x5 x6 x7 x8 x9 (y 1) (y 2) := by
  unfold out0_10
  canon_tiles x h
  · exact (out_low' x0 x1 x2 x3 x4 x5 x6 x7 x8 x9 x).trans (congrArg₂ (blkRow x0 x1 x2 x3 x4 x5 x6 x7 x8 x9) (Fin.ext h1.symm) (Fin.ext h2.symm))
  · exact (out_top' x0 x1 x2 x3 x4 x5 x6 x7 x8 x9 x).trans (congrArg₂ (blkRow x0 x1 x2 x3 x4 x5 x6 x7 x8 x9) (Fin.ext h1.symm) (Fin.ext h2.symm))

end Block

theorem idx : ∀ t : Fin cfg0.N, win0_0.index t = ![t.val / 8, t.val % 8, 0] ∧ win0_1.index t = ![t.val / 8, 0, 0, t.val % 8]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 1] ∧ win0_8.index t = ![0, 0] ∧ win0_9.index t = ![0, 0]
    ∧ win0_10.index t = ![t.val / 8, t.val % 8, 0] := (by decide +kernel : ∀ t : Fin grid0.N, _)

variable (m : (ℓ : Loc nD τ sig) → Buf (Elt Ideal) ℓ)

/-- The result as the row function of the arguments. -/
def REF (c : Dev nD) : Vec Ideal S4x4096x1024 .f32 := fun i =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1) (i 2)

theorem mix_blk (c : Dev nD) (t : Fin cfg0.N) (b : Fin 4) (l : Fin 4096) (R : Fin 512) (hb : (b : ℕ) = t.val / 8) (hl : (l : ℕ) = t.val % 8 * 512 + R) (d : Fin 1024) :
    mixRow (iblk m c 0 t) (iblk m c 1 t) R d = mixAt (m ((c : Thread nD τ).loc main_arg0)) (m ((c : Thread nD τ).loc main_arg1)) b l d := by
  unfold mixRow mixAt
  blk_point [iblk, V, idx t]

theorem row_blk (c : Dev nD) (t : Fin cfg0.N) (b : Fin 4) (l : Fin 4096) (R : Fin 512) (hb : (b : ℕ) = t.val / 8) (hl : (l : ℕ) = t.val % 8 * 512 + R) (d : Fin 1024) :
    blkRow (iblk m c 0 t) (iblk m c 1 t) (iblk m c 2 t) (iblk m c 3 t) (iblk m c 4 t) (iblk m c 5 t) (iblk m c 6 t) (iblk m c 7 t) (iblk m c 8 t) (iblk m c 9 t) R d
      = outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b l d := by
  have h2 : ∀ e, (show Vec Ideal S1x512x1024 .f32 from iblk m c 2 t) (ix3 0 R e) = (m ((c : Thread nD τ).loc main_arg2)) (ix3 b l e) := by
    intro e; blk_point [iblk, V, idx t]
  have h3 : ∀ k e, (show Vec Ideal S1024x1024 .bf16 from iblk m c 3 t) (ix2 k e) = (m ((c : Thread nD τ).loc main_arg3)) (ix2 k e) := by
    intro k e; blk_point [iblk, V, idx t]
  have h6 : ∀ k f, (show Vec Ideal S1024x2816 .bf16 from iblk m c 6 t) (ix2 k f) = (m ((c : Thread nD τ).loc main_arg6)) (ix2 k ⟨f, by omega⟩) := by
    intro k e; blk_point [iblk, V, idx t]
  have h7 : ∀ k f, (show Vec Ideal S1024x2816 .bf16 from iblk m c 7 t) (ix2 k f) = (m ((c : Thread nD τ).loc main_arg6)) (ix2 k ⟨2816 + f, by omega⟩) := by
    intro k e; blk_point [iblk, V, idx t]
  have h8 : ∀ k f, (show Vec Ideal S2816x1024 .bf16 from iblk m c 8 t) (ix2 k f) = (m ((c : Thread nD τ).loc main_arg7)) (ix2 k f) := by
    intro k e; blk_point [iblk, V, idx t]
  have h4 : ∀ e, (show Vec Ideal S1x1024 .f32 from iblk m c 4 t) (ix2 0 e) = (m ((c : Thread nD τ).loc main_arg4)) (ix2 0 e) := by
    intro e; blk_point [iblk, idx t]
  have h5 : ∀ e, (show Vec Ideal S1x1024 .f32 from iblk m c 5 t) (ix2 0 e) = (m ((c : Thread nD τ).loc main_arg5)) (ix2 0 e) := by
    intro e; blk_point [iblk, idx t]
  have h9 : ∀ e, (show Vec Ideal S1x1024 .f32 from iblk m c 9 t) (ix2 0 e) = (m ((c : Thread nD τ).loc main_arg8)) (ix2 0 e) := by
    intro e; blk_point [iblk, idx t]
  unfold blkRow outAt
  rw [funext h2, funext h4, funext h5, funext h9, funext fun k => funext (h6 k), funext fun k => funext (h7 k), funext fun k => funext (h8 k)]
  congr 1
  funext e
  simp only [mix_blk m c t b l R hb hl, h3]

theorem final (c : Dev nD) : (dats m 0 c).arrAt 10 cfg0.N = REF m c := by
  refine (dats m 0 c).arrAt_eq_of_covers 10 _ (by decide +kernel) fun t _ y => ?_
  blk_simp
  rw [after0_10]
  refine (out_at _ _ _ _ _ _ _ _ _ _ y).trans ((row_blk m c t ((win0_10.blk t).view.emb y 0) ((win0_10.blk t).view.emb y 1) (y 1) ?_ ?_ (y 2)).trans ?_)
  · blk_simp [idx t] <;> try omega
  · blk_simp [idx t] <;> try omega
  · refine congrArg (outAt _ _ _ _ _ _ _ _ _ _ _) (Fin.ext ?_)
    blk_simp [idx t] <;> try omega

end Cert.KernelIdeal.Ffn
end
-- ==== Proof.Ffn.Stages.lean ====
/- The reference's stages as functions of arrays. -/
module

public import proofs.«01_k».proof.Proof.Gen.ReferenceIdeal
public import Idealize.ShloMosaic.Lib.StableHlo.Run

@[expose] public section

noncomputable section

namespace Cert.ReferenceIdeal.Ffn

open Cert.ReferenceIdeal Cert.ReferenceIdeal.Gen Idealize.ShloMosaic Idealize.ShloMosaic.TcCoe Idealize.SL.Sem

variable {F : FTy → Type} [FloatOps F]

/-- The concatenated heads. -/
def hMix (A0 : FVec F S4x4096x512 .bf16) (A1 : FVec F S4x8x80x4096 .f32) : FVec F S4x4096x1024 .f32 :=
  concatenate S4x4096x1024 2 [⟨S4x4096x512, (extf .f32 A0 bitsLt_bf16_f32)⟩, ⟨S4x4096x512, (shapeCast _ (transpose S4x4096x8x64 [0, 3, 1, 2] (Host.divf (extractStridedSlice S4x8x64x4096 ![0, 0, 0, 0] A1 slices_S4x8x80x4096_S4x8x64x4096_0_0_0_0) (broadcastInDim S4x8x64x4096 ![0, 1, 2, 3] bcast_S4x8x1x4096_S4x8x64x4096_0_1_2_3 (extractStridedSlice S4x8x1x4096 ![0, 0, 64, 0] A1 slices_S4x8x80x4096_S4x8x1x4096_0_0_64_0))) transposes_S4x8x64x4096_S4x4096x8x64_0_3_1_2) shapeCasts_S4x4096x8x64_S4x4096x512)⟩] concatenates_S4x4096x512_S4x4096x512_S4x4096x1024_d2

/-- The output projection. -/
def hProj (M : FVec F S4x4096x1024 .f32) (A3 : FVec F S1024x1024 .bf16) : FVec F S4x4096x1024 .f32 :=
  Host.dotGeneral dot_S4x4096x1024_S1024x1024_S4x4096x1024_2_0_01_1_n_n none M (extf .f32 A3 bitsLt_bf16_f32)

/-- The root-mean-square norm. -/
def hRms (v : FVec F S4x4096x1024 .f32) (g : FVec F S1x1024 .f32) : FVec F S4x4096x1024 .f32 :=
  mulf (mulf v (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf v v) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The gate and up projections together. -/
def hGateUp (h : FVec F S4x4096x1024 .f32) (A6 : FVec F S1024x5632 .f32) : FVec F S4x4096x5632 .f32 :=
  Host.dotGeneral dot_S4x4096x1024_S1024x5632_S4x4096x5632_2_0_01_1_n_n none h A6

/-- The gated activation. -/
def hAct (gu : FVec F S4x4096x5632 .f32) : FVec F S4x4096x2816 .f32 :=
  mulf (mulf (extractStridedSlice S4x4096x2816 ![0, 0, 0] gu slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] gu slices_S4x4096x5632_S4x4096x2816_0_0_0)))))) (extractStridedSlice S4x4096x2816 ![0, 0, 2816] gu slices_S4x4096x5632_S4x4096x2816_0_0_2816)

/-- The down projection. -/
def hDown (a : FVec F S4x4096x2816 .f32) (A7 : FVec F S2816x1024 .f32) : FVec F S4x4096x1024 .f32 :=
  Host.dotGeneral dot_S4x4096x2816_S2816x1024_S4x4096x1024_2_0_01_1_n_n none a A7

def hResid (x a : FVec F S4x4096x1024 .f32) (g : FVec F S1x1024 .f32) : FVec F S4x4096x1024 .f32 := addf x (hRms a g)

end Cert.ReferenceIdeal.Ffn

end
-- ==== Proof.Ffn.HostRun.lean ====
/- The reference's run read back in five stretches of operations, each stretch's result a named stage of what the stretch reads. -/
module

public import proofs.«01_k».proof.Proof.Ffn.Stages
public import Idealize.ShloMosaic.Lib.StableHlo.Run

@[expose] public section

noncomputable section

namespace Cert.ReferenceIdeal.Ffn

open Cert.ReferenceIdeal Cert.ReferenceIdeal.Gen Idealize.ShloMosaic Idealize.ShloMosaic.TcCoe Idealize.SL.Sem Idealize.ShloMosaic.StableHlo

variable {F : FTy → Type} [FloatOps F]

/-- The concatenation of the two groups of heads, as a function of the two. -/
def joinHeads : (⟨S4x4096x512, .f32⟩ : BufTy).Contents (Elt F) → (⟨S4x4096x512, .f32⟩ : BufTy).Contents (Elt F) → (⟨S4x4096x1024, .f32⟩ : BufTy).Contents (Elt F) :=
  (fun a b => concatenate S4x4096x1024 2 [⟨S4x4096x512, a⟩, ⟨S4x4096x512, b⟩] concatenates_S4x4096x512_S4x4096x512_S4x4096x1024_d2)

/-- Stretch 1 of the operations. -/
abbrev part1 : List (HloOp τ sig (Elt F)) :=
  [ unary main_arg3 main_v0 ((extf .f32 · bitsLt_bf16_f32) : (⟨S1024x1024, .bf16⟩ : BufTy).Contents (Elt F) → (⟨S1024x1024, .f32⟩ : BufTy).Contents (Elt F)),
    unary main_arg6 main_v1 ((extf .f32 · bitsLt_bf16_f32) : (⟨S1024x5632, .bf16⟩ : BufTy).Contents (Elt F) → (⟨S1024x5632, .f32⟩ : BufTy).Contents (Elt F)),
    unary main_arg7 main_v2 ((extf .f32 · bitsLt_bf16_f32) : (⟨S2816x1024, .bf16⟩ : BufTy).Contents (Elt F) → (⟨S2816x1024, .f32⟩ : BufTy).Contents (Elt F)),
    unary main_arg1 main_v3 ((extractStridedSlice S4x8x64x4096 ![0, 0, 0, 0] · slices_S4x8x80x4096_S4x8x64x4096_0_0_0_0) : (⟨S4x8x80x4096, .f32⟩ : BufTy).Contents (Elt F) → (⟨S4x8x64x4096, .f32⟩ : BufTy).Contents (Elt F)),
    unary main_arg1 main_v4 ((extractStridedSlice S4x8x1x4096 ![0, 0, 64, 0] · slices_S4x8x80x4096_S4x8x1x4096_0_0_64_0) : (⟨S4x8x80x4096, .f32⟩ : BufTy).Contents (Elt F) → (⟨S4x8x1x4096, .f32⟩ : BufTy).Contents (Elt F)),
    unary main_v4 main_v5 (broadcastInDim S4x8x64x4096 ![0, 1, 2, 3] bcast_S4x8x1x4096_S4x8x64x4096_0_1_2_3 : (⟨S4x8x1x4096, .f32⟩ : BufTy).Contents (Elt F) → (⟨S4x8x64x4096, .f32⟩ : BufTy).Contents (Elt F)),
    binary main_v3 main_v5 main_v6 (Host.divf : (⟨S4x8x64x4096, .f32⟩ : BufTy).Contents (Elt F) → (⟨S4x8x64x4096, .f32⟩ : BufTy).Contents (Elt F) → (⟨S4x8x64x4096, .f32⟩ : BufTy).Contents (Elt F)),
    unary main_v6 main_v7 ((transpose S4x4096x8x64 [0, 3, 1, 2] · transposes_S4x8x64x4096_S4x4096x8x64_0_3_1_2) : (⟨S4x8x64x4096, .f32⟩ : BufTy).Contents (Elt F) → (⟨S4x4096x8x64, .f32⟩ : BufTy).Contents (Elt F)),
    reshape main_v7 main_v8 (rfl : (.f32 : EltTy) = .f32) shapeCasts_S4x4096x8x64_S4x4096x512,
    unary main_arg0 main_v9 ((extf .f32 · bitsLt_bf16_f32) : (⟨S4x4096x512, .bf16⟩ : BufTy).Contents (Elt F) → (⟨S4x4096x512, .f32⟩ : BufTy).Contents (Elt F)),
    binary main_v9 main_v8 main_v10 (joinHeads (F := F)),
    binary main_v10 main_v0 main_v11 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)) ]

/-- Stretch 2 of the operations. -/
abbrev part2 : List (HloOp τ sig (Elt F)) :=
  [ reshape main_arg4 main_v12 (rfl : (.f32 : EltTy) = .f32) shapeCasts_S1x1024_S1024,
    binary main_v11 main_v11 main_v13 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v13 main_cst main_v14 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v14 main_v15 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v16 (broadcastInDim S4x4096x1 ![] bcast_S_S4x4096x1 : (⟨S_, .f32⟩ : BufTy).Contents (Elt F) → (⟨S4x4096x1, .f32⟩ : BufTy).Contents (Elt F)),
    binary main_v15 main_v16 main_v17 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v18 (broadcastInDim S4x4096x1 ![] bcast_S_S4x4096x1 : (⟨S_, .f32⟩ : BufTy).Contents (Elt F) → (⟨S4x4096x1, .f32⟩ : BufTy).Contents (Elt F)),
    binary main_v17 main_v18 main_v19 (addf : (⟨S4x4096x1, .f32⟩ : BufTy).Contents (Elt F) → (⟨S4x4096x1, .f32⟩ : BufTy).Contents (Elt F) → (⟨S4x4096x1, .f32⟩ : BufTy).Contents (Elt F)),
    unary main_v19 main_v20 (Host.rsqrt : (⟨S4x4096x1, .f32⟩ : BufTy).Contents (Elt F) → (⟨S4x4096x1, .f32⟩ : BufTy).Contents (Elt F)),
    unary main_v20 main_v21 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v11 main_v21 main_v22 (mulf : (⟨S4x4096x1024, .f32⟩ : BufTy).Contents (Elt F) → (⟨S4x4096x1024, .f32⟩ : BufTy).Contents (Elt F) → (⟨S4x4096x1024, .f32⟩ : BufTy).Contents (Elt F)),
    unary main_v12 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v22 main_v24 main_v25 (mulf : (⟨S4x4096x1024, .f32⟩ : BufTy).Contents (Elt F) → (⟨S4x4096x1024, .f32⟩ : BufTy).Contents (Elt F) → (⟨S4x4096x1024, .f32⟩ : BufTy).Contents (Elt F)),
    binary main_arg2 main_v25 main_v26 (addf : (⟨S4x4096x1024, .f32⟩ : BufTy).Contents (Elt F) → (⟨S4x4096x1024, .f32⟩ : BufTy).Contents (Elt F) → (⟨S4x4096x1024, .f32⟩ : BufTy).Contents (Elt F)) ]

/-- Stretch 3 of the operations. -/
abbrev part3 : List (HloOp τ sig (Elt F)) :=
  [ reshape main_arg5 main_v27 (rfl : (.f32 : EltTy) = .f32) shapeCasts_S1x1024_S1024,
    binary main_v26 main_v26 main_v28 (mulf : (⟨S4x4096x1024, .f32⟩ : BufTy).Contents (Elt F) → (⟨S4x4096x1024, .f32⟩ : BufTy).Contents (Elt F) → (⟨S4x4096x1024, .f32⟩ : BufTy).Contents (Elt F)),
    nullary main_cst_2 (constant S_ .f32 0x00000000#32),
    binary main_v28 main_cst_2 main_v29 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_3 (constant S_ .f32 0x44800000#32),
    unary main_cst_3 main_v31 (broadcastInDim S4x4096x1 ![] bcast_S_S4x4096x1 : (⟨S_, .f32⟩ : BufTy).Contents (Elt F) → (⟨S4x4096x1, .f32⟩ : BufTy).Contents (Elt F)),
    binary main_v30 main_v31 main_v32 (Host.divf : (⟨S4x4096x1, .f32⟩ : BufTy).Contents (Elt F) → (⟨S4x4096x1, .f32⟩ : BufTy).Contents (Elt F) → (⟨S4x4096x1, .f32⟩ : BufTy).Contents (Elt F)),
    nullary main_cst_4 (constant S_ .f32 0x358637BD#32),
    unary main_cst_4 main_v33 (broadcastInDim S4x4096x1 ![] bcast_S_S4x4096x1 : (⟨S_, .f32⟩ : BufTy).Contents (Elt F) → (⟨S4x4096x1, .f32⟩ : BufTy).Contents (Elt F)),
    binary main_v32 main_v33 main_v34 (addf : (⟨S4x4096x1, .f32⟩ : BufTy).Contents (Elt F) → (⟨S4x4096x1, .f32⟩ : BufTy).Contents (Elt F) → (⟨S4x4096x1, .f32⟩ : BufTy).Contents (Elt F)),
    unary main_v34 main_v35 (Host.rsqrt : (⟨S4x4096x1, .f32⟩ : BufTy).Contents (Elt F) → (⟨S4x4096x1, .f32⟩ : BufTy).Contents (Elt F)),
    unary main_v35 main_v36 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v26 main_v36 main_v37 (mulf : (⟨S4x4096x1024, .f32⟩ : BufTy).Contents (Elt F) → (⟨S4x4096x1024, .f32⟩ : BufTy).Contents (Elt F) → (⟨S4x4096x1024, .f32⟩ : BufTy).Contents (Elt F)),
    unary main_v27 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v37 main_v39 main_v40 (mulf : (⟨S4x4096x1024, .f32⟩ : BufTy).Contents (Elt F) → (⟨S4x4096x1024, .f32⟩ : BufTy).Contents (Elt F) → (⟨S4x4096x1024, .f32⟩ : BufTy).Contents (Elt F)) ]

/-- Stretch 4 of the operations. -/
abbrev part4 : List (HloOp τ sig (Elt F)) :=
  [ binary main_v40 main_v1 main_v41 ((fun l r => Host.dotGeneral dot_S4x4096x1024_S1024x5632_S4x4096x5632_2_0_01_1_n_n none l r) : (⟨S4x4096x1024, .f32⟩ : BufTy).Contents (Elt F) → (⟨S1024x5632, .f32⟩ : BufTy).Contents (Elt F) → (⟨S4x4096x5632, .f32⟩ : BufTy).Contents (Elt F)),
    unary main_v41 main_v42 ((extractStridedSlice S4x4096x2816 ![0, 0, 0] · slices_S4x4096x5632_S4x4096x2816_0_0_0) : (⟨S4x4096x5632, .f32⟩ : BufTy).Contents (Elt F) → (⟨S4x4096x2816, .f32⟩ : BufTy).Contents (Elt F)),
    TRef.unary (TRef.of (T := ⟨S4x4096x2816, .f32⟩) main_v42) (TRef.of (T := ⟨S4x4096x2816, .f32⟩) main_call0_v0) Host.negf,
    TRef.unary (TRef.of (T := ⟨S4x4096x2816, .f32⟩) main_call0_v0) (TRef.of (T := ⟨S4x4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4x4096x2816, .f32⟩) main_call0_v2) (broadcastInDim S4x4096x2816 ![] bcast_S_S4x4096x2816),
    TRef.binary (TRef.of (T := ⟨S4x4096x2816, .f32⟩) main_call0_v2) (TRef.of (T := ⟨S4x4096x2816, .f32⟩) main_call0_v1) (TRef.of (T := ⟨S4x4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4x4096x2816, .f32⟩) main_call0_v4) (broadcastInDim S4x4096x2816 ![] bcast_S_S4x4096x2816),
    TRef.binary (TRef.of (T := ⟨S4x4096x2816, .f32⟩) main_call0_v4) (TRef.of (T := ⟨S4x4096x2816, .f32⟩) main_call0_v3) (TRef.of (T := ⟨S4x4096x2816, .f32⟩) main_call0_v5) Host.divf,
    TRef.binary (TRef.of (T := ⟨S4x4096x2816, .f32⟩) main_v42) (TRef.of (T := ⟨S4x4096x2816, .f32⟩) main_call0_v5) (TRef.of (T := ⟨S4x4096x2816, .f32⟩) main_v43) mulf,
    unary main_v41 main_v44 ((extractStridedSlice S4x4096x2816 ![0, 0, 2816] · slices_S4x4096x5632_S4x4096x2816_0_0_2816) : (⟨S4x4096x5632, .f32⟩ : BufTy).Contents (Elt F) → (⟨S4x4096x2816, .f32⟩ : BufTy).Contents (Elt F)),
    binary main_v43 main_v44 main_v45 (mulf : (⟨S4x4096x2816, .f32⟩ : BufTy).Contents (Elt F) → (⟨S4x4096x2816, .f32⟩ : BufTy).Contents (Elt F) → (⟨S4x4096x2816, .f32⟩ : BufTy).Contents (Elt F)),
    binary main_v45 main_v2 main_v46 ((fun l r => Host.dotGeneral dot_S4x4096x2816_S2816x1024_S4x4096x1024_2_0_01_1_n_n none l r) : (⟨S4x4096x2816, .f32⟩ : BufTy).Contents (Elt F) → (⟨S2816x1024, .f32⟩ : BufTy).Contents (Elt F) → (⟨S4x4096x1024, .f32⟩ : BufTy).Contents (Elt F)) ]

/-- Stretch 5 of the operations. -/
abbrev part5 : List (HloOp τ sig (Elt F)) :=
  [ reshape main_arg8 main_v47 (rfl : (.f32 : EltTy) = .f32) shapeCasts_S1x1024_S1024,
    binary main_v46 main_v46 main_v48 (mulf : (⟨S4x4096x1024, .f32⟩ : BufTy).Contents (Elt F) → (⟨S4x4096x1024, .f32⟩ : BufTy).Contents (Elt F) → (⟨S4x4096x1024, .f32⟩ : BufTy).Contents (Elt F)),
    nullary main_cst_5 (constant S_ .f32 0x00000000#32),
    binary main_v48 main_cst_5 main_v49 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v49 main_v50 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_6 (constant S_ .f32 0x44800000#32),
    unary main_cst_6 main_v51 (broadcastInDim S4x4096x1 ![] bcast_S_S4x4096x1 : (⟨S_, .f32⟩ : BufTy).Contents (Elt F) → (⟨S4x4096x1, .f32⟩ : BufTy).Contents (Elt F)),
    binary main_v50 main_v51 main_v52 (Host.divf : (⟨S4x4096x1, .f32⟩ : BufTy).Contents (Elt F) → (⟨S4x4096x1, .f32⟩ : BufTy).Contents (Elt F) → (⟨S4x4096x1, .f32⟩ : BufTy).Contents (Elt F)),
    nullary main_cst_7 (constant S_ .f32 0x358637BD#32),
    unary main_cst_7 main_v53 (broadcastInDim S4x4096x1 ![] bcast_S_S4x4096x1 : (⟨S_, .f32⟩ : BufTy).Contents (Elt F) → (⟨S4x4096x1, .f32⟩ : BufTy).Contents (Elt F)),
    binary main_v52 main_v53 main_v54 (addf : (⟨S4x4096x1, .f32⟩ : BufTy).Contents (Elt F) → (⟨S4x4096x1, .f32⟩ : BufTy).Contents (Elt F) → (⟨S4x4096x1, .f32⟩ : BufTy).Contents (Elt F)),
    unary main_v54 main_v55 (Host.rsqrt : (⟨S4x4096x1, .f32⟩ : BufTy).Contents (Elt F) → (⟨S4x4096x1, .f32⟩ : BufTy).Contents (Elt F)),
    unary main_v55 main_v56 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v46 main_v56 main_v57 (mulf : (⟨S4x4096x1024, .f32⟩ : BufTy).Contents (Elt F) → (⟨S4x4096x1024, .f32⟩ : BufTy).Contents (Elt F) → (⟨S4x4096x1024, .f32⟩ : BufTy).Contents (Elt F)),
    unary main_v47 main_v58 (broadcastInDim S1x1x1024 ![2] bcast_S1024_S1x1x1024_2 : (⟨S1024, .f32⟩ : BufTy).Contents (Elt F) → (⟨S1x1x1024, .f32⟩ : BufTy).Contents (Elt F)),
    unary main_v58 main_v59 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v57 main_v59 main_v60 (mulf : (⟨S4x4096x1024, .f32⟩ : BufTy).Contents (Elt F) → (⟨S4x4096x1024, .f32⟩ : BufTy).Contents (Elt F) → (⟨S4x4096x1024, .f32⟩ : BufTy).Contents (Elt F)),
    binary main_v26 main_v60 main_v61 (addf : (⟨S4x4096x1024, .f32⟩ : BufTy).Contents (Elt F) → (⟨S4x4096x1024, .f32⟩ : BufTy).Contents (Elt F) → (⟨S4x4096x1024, .f32⟩ : BufTy).Contents (Elt F)) ]

/-- All the operations, in order. -/
abbrev line : List (HloOp τ sig (Elt F)) := part1 ++ (part2 ++ (part3 ++ (part4 ++ part5)))

set_option maxRecDepth 8192 in
set_option maxHeartbeats 4000000 in
theorem main_line (c : Dev nD) : main (F := F) c = seq line := rfl
theorem no_refs : (Finset.univ.filter fun b : Ref sig .tc => b.isScoped) = ∅ := by decide
theorem no_sems : (Finset.univ.filter fun sm : SemLoc sig => sm.isScoped .tc) = ∅ := by decide
theorem part1_sub : (part1 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., reshape_bufs_sub .., unary_bufs_sub .., binary_bufs_sub .., binary_bufs_sub ..⟩
theorem part1_fresh : ∀ op ∈ (part1 : List (HloOp τ sig (Elt F))), op.fresh = ∅ := by
  intro _ h; (repeat (cases h with | head => rfl | tail _ h => ?_)); exact nomatch h
theorem part2_sub : (part2 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩
theorem part2_fresh : ∀ op ∈ (part2 : List (HloOp τ sig (Elt F))), op.fresh = ∅ := by
  intro _ h; (repeat (cases h with | head => rfl | tail _ h => ?_)); exact nomatch h
theorem part3_sub : (part3 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem part3_fresh : ∀ op ∈ (part3 : List (HloOp τ sig (Elt F))), op.fresh = ∅ := by
  intro _ h; (repeat (cases h with | head => rfl | tail _ h => ?_)); exact nomatch h
theorem part4_sub : (part4 : List (HloOp τ sig (Elt F))).Forall fun op => op.bufs ⊆ tcRefs τ sig :=
  ⟨binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub ..⟩
theorem part4_fresh : ∀ op ∈ (part4 : List (HloOp τ sig (Elt F))), op.fresh = ∅ := by
  intro _ h; (repeat (cases h with | head => rfl | tail _ h => ?_)); exact nomatch h
theorem part5_sub : (part5 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩
theorem part5_fresh : ∀ op ∈ (part5 : List (HloOp τ sig (Elt F))), op.fresh = ∅ := by
  intro _ h; (repeat (cases h with | head => rfl | tail _ h => ?_)); exact nomatch h

theorem line_sub : (line : List (HloOp τ sig (Elt F))).Forall fun op => op.bufs ⊆ tcRefs τ sig := by
  simp only [line, List.forall_append]
  exact ⟨part1_sub, part2_sub, part3_sub, part4_sub, part5_sub⟩
theorem line_fresh : ∀ op ∈ (line : List (HloOp τ sig (Elt F))), op.fresh = ∅ := by
  intro op h
  simp only [line, List.mem_append] at h
  rcases h with h | h | h | h | h
  · exact part1_fresh op h
  · exact part2_fresh op h
  · exact part3_fresh op h
  · exact part4_fresh op h
  · exact part5_fresh op h

theorem after_two (l₁ l₂ : List (HloOp τ sig (Elt F))) (V : Valuation τ sig (Elt F)) :
    after (l₁ ++ l₂) V = after l₂ (after l₁ V) := by
  induction l₁ generalizing V with
  | nil => rfl
  | cons a l ih => exact ih _

variable (V : Valuation τ sig (Elt F))

set_option maxRecDepth 8192 in
set_option maxHeartbeats 4000000 in
theorem read1 : after part1 V (Proc.devRef .tc main_v11) = hProj (hMix (V (Proc.devRef .tc main_arg0)) (V (Proc.devRef .tc main_arg1))) (V (Proc.devRef .tc main_arg3)) := by
  simp only [part1, TRef.binary, TRef.nullary, TRef.unary, TRef.toBuf, TRef.ofBuf, cast_eq]; after_results_simp <;> rfl

set_option maxRecDepth 8192 in
set_option maxHeartbeats 4000000 in
theorem read1_gu : after part1 V (Proc.devRef .tc main_v1) = extf .f32 (V (Proc.devRef .tc main_arg6)) bitsLt_bf16_f32 := by
  simp only [part1, TRef.binary, TRef.nullary, TRef.unary, TRef.toBuf, TRef.ofBuf, cast_eq]; after_results_simp <;> rfl

set_option maxRecDepth 8192 in
set_option maxHeartbeats 4000000 in
theorem read1_d : after part1 V (Proc.devRef .tc main_v2) = extf .f32 (V (Proc.devRef .tc main_arg7)) bitsLt_bf16_f32 := by
  simp only [part1, TRef.binary, TRef.nullary, TRef.unary, TRef.toBuf, TRef.ofBuf, cast_eq]; after_results_simp <;> rfl

set_option maxRecDepth 8192 in
set_option maxHeartbeats 4000000 in
theorem read2 : after part2 V (Proc.devRef .tc main_v26) = hResid (V (Proc.devRef .tc main_arg2)) (V (Proc.devRef .tc main_v11)) (V (Proc.devRef .tc main_arg4)) := by
  simp only [part2, TRef.binary, TRef.nullary, TRef.unary, TRef.toBuf, TRef.ofBuf, cast_eq]; after_results_simp <;> rfl

set_option maxRecDepth 8192 in
set_option maxHeartbeats 4000000 in
theorem read3 : after part3 V (Proc.devRef .tc main_v40) = hRms (V (Proc.devRef .tc main_v26)) (V (Proc.devRef .tc main_arg5)) := by
  simp only [part3, TRef.binary, TRef.nullary, TRef.unary, TRef.toBuf, TRef.ofBuf, cast_eq]; after_results_simp <;> rfl

set_option maxRecDepth 8192 in
set_option maxHeartbeats 4000000 in
theorem read4 : after part4 V (Proc.devRef .tc main_v46) = hDown (hAct (hGateUp (V (Proc.devRef .tc main_v40)) (V (Proc.devRef .tc main_v1)))) (V (Proc.devRef .tc main_v2)) := by
  simp only [part4, TRef.binary, TRef.nullary, TRef.unary, TRef.toBuf, TRef.ofBuf, cast_eq]; after_results_simp <;> rfl

set_option maxRecDepth 8192 in
set_option maxHeartbeats 4000000 in
theorem read5 : after part5 V (Proc.devRef .tc main_v61) = hResid (V (Proc.devRef .tc main_v26)) (V (Proc.devRef .tc main_v46)) (V (Proc.devRef .tc main_arg8)) := by
  simp only [part5, TRef.binary, TRef.nullary, TRef.unary, TRef.toBuf, TRef.ofBuf, cast_eq]; after_results_simp <;> rfl

theorem one_wrote {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

/-- The buffers stretch 1 writes. -/
abbrev wrote1 : List (Ref sig .tc) := [main_v0, main_v1, main_v2, main_v3, main_v4, main_v5, main_v6, main_v7, main_v8, main_v9, main_v10, main_v11]
theorem wrote1_all : (part1 : List (HloOp τ sig (Elt F))).Forall fun op => op.writes ⊆ (wrote1.map (Proc.devRef (τ := τ) .tc)).toFinset := by
  exact ⟨one_wrote (by decide), one_wrote (by decide), one_wrote (by decide), one_wrote (by decide), one_wrote (by decide), one_wrote (by decide), one_wrote (by decide), one_wrote (by decide), one_wrote (by decide), one_wrote (by decide), one_wrote (by decide), one_wrote (by decide)⟩
theorem keep1 (r : Ref sig .tc) (hr : r ∉ wrote1) : after part1 V (Proc.devRef .tc r) = V (Proc.devRef .tc r) :=
  after_of_writes_sub _ V wrote1_all hr

/-- The buffers stretch 2 writes. -/
abbrev wrote2 : List (Ref sig .tc) := [main_v12, main_v13, main_cst, main_v14, main_v15, main_cst_0, main_v16, main_v17, main_cst_1, main_v18, main_v19, main_v20, main_v21, main_v22, main_v23, main_v24, main_v25, main_v26]
theorem wrote2_all : (part2 : List (HloOp τ sig (Elt F))).Forall fun op => op.writes ⊆ (wrote2.map (Proc.devRef (τ := τ) .tc)).toFinset := by
  exact ⟨one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide)⟩
theorem keep2 (r : Ref sig .tc) (hr : r ∉ wrote2) : after part2 V (Proc.devRef .tc r) = V (Proc.devRef .tc r) :=
  after_of_writes_sub _ V wrote2_all hr

/-- The buffers stretch 3 writes. -/
abbrev wrote3 : List (Ref sig .tc) := [main_v27, main_v28, main_cst_2, main_v29, main_v30, main_cst_3, main_v31, main_v32, main_cst_4, main_v33, main_v34, main_v35, main_v36, main_v37, main_v38, main_v39, main_v40]
theorem wrote3_all : (part3 : List (HloOp τ sig (Elt F))).Forall fun op => op.writes ⊆ (wrote3.map (Proc.devRef (τ := τ) .tc)).toFinset := by
  exact ⟨one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide)⟩
theorem keep3 (r : Ref sig .tc) (hr : r ∉ wrote3) : after part3 V (Proc.devRef .tc r) = V (Proc.devRef .tc r) :=
  after_of_writes_sub _ V wrote3_all hr

/-- The buffers stretch 4 writes. -/
abbrev wrote4 : List (Ref sig .tc) := [main_v41, main_v42, main_call0_v0, main_call0_v1, main_call0_cst, main_call0_v2, main_call0_v3, main_call0_cst_0, main_call0_v4, main_call0_v5, main_v43, main_v44, main_v45, main_v46]
theorem wrote4_all : (part4 : List (HloOp τ sig (Elt F))).Forall fun op => op.writes ⊆ (wrote4.map (Proc.devRef (τ := τ) .tc)).toFinset := by
  exact ⟨one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide)⟩
theorem keep4 (r : Ref sig .tc) (hr : r ∉ wrote4) : after part4 V (Proc.devRef .tc r) = V (Proc.devRef .tc r) :=
  after_of_writes_sub _ V wrote4_all hr

/-- The buffers stretch 5 writes. -/
abbrev wrote5 : List (Ref sig .tc) := [main_v47, main_v48, main_cst_5, main_v49, main_v50, main_cst_6, main_v51, main_v52, main_cst_7, main_v53, main_v54, main_v55, main_v56, main_v57, main_v58, main_v59, main_v60, main_v61]
theorem wrote5_all : (part5 : List (HloOp τ sig (Elt F))).Forall fun op => op.writes ⊆ (wrote5.map (Proc.devRef (τ := τ) .tc)).toFinset := by
  exact ⟨one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide), one_wrote (by decide)⟩
theorem keep5 (r : Ref sig .tc) (hr : r ∉ wrote5) : after part5 V (Proc.devRef .tc r) = V (Proc.devRef .tc r) :=
  after_of_writes_sub _ V wrote5_all hr

theorem keep_line (r : Ref sig .tc) (h1 : r ∉ wrote1) (h2 : r ∉ wrote2) (h3 : r ∉ wrote3) (h4 : r ∉ wrote4) (h5 : r ∉ wrote5) :
    after line V (Proc.devRef .tc r) = V (Proc.devRef .tc r) := by
  rw [line, after_two, after_two, after_two, after_two, keep5 _ r h5, keep4 _ r h4, keep3 _ r h3, keep2 _ r h2, keep1 _ r h1]

/-- The result as the stages of the arguments. -/
def staged (A0 : FVec F S4x4096x512 .bf16) (A1 : FVec F S4x8x80x4096 .f32) (A2 : FVec F S4x4096x1024 .f32) (A3 : FVec F S1024x1024 .bf16)
    (A4 A5 : FVec F S1x1024 .f32) (A6 : FVec F S1024x5632 .bf16) (A7 : FVec F S2816x1024 .bf16) (A8 : FVec F S1x1024 .f32) : FVec F S4x4096x1024 .f32 :=
  hResid (hResid A2 (hProj (hMix A0 A1) A3) A4)
    (hDown (hAct (hGateUp (hRms (hResid A2 (hProj (hMix A0 A1) A3) A4) A5) (extf .f32 A6 bitsLt_bf16_f32))) (extf .f32 A7 bitsLt_bf16_f32)) A8

theorem read_line : after line V (Proc.devRef .tc main_v61)
    = staged (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) (V (Proc.devRef .tc main_arg8)) := by
  rw [line, after_two, after_two, after_two, after_two, read5, keep4 _ main_v26 (by decide), keep4 _ main_arg8 (by decide), read4,
    keep3 _ main_v26 (by decide), keep3 _ main_v1 (by decide), keep3 _ main_v2 (by decide), keep3 _ main_arg8 (by decide), read3, read2,
    keep2 _ main_v1 (by decide), keep2 _ main_v2 (by decide), keep2 _ main_arg5 (by decide), keep2 _ main_arg8 (by decide), read1, read1_gu, read1_d,
    keep1 _ main_arg2 (by decide), keep1 _ main_arg4 (by decide), keep1 _ main_arg5 (by decide), keep1 _ main_arg8 (by decide)]
  rfl

/-- The reference's run: the result at its stages of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = staged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v61).trans (read_line _),
      (h c main_arg0).trans (keep_line _ main_arg0 (by decide) (by decide) (by decide) (by decide) (by decide)),
      (h c main_arg1).trans (keep_line _ main_arg1 (by decide) (by decide) (by decide) (by decide) (by decide)),
      (h c main_arg2).trans (keep_line _ main_arg2 (by decide) (by decide) (by decide) (by decide) (by decide)),
      (h c main_arg3).trans (keep_line _ main_arg3 (by decide) (by decide) (by decide) (by decide) (by decide)),
      (h c main_arg4).trans (keep_line _ main_arg4 (by decide) (by decide) (by decide) (by decide) (by decide)),
      (h c main_arg5).trans (keep_line _ main_arg5 (by decide) (by decide) (by decide) (by decide) (by decide)),
      (h c main_arg6).trans (keep_line _ main_arg6 (by decide) (by decide) (by decide) (by decide) (by decide)),
      (h c main_arg7).trans (keep_line _ main_arg7 (by decide) (by decide) (by decide) (by decide) (by decide)),
      (h c main_arg8).trans (keep_line _ main_arg8 (by decide) (by decide) (by decide) (by decide) (by decide))⟩)
    (run_seq no_refs no_sems defs main (fun _ => line) main_line (fun _ => line_sub) m ρ (fun _ => line_fresh))

end Cert.ReferenceIdeal.Ffn

end
-- ==== Proof.Ffn.Host.lean ====
/- The reference's stages read at a row, and its result as the row function of the arguments. -/
module

public import proofs.«01_k».proof.Proof.Ffn.Rows
public import proofs.«01_k».proof.Proof.Ffn.HostRun

@[expose] public section

set_option maxRecDepth 16384

noncomputable section

namespace Cert.ReferenceIdeal.Ffn

open Cert.ReferenceIdeal Cert.ReferenceIdeal.Gen Idealize.ShloMosaic Idealize.ShloMosaic.TcCoe Idealize.SL.Sem
open Cert.KernelIdeal.Ffn (rms resid proj swiglu tailRow mixAt outAt)

abbrev FV (s : Shape) := FVec Ideal s .f32

theorem hMix_at (A0 : FVec Ideal S4x4096x512 .bf16) (A1 : FV S4x8x80x4096) (b : Fin 4) (l : Fin 4096) (c : Fin 1024) :
    hMix A0 A1 (ix3 b l c) = mixAt A0 A1 b l c := by
  pointwise [hMix, mixAt]

theorem hProj_at (M : FV S4x4096x1024) (A3 : FVec Ideal S1024x1024 .bf16) (b : Fin 4) (l : Fin 4096) (e : Fin 1024) :
    hProj M A3 (ix3 b l e) = ∑ c : Fin 1024, M (ix3 b l c) * A3 (ix2 c e) := by
  pointwise [hProj]

theorem hResid_at (x v : FV S4x4096x1024) (g : FV S1x1024) (b : Fin 4) (l : Fin 4096) (d : Fin 1024) :
    hResid x v g (ix3 b l d) = resid (fun e => x (ix3 b l e)) (fun e => v (ix3 b l e)) (fun e => g (ix2 0 e)) d := by
  pointwise [hResid, hRms, resid, rms]

theorem hRms_at (v : FV S4x4096x1024) (g : FV S1x1024) (b : Fin 4) (l : Fin 4096) (d : Fin 1024) :
    hRms v g (ix3 b l d) = rms (fun e => v (ix3 b l e)) (fun e => g (ix2 0 e)) d := by
  pointwise [hRms, rms]

theorem hGate_at (h : FV S4x4096x1024) (A6 : FV S1024x5632) (b : Fin 4) (l : Fin 4096) (f : Fin 5632) :
    hGateUp h A6 (ix3 b l f) = ∑ k : Fin 1024, h (ix3 b l k) * A6 (ix2 k f) := by
  pointwise [hGateUp]

theorem silu_eq (g u : EReal) : g * Ideal.div 1 (1 + Ideal.exp (-g)) * u = Ideal.div g (1 + Ideal.exp (0 - g)) * u := by
  rw [zero_sub]
  unfold Ideal.div
  have hne : (1 : EReal) + Ideal.exp (-g) ≠ 0 := by
    have h0 : (0 : EReal) ≤ Ideal.exp (-g) := by
      rcases (-g) with _ | _ | x
      · exact le_refl _
      · exact le_top
      · exact EReal.coe_nonneg.mpr (Real.exp_pos x).le
    have : (0 : EReal) < 1 + Ideal.exp (-g) := lt_of_lt_of_le zero_lt_one (le_add_of_nonneg_right h0)
    exact this.ne'
  rw [if_neg hne, if_neg hne, one_mul]

theorem hDown_at (gu : FV S4x4096x5632) (A7 : FV S2816x1024) (b : Fin 4) (l : Fin 4096) (e : Fin 1024) :
    hDown (hAct gu) A7 (ix3 b l e)
      = swiglu (fun f => gu (ix3 b l ⟨f, by omega⟩)) (fun f => gu (ix3 b l ⟨2816 + f, by omega⟩)) (fun f e => A7 (ix2 f e)) e := by
  pointwise [hDown, hAct, swiglu]
  simp only [silu_eq]

/-- The reference's result, element by element. -/
theorem staged_at (A0 : FVec Ideal S4x4096x512 .bf16) (A1 : FV S4x8x80x4096) (A2 : FV S4x4096x1024) (A3 : FVec Ideal S1024x1024 .bf16)
    (A4 A5 : FV S1x1024) (A6 : FVec Ideal S1024x5632 .bf16) (A7 : FVec Ideal S2816x1024 .bf16) (A8 : FV S1x1024)
    (b : Fin 4) (l : Fin 4096) (d : Fin 1024) :
    staged A0 A1 A2 A3 A4 A5 A6 A7 A8 (ix3 b l d) = outAt A0 A1 A2 A3 A4 A5 A6 A7 A8 b l d := by
  rw [staged, hResid_at]
  simp only [hDown_at, hGate_at, hRms_at, hResid_at, hProj_at, hMix_at]
  rfl

end Cert.ReferenceIdeal.Ffn
end
-- ==== Proof.Fox.RunBB.lean ====
/- The body run in one case of its branches. -/
module

public import proofs.«01_k».proof.Proof.Fox.RunsB

@[expose] public section

-- membership in a rectangle is decided coordinate by coordinate along the long axes
set_option maxRecDepth 16384

noncomputable section

namespace Cert.Kernel2.Fox

open Cert.Kernel2 Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1000000 in
/-- The body's triple in this case: the inputs as they were, the outputs at some contents. -/
theorem runB (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : cond0_0 i (tbM0_0.view.readAt (Elt F) (Rect.unit (s := S32) (k0_off1 i) S1.size (k0_off1_inb i)).toLoadRect xt0 (Shape.Idx.first (numel1_S1.symm ▸ Nat.one_pos)))) (hc2 : ¬cond0_2 i (tbM0_0.view.readAt (Elt F) (Rect.unit (s := S32) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_fox_eq_skeleton]; unfold cc0_fox_skel
    simp only [k0_part57_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexact HT0

end Cert.Kernel2.Fox

end
-- ==== Proof.Fox.RunFB.lean ====
/- The body run in one case of its branches. -/
module

public import proofs.«01_k».proof.Proof.Fox.RunBB

@[expose] public section

-- membership in a rectangle is decided coordinate by coordinate along the long axes
set_option maxRecDepth 16384

noncomputable section

namespace Cert.Kernel2.Fox

open Cert.Kernel2 Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1176000 in
/-- The body's triple in this case: the inputs as they were, the outputs at some contents. -/
theorem runF (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : cond0_0 i (tbM0_0.view.readAt (Elt F) (Rect.unit (s := S32) (k0_off1 i) S1.size (k0_off1_inb i)).toLoadRect xt0 (Shape.Idx.first (numel1_S1.symm ▸ Nat.one_pos)))) (hc2 : ¬cond0_2 i (tbM0_0.view.readAt (Elt F) (Rect.unit (s := S32) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_fox_eq_skeleton]; unfold cc0_fox_skel
    simp only [k0_part57_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part25_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexact HT0

end Cert.Kernel2.Fox

end
-- ==== Proof.Fox.RunCB.lean ====
/- The body run in one case of its branches. -/
module

public import proofs.«01_k».proof.Proof.Fox.RunFB

@[expose] public section

-- membership in a rectangle is decided coordinate by coordinate along the long axes
set_option maxRecDepth 16384

noncomputable section

namespace Cert.Kernel2.Fox

open Cert.Kernel2 Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1000000 in
/-- The body's triple in this case: the inputs as they were, the outputs at some contents. -/
theorem runC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : ¬cond0_0 i (tbM0_0.view.readAt (Elt F) (Rect.unit (s := S32) (k0_off1 i) S1.size (k0_off1_inb i)).toLoadRect xt0 (Shape.Idx.first (numel1_S1.symm ▸ Nat.one_pos)))) (hc2 : cond0_2 i (tbM0_0.view.readAt (Elt F) (Rect.unit (s := S32) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_fox_eq_skeleton]; unfold cc0_fox_skel
    simp only [k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexact HT0

end Cert.Kernel2.Fox

end
-- ==== Proof.Fox.FrameB.lean ====
/- The body run whatever the flag word says, and the frame of the call. -/
module

public import proofs.«01_k».proof.Proof.Fox.RunCB
public import Idealize.ShloMosaic.Lib.Claim

@[expose] public section

-- membership in a rectangle is decided coordinate by coordinate along the long axes
set_option maxRecDepth 16384

noncomputable section

namespace Cert.Kernel2.Fox

open Cert.Kernel2 Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long)
/-- The body's two halves are taken by opposite values of one bit of the flag word. -/
theorem cond_word (v : BitVec 32) : k0_cond3 v = 1#1 ↔ ¬k0_cond1 v = 1#1 := by
  unfold k0_cond1 k0_cond3
  dsimp only
  generalize Scalar.cmpi .sgt v 0#32 = b
  revert b
  decide +kernel

/-- The body's triple: the inputs as they were, the outputs at some contents. -/
theorem bodyRun (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K := by
  by_cases h0 : cond0_0 i (tbM0_0.view.readAt (Elt F) (Rect.unit (s := S32) (k0_off1 i) S1.size (k0_off1_inb i)).toLoadRect xt0 (Shape.Idx.first (numel1_S1.symm ▸ Nat.one_pos)))
  · have h2 : ¬cond0_2 i (tbM0_0.view.readAt (Elt F) (Rect.unit (s := S32) (k0_off1 i) S1.size (k0_off1_inb i)).toLoadRect xt0 (Shape.Idx.first (numel1_S1.symm ▸ Nat.one_pos))) := fun h => (cond_word _).mp h h0
    by_cases h1 : cond0_1 i
    · exact runF c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2
    · exact runB c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2
  · exact runC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 ((cond_word _).mpr h0)

variable (m : (ℓ : Loc nD τ sig) → Buf (Elt F) ℓ) (ρ : Dev nD → PrngReg)
/-! ## The pipeline's proof data -/

/-- The outputs, of which the frame says nothing. -/
def forgets0 : Fin 12 → Bool := fun w => w.val == 8 || w.val == 9 || w.val == 10 || w.val == 11

/-- The proof data of the pipeline on core `c`: the inputs at their blocks, nothing said of the outputs. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 7200000 in
/-- The body at any point: the inputs hold their blocks, the invariant passes through, nothing is owed. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HT0]; · iexact HT0
  iintro ⟨H0, H1, H2, H3, H4, H5, H6, H7, H8, H9, H10, H11, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- Every input array ends unchanged. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

/-- The argument arrays end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel2.Fox

end
-- ==== Proof.Fox.PointsI.lean ====
/- The schedule of the call on its grid: when the pipeline fetches and writes back each window. -/
module

public import proofs.«01_k».proof.Proof.Gen.Kernel2Ideal
public import Idealize.ShloMosaic.Lib.Pipeline.Kit

@[expose] public section

noncomputable section

namespace Cert.Kernel2Ideal.Fox

open Cert.Kernel2Ideal Cert.Kernel2Ideal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 8), at any contents of the tables (its index map reads none). -/
theorem fetch0_1 (a : (pcfg0 (F := F)).Adm) : ∀ t : Fin (cfg0 a).N, ((cfg0 a).win 1).fetch t = true ↔ t.val % 8 = 0 :=
  (fun t => Pipeline.Window.fetchOf_reads cc0_transform_1 reads0_1 hreads0_1 0 (by decide) (by decide) (Pipeline.Window.sep_of_coord cc0_transform_1 0 0 (fun _ => rfl) (by decide)) (P := 8) (by decide) t : ∀ t : Fin grid0.N, Pipeline.Window.fetchOf grid0 false cc0_transform_1 t = true ↔ t.val % 8 = 0)
/-- Window 2 (operand 3 (%arg3)) is fetched at the points ≡ 0 (mod 8), at any contents of the tables (its index map reads none). -/
theorem fetch0_2 (a : (pcfg0 (F := F)).Adm) : ∀ t : Fin (cfg0 a).N, ((cfg0 a).win 2).fetch t = true ↔ t.val % 8 = 0 :=
  (fun t => Pipeline.Window.fetchOf_reads cc0_transform_2 reads0_2 hreads0_2 0 (by decide) (by decide) (Pipeline.Window.sep_of_coord cc0_transform_2 0 0 (fun _ => rfl) (by decide)) (P := 8) (by decide) t : ∀ t : Fin grid0.N, Pipeline.Window.fetchOf grid0 false cc0_transform_2 t = true ↔ t.val % 8 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_oneBlock cc0_transform_3 reads0_3 hreads0_3 (by decide) (n := 32) (by decide) t : ∀ t : Fin grid0.N, Pipeline.Window.fetchOf grid0 false cc0_transform_3 t = true ↔ t.val % 32 = 0)
/-- Window 4 (operand 5 (%arg5)) is fetched at the first point only, at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_oneBlock cc0_transform_4 reads0_4 hreads0_4 (by decide) (n := 32) (by decide) t : ∀ t : Fin grid0.N, Pipeline.Window.fetchOf grid0 false cc0_transform_4 t = true ↔ t.val % 32 = 0)
/-- Window 5 (operand 6 (%arg6)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (operand 7 (%arg7)) is fetched at every point, at any contents of the tables (its index map reads none). -/
theorem fetch0_6 (a : (pcfg0 (F := F)).Adm) : ∀ t : Fin (cfg0 a).N, ((cfg0 a).win 6).fetch t = true :=
  (by decide +kernel : ∀ t : Fin grid0.N, Pipeline.Window.fetchOf grid0 false cc0_transform_6 t = true)
-- window 7 is fetched at points [0, 1, 2, 3, 4, 5, 6, 7, 8, 9, 10, 11]…: no closed form stated
/-- Window 8 (result 0 (%0#0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 2 (by decide) (by decide) (Pipeline.Window.sep_of_coord cc0_transform_8 2 3 (fun _ => rfl) (by decide)) (P := 1) (m := 0) (by decide) rfl t).mpr (Nat.mod_one _) : ∀ t : Fin grid0.N, Pipeline.Window.flushOf grid0 true cc0_transform_8 t = true)
/-- Window 9 (result 1 (%0#1)) is written back at every point, at any contents of the tables (its index map reads none). -/
theorem flush0_9 (a : (pcfg0 (F := F)).Adm) : ∀ t : Fin (cfg0 a).N, ((cfg0 a).win 9).flush t = true :=
  (by decide +kernel : ∀ t : Fin grid0.N, Pipeline.Window.flushOf grid0 true cc0_transform_9 t = true)
/-- Window 10 (result 2 (%0#2)) is written back at every point, at any contents of the tables (its index map reads none). -/
theorem flush0_10 (a : (pcfg0 (F := F)).Adm) : ∀ t : Fin (cfg0 a).N, ((cfg0 a).win 10).flush t = true :=
  (by decide +kernel : ∀ t : Fin grid0.N, Pipeline.Window.flushOf grid0 true cc0_transform_10 t = true)
-- window 11 is written back at points [0, 1, 2, 3, 4, 5, 6, 7, 8, 9, 10, 11]…: no closed form stated

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_fox (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

end Cert.Kernel2Ideal.Fox

end
-- ==== Proof.Fox.RunsI.lean ====
/- What the runs of the body share: the launch up to the region, the windows' blocks, and the conditions of the body's branches. -/
module

public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Fox.PointsI
public import Idealize.ShloMosaic.Lib.Pipeline.FrameBody
public import Idealize.ShloMosaic.Lib.Ring
public import Idealize.ShloMosaic.Lib.Tactic
public import Idealize.ShloMosaic.Lib.WordCmp

@[expose] public section

-- membership in a rectangle is decided coordinate by coordinate along the long axes
set_option maxRecDepth 16384

noncomputable section

namespace Cert.Kernel2Ideal.Fox

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (the frame claim, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

/-! ## The body's branch conditions -/

/-- The condition of the body's `scf.if` 0 (`k0_h1`): over WORDS the body reads from its tables or input SMEM windows
    (`v14`), so no function of the point — a case variable: a hypothesis of each run, a `by_cases`
    of the obligation and an `if` of `outsAt`, stated over the argument blocks' words there. -/
abbrev cond0_0 (i : grid0.Coords) (v14 : BitVec 32) : Prop := k0_cond1 v14 = 1#1

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin grid0.N, cond0_1 (grid0.coords t) ↔ t.val % 2 = 1 :=
  (by decide +kernel : ∀ t : Fin grid0.N, cond0_1 (grid0.coords t) ↔ t.val % 2 = 1)

/-- The condition of the body's `scf.if` 2 (`k0_h3`): over WORDS the body reads from its tables or input SMEM windows
    (`v14`), so no function of the point — a case variable: a hypothesis of each run, a `by_cases`
    of the obligation and an `if` of `outsAt`, stated over the argument blocks' words there. -/
abbrev cond0_2 (i : grid0.Coords) (v14 : BitVec 32) : Prop := k0_cond3 v14 = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x8x80x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8x4096x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x8x80x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x16x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x8x80x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S32x5632 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x8x80x512 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S32x1024 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S32x5632 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S128x1024 .bf16 := spec0_11.stage ((cfgM m hO).slots t 11)
abbrev hs0_11 (hO : Ok m) (t : Fin (cfgM m hO).N) : (ms0_11 m hO t).IsWhole := hstage0_11 (((cfgM m hO).slots t 11).cast nbuf0_11)

end Cert.Kernel2Ideal.Fox

end
-- ==== Proof.Fox.RunB.lean ====
/- The body run in one case of its branches, with the stores each output buffer ends with. -/
module

public import proofs.«01_k».proof.Proof.Fox.RunsI

@[expose] public section

-- membership in a rectangle is decided coordinate by coordinate along the long axes
set_option maxRecDepth 16384

noncomputable section

namespace Cert.Kernel2Ideal.Fox

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1000000 in
/-- The body's triple in this case: the inputs as they were, each output at the stores the run finds. -/
@[irreducible] def runB (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : cond0_0 i (tbM0_0.view.readAt (Elt F) (Rect.unit (s := S32) (k0_off1 i) S1.size (k0_off1_inb i)).toLoadRect xt0 (Shape.Idx.first (numel1_S1.symm ▸ Nat.one_pos)))) (hc2 : ¬cond0_2 i (tbM0_0.view.readAt (Elt F) (Rect.unit (s := S32) (k0_off1 i) S1.size (k0_off1_inb i)).toLoadRect xt0 (Shape.Idx.first (numel1_S1.symm ▸ Nat.one_pos)))) :
      Σ' (L8 : List (View.Piece (Elt F) S1x8x80x512 .f32)) (L9 : List (View.Piece (Elt F) S32x1024 .bf16)) (L10 : List (View.Piece (Elt F) S32x5632 .bf16)), { L11 : List (View.Piece (Elt F) S128x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (arg12.view.read (Elt F) (arg12.view.writes (Elt F) arg12.view.junk L8)) ∗ owns (c : Thread nD τ) arg13 fullShare (arg13.view.read (Elt F) (arg13.view.writes (Elt F) arg13.view.junk L9)) ∗ owns (c : Thread nD τ) arg14 fullShare (arg14.view.read (Elt F) (arg14.view.writes (Elt F) arg14.view.junk L10)) ∗ owns (c : Thread nD τ) arg15 fullShare (arg15.view.read (Elt F) (arg15.view.writes (Elt F) arg15.view.junk L11)) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K } := by
    refine ⟨?_, ?_, ?_, ?_, fun E K => ?_⟩
    rotate_left 4
    simp only [cc0_fox_eq_skeleton]; unfold cc0_fox_skel
    simp only [k0_part57_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexact HT0

end Cert.Kernel2Ideal.Fox

end
-- ==== Proof.Fox.Slabs.lean ====
module

public import proofs.«01_k».proof.Proof.Gen.Kernel2Ideal.Loops
public import Idealize.ShloMosaic.Lib.Pointwise
public import Idealize.ShloMosaic.Lib.WritesUnit

@[expose] public section
noncomputable section
namespace Cert.Kernel2Ideal.Fox
open Cert.Kernel2Ideal Cert.Kernel2Ideal.Gen
open Idealize.ShloMosaic Idealize.ShloMosaic.TcCoe Idealize.ShloMosaic.Tactic

/-- A place of the accumulator under the newest store's head reads that store, another what the earlier stores left. -/
theorem slab_cons (v : View sig .tc .vmem S1x8x80x512 .f32) (f : v.ty.Contents (Elt Ideal)) (h : ℕ)
    (inb : ∀ a, (![0, h, 0, 0] : Fin 4 → ℕ) a + (![1, 1, 80, 512] : Fin 4 → ℕ) a ≤ S1x8x80x512.size a)
    (w : (Rect.unit (s := S1x8x80x512) ![0, h, 0, 0] ![1, 1, 80, 512] inb).shape.Idx → Elt Ideal .f32)
    (L : List (View.Piece (Elt Ideal) S1x8x80x512 .f32)) (h' : Fin 8) (d : Fin 80) (q : Fin 512) :
    v.read (Elt Ideal) (v.writes (Elt Ideal) f (⟨Rect.unit ![0, h, 0, 0] ![1, 1, 80, 512] inb, w⟩ :: L)) (ix4 0 h' d q)
      = if h = h'.val then w (ix4 (0 : Fin 1) (0 : Fin 1) d q)
        else v.read (Elt Ideal) (v.writes (Elt Ideal) f L) (ix4 0 h' d q) := by
  split
  · next e =>
    exact View.read_writes_cons_unit_of_mem v f inb w L (ix4 0 h' d q) (ix4 (0 : Fin 1) (0 : Fin 1) d q) rfl (by
      intro a; fin_cases a
      · rfl
      · exact e.symm
      · exact (Nat.zero_add _).symm
      · exact (Nat.zero_add _).symm)
  · next e =>
    exact View.read_writes_cons_unit_of_not_mem v f inb w L (ix4 0 h' d q) rfl 1 (by
      show h'.val < h ∨ h + 1 ≤ h'.val
      omega)

/-- A load of head `h` of the accumulator. -/
theorem slab_load (v : View sig .tc .vmem S1x8x80x512 .f32) (f : v.ty.Contents (Elt Ideal)) (h : ℕ) (hh : h < 8)
    (inb : ∀ a, (![0, h, 0, 0] : Fin 4 → ℕ) a + (![1, 1, 80, 512] : Fin 4 → ℕ) a ≤ S1x8x80x512.size a) (d : Fin 80) (q : Fin 512) :
    v.readAt (Elt Ideal) (Rect.unit (s := S1x8x80x512) ![0, h, 0, 0] ![1, 1, 80, 512] inb).toLoadRect f
      (ix4 (0 : Fin 1) (0 : Fin 1) d q) = v.read (Elt Ideal) f (ix4 0 ⟨h, hh⟩ d q) := by
  refine congrArg (v.read (Elt Ideal) f) (funext fun a => Fin.ext ?_)
  fin_cases a
  · rfl
  · rfl
  · show 0 + 1 * d.val = d.val; omega
  · show 0 + 1 * q.val = q.val; omega

/-- The same load just after stores that cover it. -/
theorem slab_cov (v : View sig .tc .vmem S1x8x80x512 .f32) (L : List (View.Piece (Elt Ideal) S1x8x80x512 .f32)) (h : ℕ) (hh : h < 8)
    (inb : ∀ a, (![0, h, 0, 0] : Fin 4 → ℕ) a + (![1, 1, 80, 512] : Fin 4 → ℕ) a ≤ S1x8x80x512.size a) (d : Fin 80) (q : Fin 512) :
    v.readCov L (Rect.unit (s := S1x8x80x512) ![0, h, 0, 0] ![1, 1, 80, 512] inb).toLoadRect
      (ix4 (0 : Fin 1) (0 : Fin 1) d q) = v.read (Elt Ideal) (v.writes (Elt Ideal) v.junk L) (ix4 0 ⟨h, hh⟩ d q) :=
  slab_load v _ h hh inb d q

/-- A load of 512 rows of the keys. -/
theorem key_load (v : View sig .tc .vmem S1x8x4096x128 .bf16) (f : v.ty.Contents (Elt Ideal)) (off : Fin 4 → ℕ) (h r : ℕ) (hh : h < 8)
    (hr : r + 512 ≤ 4096) (inb : ∀ a, off a + (![1, 1, 512, 80] : Fin 4 → ℕ) a ≤ S1x8x4096x128.size a) (ho : off = ![0, h, r, 0])
    (k : Fin 512) (d : Fin 80) :
    v.readAt (Elt Ideal) (Rect.unit (s := S1x8x4096x128) off ![1, 1, 512, 80] inb).toLoadRect f
      (ix4 (0 : Fin 1) (0 : Fin 1) k d)
      = v.read (Elt Ideal) f (ix4 0 ⟨h, hh⟩ ⟨r + k.val, by omega⟩ ⟨d.val, by omega⟩) := by
  subst ho
  refine congrArg (v.read (Elt Ideal) f) (funext fun a => Fin.ext ?_)
  fin_cases a
  · rfl
  · rfl
  · show r + 1 * k.val = r + k.val; omega
  · show 0 + 1 * d.val = d.val; omega

/-- A load of one tile of the values. -/
theorem val_load (v : View sig .tc .vmem S1x8x8x80x512 .bf16) (f : v.ty.Contents (Elt Ideal)) (off : Fin 5 → ℕ) (h j : ℕ) (hh : h < 8)
    (hj : j < 8) (inb : ∀ a, off a + (![1, 1, 1, 80, 512] : Fin 5 → ℕ) a ≤ S1x8x8x80x512.size a) (ho : off = ![0, j, h, 0, 0])
    (d : Fin 80) (k : Fin 512) :
    v.readAt (Elt Ideal) (Rect.unit (s := S1x8x8x80x512) off ![1, 1, 1, 80, 512] inb).toLoadRect f
      (ix5 (0 : Fin 1) (0 : Fin 1) (0 : Fin 1) d k) = v.read (Elt Ideal) f (ix5 0 ⟨j, hj⟩ ⟨h, hh⟩ d k) := by
  subst ho
  refine congrArg (v.read (Elt Ideal) f) (funext fun a => Fin.ext ?_)
  fin_cases a
  · rfl
  · rfl
  · rfl
  · show 0 + 1 * d.val = d.val; omega
  · show 0 + 1 * k.val = k.val; omega

end Cert.Kernel2Ideal.Fox
end
-- ==== Proof.Fox.Trip1.lean ====
module

public import proofs.«01_k».proof.Proof.Fox.Slabs

@[expose] public section
set_option maxRecDepth 16384
set_option maxHeartbeats 4000000
noncomputable section
namespace Cert.Kernel2Ideal.Fox
open Cert.Kernel2Ideal Cert.Kernel2Ideal.Gen
open Idealize.ShloMosaic Idealize.ShloMosaic.TcCoe Idealize.ShloMosaic.Tactic
variable [Named Ideal]

/-- The score of key `s` of tile `j` for query `q` of a tile. -/
def tileS (K : S1x8x4096x128.Idx → EReal) (Q : S80x512.Idx → EReal) (h : Fin 8) (j : ℕ) (s q : Fin 512) : EReal :=
  if hj : j < 8 then ∑ d : Fin 80, K (ix4 0 h ⟨512 * j + s.val, by omega⟩ ⟨d.val, by omega⟩) * Q (ix2 d q) else 0

/-- Row `d` of the value of key `s` of tile `j`. -/
def tileV (V : S1x8x8x80x512.Idx → EReal) (h : Fin 8) (j : ℕ) (d : Fin 80) (s : Fin 512) : EReal :=
  if hj : j < 8 then V (ix5 0 ⟨j, hj⟩ h d s) else 0

theorem t1_lt : ∀ (i : grid0.Coords) (k : Fin (k0_t1_loop i).trips), 2 * k.val + 1 < 8 := by decide +kernel
theorem off18 : ∀ (i : grid0.Coords) (k : Fin (k0_t1_loop i).trips), k0_off18 i k = ![0, 0, 512 * (2 * k.val), 0] := by decide +kernel
theorem off20 : ∀ (i : grid0.Coords) (k : Fin (k0_t1_loop i).trips), k0_off20 i k = ![0, 2 * k.val, 0, 0, 0] := by decide +kernel
theorem off19 : ∀ (i : grid0.Coords) (k : Fin (k0_t1_loop i).trips), k0_off19 i k = ![0, 1, 512 * (2 * k.val), 0] := by decide +kernel
theorem off22 : ∀ (i : grid0.Coords) (k : Fin (k0_t1_loop i).trips), k0_off22 i k = ![0, 2 * k.val, 1, 0, 0] := by decide +kernel
theorem off21 : ∀ (i : grid0.Coords) (k : Fin (k0_t1_loop i).trips), k0_off21 i k = ![0, 2, 512 * (2 * k.val), 0] := by decide +kernel
theorem off24 : ∀ (i : grid0.Coords) (k : Fin (k0_t1_loop i).trips), k0_off24 i k = ![0, 2 * k.val, 2, 0, 0] := by decide +kernel
theorem off23 : ∀ (i : grid0.Coords) (k : Fin (k0_t1_loop i).trips), k0_off23 i k = ![0, 3, 512 * (2 * k.val), 0] := by decide +kernel
theorem off26 : ∀ (i : grid0.Coords) (k : Fin (k0_t1_loop i).trips), k0_off26 i k = ![0, 2 * k.val, 3, 0, 0] := by decide +kernel
theorem off25 : ∀ (i : grid0.Coords) (k : Fin (k0_t1_loop i).trips), k0_off25 i k = ![0, 4, 512 * (2 * k.val), 0] := by decide +kernel
theorem off28 : ∀ (i : grid0.Coords) (k : Fin (k0_t1_loop i).trips), k0_off28 i k = ![0, 2 * k.val, 4, 0, 0] := by decide +kernel
theorem off27 : ∀ (i : grid0.Coords) (k : Fin (k0_t1_loop i).trips), k0_off27 i k = ![0, 5, 512 * (2 * k.val), 0] := by decide +kernel
theorem off30 : ∀ (i : grid0.Coords) (k : Fin (k0_t1_loop i).trips), k0_off30 i k = ![0, 2 * k.val, 5, 0, 0] := by decide +kernel
theorem off29 : ∀ (i : grid0.Coords) (k : Fin (k0_t1_loop i).trips), k0_off29 i k = ![0, 6, 512 * (2 * k.val), 0] := by decide +kernel
theorem off32 : ∀ (i : grid0.Coords) (k : Fin (k0_t1_loop i).trips), k0_off32 i k = ![0, 2 * k.val, 6, 0, 0] := by decide +kernel
theorem off31 : ∀ (i : grid0.Coords) (k : Fin (k0_t1_loop i).trips), k0_off31 i k = ![0, 7, 512 * (2 * k.val), 0] := by decide +kernel
theorem off34 : ∀ (i : grid0.Coords) (k : Fin (k0_t1_loop i).trips), k0_off34 i k = ![0, 2 * k.val, 7, 0, 0] := by decide +kernel
theorem off33 : ∀ (i : grid0.Coords) (k : Fin (k0_t1_loop i).trips), k0_off33 i k = ![0, 0, 512 * (2 * k.val + 1), 0] := by decide +kernel
theorem off36 : ∀ (i : grid0.Coords) (k : Fin (k0_t1_loop i).trips), k0_off36 i k = ![0, 2 * k.val + 1, 0, 0, 0] := by decide +kernel
theorem off35 : ∀ (i : grid0.Coords) (k : Fin (k0_t1_loop i).trips), k0_off35 i k = ![0, 1, 512 * (2 * k.val + 1), 0] := by decide +kernel
theorem off38 : ∀ (i : grid0.Coords) (k : Fin (k0_t1_loop i).trips), k0_off38 i k = ![0, 2 * k.val + 1, 1, 0, 0] := by decide +kernel
theorem off37 : ∀ (i : grid0.Coords) (k : Fin (k0_t1_loop i).trips), k0_off37 i k = ![0, 2, 512 * (2 * k.val + 1), 0] := by decide +kernel
theorem off40 : ∀ (i : grid0.Coords) (k : Fin (k0_t1_loop i).trips), k0_off40 i k = ![0, 2 * k.val + 1, 2, 0, 0] := by decide +kernel
theorem off39 : ∀ (i : grid0.Coords) (k : Fin (k0_t1_loop i).trips), k0_off39 i k = ![0, 3, 512 * (2 * k.val + 1), 0] := by decide +kernel
theorem off42 : ∀ (i : grid0.Coords) (k : Fin (k0_t1_loop i).trips), k0_off42 i k = ![0, 2 * k.val + 1, 3, 0, 0] := by decide +kernel
theorem off41 : ∀ (i : grid0.Coords) (k : Fin (k0_t1_loop i).trips), k0_off41 i k = ![0, 4, 512 * (2 * k.val + 1), 0] := by decide +kernel
theorem off44 : ∀ (i : grid0.Coords) (k : Fin (k0_t1_loop i).trips), k0_off44 i k = ![0, 2 * k.val + 1, 4, 0, 0] := by decide +kernel
theorem off43 : ∀ (i : grid0.Coords) (k : Fin (k0_t1_loop i).trips), k0_off43 i k = ![0, 5, 512 * (2 * k.val + 1), 0] := by decide +kernel
theorem off46 : ∀ (i : grid0.Coords) (k : Fin (k0_t1_loop i).trips), k0_off46 i k = ![0, 2 * k.val + 1, 5, 0, 0] := by decide +kernel
theorem off45 : ∀ (i : grid0.Coords) (k : Fin (k0_t1_loop i).trips), k0_off45 i k = ![0, 6, 512 * (2 * k.val + 1), 0] := by decide +kernel
theorem off48 : ∀ (i : grid0.Coords) (k : Fin (k0_t1_loop i).trips), k0_off48 i k = ![0, 2 * k.val + 1, 6, 0, 0] := by decide +kernel
theorem off47 : ∀ (i : grid0.Coords) (k : Fin (k0_t1_loop i).trips), k0_off47 i k = ![0, 7, 512 * (2 * k.val + 1), 0] := by decide +kernel
theorem off49 : ∀ (i : grid0.Coords) (k : Fin (k0_t1_loop i).trips), k0_off49 i k = ![0, 2 * k.val + 1, 7, 0, 0] := by decide +kernel

/-- One trip of the pairs loop adds two tiles' weighted values to every head. -/
theorem trip1 (𝒱 : Variants) (c : Dev nD) (bd : Option 𝒱.V) (i : grid0.Coords) (arg3 : Memref sig .tc .smem S32 .i32) (harg3 : arg3.IsWhole) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (arg2 : BitVec 32) (v17 : FVec Ideal S80x512 .bf16) (v19 : FVec Ideal S80x512 .bf16) (v21 : FVec Ideal S80x512 .bf16) (v23 : FVec Ideal S80x512 .bf16) (v25 : FVec Ideal S80x512 .bf16) (v27 : FVec Ideal S80x512 .bf16) (v29 : FVec Ideal S80x512 .bf16) (v31 : FVec Ideal S80x512 .bf16) (v249 : FVec Ideal S80x512 .f32) (X_arg5 : BufTy.Contents (Elt Ideal) arg5.view.ty) (X_arg6 : BufTy.Contents (Elt Ideal) arg6.view.ty) (k : Fin (k0_t1_loop i).trips) (f_arg12 : BufTy.Contents (Elt Ideal) arg12.view.ty) (h : Fin 8) (d : Fin 80) (q : Fin 512) :
    arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v249 X_arg5 X_arg6 k f_arg12)) (ix4 0 h d q)
      = (arg12.view.read (Elt Ideal) f_arg12 (ix4 0 h d q)
          + ∑ s, tileV (arg6.view.read (Elt Ideal) X_arg6) h (2 * k.val) d s
              * Ideal.exp2 (tileS (arg5.view.read (Elt Ideal) X_arg5) (![v17, v19, v21, v23, v25, v27, v29, v31] h) h (2 * k.val) s q))
        + ∑ s, tileV (arg6.view.read (Elt Ideal) X_arg6) h (2 * k.val + 1) d s
              * Ideal.exp2 (tileS (arg5.view.read (Elt Ideal) X_arg5) (![v17, v19, v21, v23, v25, v27, v29, v31] h) h (2 * k.val + 1) s q) := by
  have hk := t1_lt i k
  have hk' : 2 * k.val < 8 := by omega
  simp only [tileV, tileS, dif_pos hk, dif_pos hk']
  unfold tripL_k0_t1 trip_k0_t1
  dsimp only
  fin_cases h
  · refine (slab_cons _ _ 7 _ _ _ 0 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v458, trip_k0_t1.sl.v455, trip_k0_t1.sl.v448, trip_k0_t1.sl.v454, trip_k0_t1.sl.v447, trip_k0_t1.sl.cst_284, trip_k0_t1.sl.v451, trip_k0_t1.sl.v453, trip_k0_t1.sl.v452, trip_k0_t1.sl.v428, trip_k0_t1.sl.cst_270, trip_k0_t1.sl.v427]
    pointwise
    simp only [slab_cov _ _ 0 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v314, trip_k0_t1.sl.v311, trip_k0_t1.sl.v304, trip_k0_t1.sl.v310, trip_k0_t1.sl.cst_284, trip_k0_t1.sl.v307, trip_k0_t1.sl.v309, trip_k0_t1.sl.v308, trip_k0_t1.sl.v296, trip_k0_t1.sl.cst_270, trip_k0_t1.sl.v295]
    pointwise
    simp only [slab_load _ _ 0 (by decide), key_load arg5.view X_arg5 _ 0 (512 * (2 * k.val)) (by decide) (by omega) (k0_off18_inb i k) (off18 i k), key_load arg5.view X_arg5 _ 0 (512 * (2 * k.val + 1)) (by decide) (by omega) (k0_off33_inb i k) (off33 i k), val_load arg6.view X_arg6 _ 0 (2 * k.val) (by decide) hk' (k0_off20_inb i k) (off20 i k), val_load arg6.view X_arg6 _ 0 (2 * k.val + 1) (by decide) hk (k0_off36_inb i k) (off36 i k)]
    rfl
  · refine (slab_cons _ _ 7 _ _ _ 1 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v476, trip_k0_t1.sl.v473, trip_k0_t1.sl.v466, trip_k0_t1.sl.v472, trip_k0_t1.sl.v465, trip_k0_t1.sl.cst_284, trip_k0_t1.sl.v469, trip_k0_t1.sl.v471, trip_k0_t1.sl.v470, trip_k0_t1.sl.v446, trip_k0_t1.sl.cst_270, trip_k0_t1.sl.v445]
    pointwise
    simp only [slab_cov _ _ 1 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v332, trip_k0_t1.sl.v329, trip_k0_t1.sl.v322, trip_k0_t1.sl.v328, trip_k0_t1.sl.v321, trip_k0_t1.sl.cst_284, trip_k0_t1.sl.v325, trip_k0_t1.sl.v327, trip_k0_t1.sl.v326, trip_k0_t1.sl.v302, trip_k0_t1.sl.cst_270, trip_k0_t1.sl.v301]
    pointwise
    simp only [slab_load _ _ 1 (by decide), key_load arg5.view X_arg5 _ 1 (512 * (2 * k.val)) (by decide) (by omega) (k0_off19_inb i k) (off19 i k), key_load arg5.view X_arg5 _ 1 (512 * (2 * k.val + 1)) (by decide) (by omega) (k0_off35_inb i k) (off35 i k), val_load arg6.view X_arg6 _ 1 (2 * k.val) (by decide) hk' (k0_off22_inb i k) (off22 i k), val_load arg6.view X_arg6 _ 1 (2 * k.val + 1) (by decide) hk (k0_off38_inb i k) (off38 i k)]
    rfl
  · refine (slab_cons _ _ 7 _ _ _ 2 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v494, trip_k0_t1.sl.v491, trip_k0_t1.sl.v484, trip_k0_t1.sl.v490, trip_k0_t1.sl.v483, trip_k0_t1.sl.cst_284, trip_k0_t1.sl.v487, trip_k0_t1.sl.v489, trip_k0_t1.sl.v488, trip_k0_t1.sl.v464, trip_k0_t1.sl.cst_270, trip_k0_t1.sl.v463]
    pointwise
    simp only [slab_cov _ _ 2 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v350, trip_k0_t1.sl.v347, trip_k0_t1.sl.v340, trip_k0_t1.sl.v346, trip_k0_t1.sl.v339, trip_k0_t1.sl.cst_284, trip_k0_t1.sl.v343, trip_k0_t1.sl.v345, trip_k0_t1.sl.v344, trip_k0_t1.sl.v320, trip_k0_t1.sl.cst_270, trip_k0_t1.sl.v319]
    pointwise
    simp only [slab_load _ _ 2 (by decide), key_load arg5.view X_arg5 _ 2 (512 * (2 * k.val)) (by decide) (by omega) (k0_off21_inb i k) (off21 i k), key_load arg5.view X_arg5 _ 2 (512 * (2 * k.val + 1)) (by decide) (by omega) (k0_off37_inb i k) (off37 i k), val_load arg6.view X_arg6 _ 2 (2 * k.val) (by decide) hk' (k0_off24_inb i k) (off24 i k), val_load arg6.view X_arg6 _ 2 (2 * k.val + 1) (by decide) hk (k0_off40_inb i k) (off40 i k)]
    rfl
  · refine (slab_cons _ _ 7 _ _ _ 3 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v512, trip_k0_t1.sl.v509, trip_k0_t1.sl.v502, trip_k0_t1.sl.v508, trip_k0_t1.sl.v501, trip_k0_t1.sl.cst_284, trip_k0_t1.sl.v505, trip_k0_t1.sl.v507, trip_k0_t1.sl.v506, trip_k0_t1.sl.v482, trip_k0_t1.sl.cst_270, trip_k0_t1.sl.v481]
    pointwise
    simp only [slab_cov _ _ 3 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v368, trip_k0_t1.sl.v365, trip_k0_t1.sl.v358, trip_k0_t1.sl.v364, trip_k0_t1.sl.v357, trip_k0_t1.sl.cst_284, trip_k0_t1.sl.v361, trip_k0_t1.sl.v363, trip_k0_t1.sl.v362, trip_k0_t1.sl.v338, trip_k0_t1.sl.cst_270, trip_k0_t1.sl.v337]
    pointwise
    simp only [slab_load _ _ 3 (by decide), key_load arg5.view X_arg5 _ 3 (512 * (2 * k.val)) (by decide) (by omega) (k0_off23_inb i k) (off23 i k), key_load arg5.view X_arg5 _ 3 (512 * (2 * k.val + 1)) (by decide) (by omega) (k0_off39_inb i k) (off39 i k), val_load arg6.view X_arg6 _ 3 (2 * k.val) (by decide) hk' (k0_off26_inb i k) (off26 i k), val_load arg6.view X_arg6 _ 3 (2 * k.val + 1) (by decide) hk (k0_off42_inb i k) (off42 i k)]
    rfl
  · refine (slab_cons _ _ 7 _ _ _ 4 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v530, trip_k0_t1.sl.v527, trip_k0_t1.sl.v520, trip_k0_t1.sl.v526, trip_k0_t1.sl.v519, trip_k0_t1.sl.cst_284, trip_k0_t1.sl.v523, trip_k0_t1.sl.v525, trip_k0_t1.sl.v524, trip_k0_t1.sl.v500, trip_k0_t1.sl.cst_270, trip_k0_t1.sl.v499]
    pointwise
    simp only [slab_cov _ _ 4 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v386, trip_k0_t1.sl.v383, trip_k0_t1.sl.v376, trip_k0_t1.sl.v382, trip_k0_t1.sl.v375, trip_k0_t1.sl.cst_284, trip_k0_t1.sl.v379, trip_k0_t1.sl.v381, trip_k0_t1.sl.v380, trip_k0_t1.sl.v356, trip_k0_t1.sl.cst_270, trip_k0_t1.sl.v355]
    pointwise
    simp only [slab_load _ _ 4 (by decide), key_load arg5.view X_arg5 _ 4 (512 * (2 * k.val)) (by decide) (by omega) (k0_off25_inb i k) (off25 i k), key_load arg5.view X_arg5 _ 4 (512 * (2 * k.val + 1)) (by decide) (by omega) (k0_off41_inb i k) (off41 i k), val_load arg6.view X_arg6 _ 4 (2 * k.val) (by decide) hk' (k0_off28_inb i k) (off28 i k), val_load arg6.view X_arg6 _ 4 (2 * k.val + 1) (by decide) hk (k0_off44_inb i k) (off44 i k)]
    rfl
  · refine (slab_cons _ _ 7 _ _ _ 5 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v548, trip_k0_t1.sl.v545, trip_k0_t1.sl.v538, trip_k0_t1.sl.v544, trip_k0_t1.sl.v537, trip_k0_t1.sl.cst_284, trip_k0_t1.sl.v541, trip_k0_t1.sl.v543, trip_k0_t1.sl.v542, trip_k0_t1.sl.v518, trip_k0_t1.sl.cst_270, trip_k0_t1.sl.v517]
    pointwise
    simp only [slab_cov _ _ 5 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v404, trip_k0_t1.sl.v401, trip_k0_t1.sl.v394, trip_k0_t1.sl.v400, trip_k0_t1.sl.v393, trip_k0_t1.sl.cst_284, trip_k0_t1.sl.v397, trip_k0_t1.sl.v399, trip_k0_t1.sl.v398, trip_k0_t1.sl.v374, trip_k0_t1.sl.cst_270, trip_k0_t1.sl.v373]
    pointwise
    simp only [slab_load _ _ 5 (by decide), key_load arg5.view X_arg5 _ 5 (512 * (2 * k.val)) (by decide) (by omega) (k0_off27_inb i k) (off27 i k), key_load arg5.view X_arg5 _ 5 (512 * (2 * k.val + 1)) (by decide) (by omega) (k0_off43_inb i k) (off43 i k), val_load arg6.view X_arg6 _ 5 (2 * k.val) (by decide) hk' (k0_off30_inb i k) (off30 i k), val_load arg6.view X_arg6 _ 5 (2 * k.val + 1) (by decide) hk (k0_off46_inb i k) (off46 i k)]
    rfl
  · refine (slab_cons _ _ 7 _ _ _ 6 d q).trans ?_
    simp only [trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v566, trip_k0_t1.sl.v563, trip_k0_t1.sl.v556, trip_k0_t1.sl.v562, trip_k0_t1.sl.v555, trip_k0_t1.sl.cst_284, trip_k0_t1.sl.v559, trip_k0_t1.sl.v561, trip_k0_t1.sl.v560, trip_k0_t1.sl.v536, trip_k0_t1.sl.cst_270, trip_k0_t1.sl.v535]
    pointwise
    simp only [slab_cov _ _ 6 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v422, trip_k0_t1.sl.v419, trip_k0_t1.sl.v412, trip_k0_t1.sl.v418, trip_k0_t1.sl.v411, trip_k0_t1.sl.cst_284, trip_k0_t1.sl.v415, trip_k0_t1.sl.v417, trip_k0_t1.sl.v416, trip_k0_t1.sl.v392, trip_k0_t1.sl.cst_270, trip_k0_t1.sl.v391]
    pointwise
    simp only [slab_load _ _ 6 (by decide), key_load arg5.view X_arg5 _ 6 (512 * (2 * k.val)) (by decide) (by omega) (k0_off29_inb i k) (off29 i k), key_load arg5.view X_arg5 _ 6 (512 * (2 * k.val + 1)) (by decide) (by omega) (k0_off45_inb i k) (off45 i k), val_load arg6.view X_arg6 _ 6 (2 * k.val) (by decide) hk' (k0_off32_inb i k) (off32 i k), val_load arg6.view X_arg6 _ 6 (2 * k.val + 1) (by decide) hk (k0_off48_inb i k) (off48 i k)]
    rfl
  · refine (slab_cons _ _ 7 _ _ _ 7 d q).trans ?_
    rw [if_pos (by decide)]
    simp only [trip_k0_t1.sl.v575, trip_k0_t1.sl.v568, trip_k0_t1.sl.v574, trip_k0_t1.sl.v567, trip_k0_t1.sl.cst_284, trip_k0_t1.sl.v571, trip_k0_t1.sl.v573, trip_k0_t1.sl.v572, trip_k0_t1.sl.v554, trip_k0_t1.sl.cst_270, trip_k0_t1.sl.v553, k0_pay115]
    pointwise
    simp only [slab_cov _ _ 7 (by decide), trip_k0_t1.sl.HW_arg12_10, trip_k0_t1.sl.HW_arg12_11, trip_k0_t1.sl.HW_arg12_12, trip_k0_t1.sl.HW_arg12_13, trip_k0_t1.sl.HW_arg12_14, trip_k0_t1.sl.HW_arg12_15, trip_k0_t1.sl.HW_arg12_8, trip_k0_t1.sl.HW_arg12_9, slab_cons]
    simp only [trip_k0_t1.sl.v440, trip_k0_t1.sl.v437, trip_k0_t1.sl.v430, trip_k0_t1.sl.v436, trip_k0_t1.sl.v429, trip_k0_t1.sl.cst_284, trip_k0_t1.sl.v433, trip_k0_t1.sl.v435, trip_k0_t1.sl.r, trip_k0_t1.sl.v434, trip_k0_t1.sl.v410, trip_k0_t1.sl.cst_270, trip_k0_t1.sl.v409]
    pointwise
    simp only [slab_load _ _ 7 (by decide), key_load arg5.view X_arg5 _ 7 (512 * (2 * k.val)) (by decide) (by omega) (k0_off31_inb i k) (off31 i k), key_load arg5.view X_arg5 _ 7 (512 * (2 * k.val + 1)) (by decide) (by omega) (k0_off47_inb i k) (off47 i k), val_load arg6.view X_arg6 _ 7 (2 * k.val) (by decide) hk' (k0_off34_inb i k) (off34 i k), val_load arg6.view X_arg6 _ 7 (2 * k.val + 1) (by decide) hk (k0_off49_inb i k) (off49 i k)]
    rfl

end Cert.Kernel2Ideal.Fox
end
-- ==== Proof.Fox.Trip3.lean ====
module

public import proofs.«01_k».proof.Proof.Fox.Trip1

@[expose] public section
set_option maxRecDepth 16384
set_option maxHeartbeats 4000000
noncomputable section
namespace Cert.Kernel2Ideal.Fox
open Cert.Kernel2Ideal Cert.Kernel2Ideal.Gen
open Idealize.ShloMosaic Idealize.ShloMosaic.TcCoe Idealize.ShloMosaic.Tactic
variable [Named Ideal]

/-- The eight heads' running maxima. -/
def comp8 (a : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) :
    Fin 8 → FVec Ideal S1x512 .f32 :=
  ![a.1, a.2.1, a.2.2.1, a.2.2.2.1, a.2.2.2.2.1, a.2.2.2.2.2.1, a.2.2.2.2.2.2.1, a.2.2.2.2.2.2.2]

theorem t3_lt : ∀ (i : grid0.Coords) (k : Fin (k0_t3_loop i).trips), k.val < 8 := by decide +kernel
theorem off98 : ∀ (i : grid0.Coords) (k : Fin (k0_t3_loop i).trips), k0_off98 i k = ![0, 0, 512 * k.val, 0] := by decide +kernel
theorem off106 : ∀ (i : grid0.Coords) (k : Fin (k0_t3_loop i).trips), k0_off106 i k = ![0, k.val, 0, 0, 0] := by decide +kernel
theorem off99 : ∀ (i : grid0.Coords) (k : Fin (k0_t3_loop i).trips), k0_off99 i k = ![0, 1, 512 * k.val, 0] := by decide +kernel
theorem off107 : ∀ (i : grid0.Coords) (k : Fin (k0_t3_loop i).trips), k0_off107 i k = ![0, k.val, 1, 0, 0] := by decide +kernel
theorem off100 : ∀ (i : grid0.Coords) (k : Fin (k0_t3_loop i).trips), k0_off100 i k = ![0, 2, 512 * k.val, 0] := by decide +kernel
theorem off108 : ∀ (i : grid0.Coords) (k : Fin (k0_t3_loop i).trips), k0_off108 i k = ![0, k.val, 2, 0, 0] := by decide +kernel
theorem off101 : ∀ (i : grid0.Coords) (k : Fin (k0_t3_loop i).trips), k0_off101 i k = ![0, 3, 512 * k.val, 0] := by decide +kernel
theorem off109 : ∀ (i : grid0.Coords) (k : Fin (k0_t3_loop i).trips), k0_off109 i k = ![0, k.val, 3, 0, 0] := by decide +kernel
theorem off102 : ∀ (i : grid0.Coords) (k : Fin (k0_t3_loop i).trips), k0_off102 i k = ![0, 4, 512 * k.val, 0] := by decide +kernel
theorem off110 : ∀ (i : grid0.Coords) (k : Fin (k0_t3_loop i).trips), k0_off110 i k = ![0, k.val, 4, 0, 0] := by decide +kernel
theorem off103 : ∀ (i : grid0.Coords) (k : Fin (k0_t3_loop i).trips), k0_off103 i k = ![0, 5, 512 * k.val, 0] := by decide +kernel
theorem off111 : ∀ (i : grid0.Coords) (k : Fin (k0_t3_loop i).trips), k0_off111 i k = ![0, k.val, 5, 0, 0] := by decide +kernel
theorem off104 : ∀ (i : grid0.Coords) (k : Fin (k0_t3_loop i).trips), k0_off104 i k = ![0, 6, 512 * k.val, 0] := by decide +kernel
theorem off112 : ∀ (i : grid0.Coords) (k : Fin (k0_t3_loop i).trips), k0_off112 i k = ![0, k.val, 6, 0, 0] := by decide +kernel
theorem off105 : ∀ (i : grid0.Coords) (k : Fin (k0_t3_loop i).trips), k0_off105 i k = ![0, 7, 512 * k.val, 0] := by decide +kernel
theorem off113 : ∀ (i : grid0.Coords) (k : Fin (k0_t3_loop i).trips), k0_off113 i k = ![0, k.val, 7, 0, 0] := by decide +kernel

/-- One trip of the loop raises every head's running maximum to that of the tile. -/
theorem trip3R (𝒱 : Variants) (c : Dev nD) (bd : Option 𝒱.V) (i : grid0.Coords) (arg3 : Memref sig .tc .smem S32 .i32) (harg3 : arg3.IsWhole) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (arg2 : BitVec 32) (v17 : FVec Ideal S80x512 .bf16) (v19 : FVec Ideal S80x512 .bf16) (v21 : FVec Ideal S80x512 .bf16) (v23 : FVec Ideal S80x512 .bf16) (v25 : FVec Ideal S80x512 .bf16) (v27 : FVec Ideal S80x512 .bf16) (v29 : FVec Ideal S80x512 .bf16) (v31 : FVec Ideal S80x512 .bf16) (v41 : FVec Ideal S1x512 .f32) (v56 : FVec Ideal S1x512 .f32) (v71 : FVec Ideal S1x512 .f32) (v86 : FVec Ideal S1x512 .f32) (v101 : FVec Ideal S1x512 .f32) (v116 : FVec Ideal S1x512 .f32) (v131 : FVec Ideal S1x512 .f32) (v144 : FVec Ideal S16x512 .f32) (v146 : FVec Ideal S1x512 .f32) (X_arg5 : BufTy.Contents (Elt Ideal) arg5.view.ty) (X_arg6 : BufTy.Contents (Elt Ideal) arg6.view.ty) (k : Fin (k0_t3_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f_arg12 : BufTy.Contents (Elt Ideal) arg12.view.ty) (h : Fin 8) (q : Fin 512) :
    comp8 (tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 k acc f_arg12) h (ix2 0 q)
      = max (comp8 acc h (ix2 0 q)) (Finset.univ.sup fun s => tileS (arg5.view.read (Elt Ideal) X_arg5) (![v17, v19, v21, v23, v25, v27, v29, v31] h) h k.val s q) := by
  have hk := t3_lt i k
  simp only [tileS, dif_pos hk]
  unfold tripR_k0_t3 trip_k0_t3
  dsimp only
  fin_cases h
  · refine (show _ = trip_k0_t3.sl.v470 i arg5 v17 X_arg5 k acc (ix2 0 q) from rfl).trans ?_
    simp only [trip_k0_t3.sl.v470, trip_k0_t3.sl.v469, trip_k0_t3.sl.v468, trip_k0_t3.sl.v425, trip_k0_t3.sl.cst_340, trip_k0_t3.sl.v424]
    pointwise
    simp only [key_load arg5.view X_arg5 _ 0 (512 * k.val) (by decide) (by omega) (k0_off98_inb i k) (off98 i k)]
    rfl
  · refine (show _ = trip_k0_t3.sl.v491 i arg5 v19 X_arg5 k acc (ix2 0 q) from rfl).trans ?_
    simp only [trip_k0_t3.sl.v491, trip_k0_t3.sl.v490, trip_k0_t3.sl.v489, trip_k0_t3.sl.v431, trip_k0_t3.sl.cst_340, trip_k0_t3.sl.v430]
    pointwise
    simp only [key_load arg5.view X_arg5 _ 1 (512 * k.val) (by decide) (by omega) (k0_off99_inb i k) (off99 i k)]
    rfl
  · refine (show _ = trip_k0_t3.sl.v512 i arg5 v21 X_arg5 k acc (ix2 0 q) from rfl).trans ?_
    simp only [trip_k0_t3.sl.v512, trip_k0_t3.sl.v511, trip_k0_t3.sl.v510, trip_k0_t3.sl.v437, trip_k0_t3.sl.cst_340, trip_k0_t3.sl.v436]
    pointwise
    simp only [key_load arg5.view X_arg5 _ 2 (512 * k.val) (by decide) (by omega) (k0_off100_inb i k) (off100 i k)]
    rfl
  · refine (show _ = trip_k0_t3.sl.v533 i arg5 v23 X_arg5 k acc (ix2 0 q) from rfl).trans ?_
    simp only [trip_k0_t3.sl.v533, trip_k0_t3.sl.v532, trip_k0_t3.sl.v531, trip_k0_t3.sl.v443, trip_k0_t3.sl.cst_340, trip_k0_t3.sl.v442]
    pointwise
    simp only [key_load arg5.view X_arg5 _ 3 (512 * k.val) (by decide) (by omega) (k0_off101_inb i k) (off101 i k)]
    rfl
  · refine (show _ = trip_k0_t3.sl.v554 i arg5 v25 X_arg5 k acc (ix2 0 q) from rfl).trans ?_
    simp only [trip_k0_t3.sl.v554, trip_k0_t3.sl.v553, trip_k0_t3.sl.v552, trip_k0_t3.sl.v449, trip_k0_t3.sl.cst_340, trip_k0_t3.sl.v448]
    pointwise
    simp only [key_load arg5.view X_arg5 _ 4 (512 * k.val) (by decide) (by omega) (k0_off102_inb i k) (off102 i k)]
    rfl
  · refine (show _ = trip_k0_t3.sl.v575 i arg5 v27 X_arg5 k acc (ix2 0 q) from rfl).trans ?_
    simp only [trip_k0_t3.sl.v575, trip_k0_t3.sl.v574, trip_k0_t3.sl.v573, trip_k0_t3.sl.v455, trip_k0_t3.sl.cst_340, trip_k0_t3.sl.v454]
    pointwise
    simp only [key_load arg5.view X_arg5 _ 5 (512 * k.val) (by decide) (by omega) (k0_off103_inb i k) (off103 i k)]
    rfl
  · refine (show _ = trip_k0_t3.sl.v596 i arg5 v29 X_arg5 k acc (ix2 0 q) from rfl).trans ?_
    simp only [trip_k0_t3.sl.v596, trip_k0_t3.sl.v595, trip_k0_t3.sl.v594, trip_k0_t3.sl.v461, trip_k0_t3.sl.cst_340, trip_k0_t3.sl.v460]
    pointwise
    simp only [key_load arg5.view X_arg5 _ 6 (512 * k.val) (by decide) (by omega) (k0_off104_inb i k) (off104 i k)]
    rfl
  · refine (show _ = trip_k0_t3.sl.v617 i arg5 v31 X_arg5 k acc (ix2 0 q) from rfl).trans ?_
    simp only [trip_k0_t3.sl.v617, trip_k0_t3.sl.v616, trip_k0_t3.sl.v615, trip_k0_t3.sl.v467, trip_k0_t3.sl.cst_340, trip_k0_t3.sl.v466]
    pointwise
    simp only [key_load arg5.view X_arg5 _ 7 (512 * k.val) (by decide) (by omega) (k0_off105_inb i k) (off105 i k)]
    rfl

/-- One trip of the loop rescales every head's sums to the new maximum and adds the tile's weighted values. -/
theorem trip3L (𝒱 : Variants) (c : Dev nD) (bd : Option 𝒱.V) (i : grid0.Coords) (arg3 : Memref sig .tc .smem S32 .i32) (harg3 : arg3.IsWhole) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (arg2 : BitVec 32) (v17 : FVec Ideal S80x512 .bf16) (v19 : FVec Ideal S80x512 .bf16) (v21 : FVec Ideal S80x512 .bf16) (v23 : FVec Ideal S80x512 .bf16) (v25 : FVec Ideal S80x512 .bf16) (v27 : FVec Ideal S80x512 .bf16) (v29 : FVec Ideal S80x512 .bf16) (v31 : FVec Ideal S80x512 .bf16) (v41 : FVec Ideal S1x512 .f32) (v56 : FVec Ideal S1x512 .f32) (v71 : FVec Ideal S1x512 .f32) (v86 : FVec Ideal S1x512 .f32) (v101 : FVec Ideal S1x512 .f32) (v116 : FVec Ideal S1x512 .f32) (v131 : FVec Ideal S1x512 .f32) (v144 : FVec Ideal S16x512 .f32) (v146 : FVec Ideal S1x512 .f32) (X_arg5 : BufTy.Contents (Elt Ideal) arg5.view.ty) (X_arg6 : BufTy.Contents (Elt Ideal) arg6.view.ty) (k : Fin (k0_t3_loop i).trips) (acc : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32) (f_arg12 : BufTy.Contents (Elt Ideal) arg12.view.ty) (h : Fin 8) (d : Fin 80) (q : Fin 512) (M : EReal)
    (hM : M = max (comp8 acc h (ix2 0 q)) (Finset.univ.sup fun s => tileS (arg5.view.read (Elt Ideal) X_arg5) (![v17, v19, v21, v23, v25, v27, v29, v31] h) h k.val s q)) :
    arg12.view.read (Elt Ideal) (arg12.view.writes (Elt Ideal) f_arg12 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 k acc f_arg12)) (ix4 0 h d q)
      = Ideal.exp2 (comp8 acc h (ix2 0 q) - M) * arg12.view.read (Elt Ideal) f_arg12 (ix4 0 h d q)
          + ∑ s, tileV (arg6.view.read (Elt Ideal) X_arg6) h k.val d s
              * Ideal.exp2 (tileS (arg5.view.read (Elt Ideal) X_arg5) (![v17, v19, v21, v23, v25, v27, v29, v31] h) h k.val s q - M) := by
  have hk := t3_lt i k
  subst hM
  simp only [tileV, tileS, dif_pos hk]
  unfold tripL_k0_t3 trip_k0_t3
  dsimp only
  fin_cases h
  · refine (slab_cons _ _ 7 _ _ _ 0 d q).trans ?_
    simp only [slab_cons]
    simp only [trip_k0_t3.sl.v488, trip_k0_t3.sl.v485, trip_k0_t3.sl.v480, trip_k0_t3.sl.v484, trip_k0_t3.sl.v478, trip_k0_t3.sl.v479, trip_k0_t3.sl.cst_385, trip_k0_t3.sl.v474, trip_k0_t3.sl.v483, trip_k0_t3.sl.v476, trip_k0_t3.sl.v473, trip_k0_t3.sl.v475, trip_k0_t3.sl.v472, trip_k0_t3.sl.v470, trip_k0_t3.sl.v425, trip_k0_t3.sl.v471, trip_k0_t3.sl.v469, trip_k0_t3.sl.cst_340, trip_k0_t3.sl.v424, trip_k0_t3.sl.v468]
    pointwise
    simp only [slab_load _ _ 0 (by decide), key_load arg5.view X_arg5 _ 0 (512 * k.val) (by decide) (by omega) (k0_off98_inb i k) (off98 i k),
      val_load arg6.view X_arg6 _ 0 k.val (by decide) hk (k0_off106_inb i k) (off106 i k)]
    rfl
  · refine (slab_cons _ _ 7 _ _ _ 1 d q).trans ?_
    simp only [slab_cons]
    simp only [trip_k0_t3.sl.v509, trip_k0_t3.sl.v506, trip_k0_t3.sl.v501, trip_k0_t3.sl.v505, trip_k0_t3.sl.v499, trip_k0_t3.sl.v500, trip_k0_t3.sl.cst_385, trip_k0_t3.sl.v495, trip_k0_t3.sl.v504, trip_k0_t3.sl.v498, trip_k0_t3.sl.v497, trip_k0_t3.sl.v494, trip_k0_t3.sl.v496, trip_k0_t3.sl.v493, trip_k0_t3.sl.v491, trip_k0_t3.sl.v431, trip_k0_t3.sl.v492, trip_k0_t3.sl.v490, trip_k0_t3.sl.cst_340, trip_k0_t3.sl.v430, trip_k0_t3.sl.v489]
    pointwise
    simp only [slab_load _ _ 1 (by decide), key_load arg5.view X_arg5 _ 1 (512 * k.val) (by decide) (by omega) (k0_off99_inb i k) (off99 i k),
      val_load arg6.view X_arg6 _ 1 k.val (by decide) hk (k0_off107_inb i k) (off107 i k)]
    rfl
  · refine (slab_cons _ _ 7 _ _ _ 2 d q).trans ?_
    simp only [slab_cons]
    simp only [trip_k0_t3.sl.v530, trip_k0_t3.sl.v527, trip_k0_t3.sl.v522, trip_k0_t3.sl.v526, trip_k0_t3.sl.v520, trip_k0_t3.sl.v521, trip_k0_t3.sl.cst_385, trip_k0_t3.sl.v516, trip_k0_t3.sl.v525, trip_k0_t3.sl.v519, trip_k0_t3.sl.v518, trip_k0_t3.sl.v515, trip_k0_t3.sl.v517, trip_k0_t3.sl.v514, trip_k0_t3.sl.v512, trip_k0_t3.sl.v437, trip_k0_t3.sl.v513, trip_k0_t3.sl.v511, trip_k0_t3.sl.cst_340, trip_k0_t3.sl.v436, trip_k0_t3.sl.v510]
    pointwise
    simp only [slab_load _ _ 2 (by decide), key_load arg5.view X_arg5 _ 2 (512 * k.val) (by decide) (by omega) (k0_off100_inb i k) (off100 i k),
      val_load arg6.view X_arg6 _ 2 k.val (by decide) hk (k0_off108_inb i k) (off108 i k)]
    rfl
  · refine (slab_cons _ _ 7 _ _ _ 3 d q).trans ?_
    simp only [slab_cons]
    simp only [trip_k0_t3.sl.v551, trip_k0_t3.sl.v548, trip_k0_t3.sl.v543, trip_k0_t3.sl.v547, trip_k0_t3.sl.v541, trip_k0_t3.sl.v542, trip_k0_t3.sl.cst_385, trip_k0_t3.sl.v537, trip_k0_t3.sl.v546, trip_k0_t3.sl.v540, trip_k0_t3.sl.v539, trip_k0_t3.sl.v536, trip_k0_t3.sl.v538, trip_k0_t3.sl.v535, trip_k0_t3.sl.v533, trip_k0_t3.sl.v443, trip_k0_t3.sl.v534, trip_k0_t3.sl.v532, trip_k0_t3.sl.cst_340, trip_k0_t3.sl.v442, trip_k0_t3.sl.v531]
    pointwise
    simp only [slab_load _ _ 3 (by decide), key_load arg5.view X_arg5 _ 3 (512 * k.val) (by decide) (by omega) (k0_off101_inb i k) (off101 i k),
      val_load arg6.view X_arg6 _ 3 k.val (by decide) hk (k0_off109_inb i k) (off109 i k)]
    rfl
  · refine (slab_cons _ _ 7 _ _ _ 4 d q).trans ?_
    simp only [slab_cons]
    simp only [trip_k0_t3.sl.v572, trip_k0_t3.sl.v569, trip_k0_t3.sl.v564, trip_k0_t3.sl.v568, trip_k0_t3.sl.v562, trip_k0_t3.sl.v563, trip_k0_t3.sl.cst_385, trip_k0_t3.sl.v558, trip_k0_t3.sl.v567, trip_k0_t3.sl.v561, trip_k0_t3.sl.v560, trip_k0_t3.sl.v557, trip_k0_t3.sl.v559, trip_k0_t3.sl.v556, trip_k0_t3.sl.v554, trip_k0_t3.sl.v449, trip_k0_t3.sl.v555, trip_k0_t3.sl.v553, trip_k0_t3.sl.cst_340, trip_k0_t3.sl.v448, trip_k0_t3.sl.v552]
    pointwise
    simp only [slab_load _ _ 4 (by decide), key_load arg5.view X_arg5 _ 4 (512 * k.val) (by decide) (by omega) (k0_off102_inb i k) (off102 i k),
      val_load arg6.view X_arg6 _ 4 k.val (by decide) hk (k0_off110_inb i k) (off110 i k)]
    rfl
  · refine (slab_cons _ _ 7 _ _ _ 5 d q).trans ?_
    simp only [slab_cons]
    simp only [trip_k0_t3.sl.v593, trip_k0_t3.sl.v590, trip_k0_t3.sl.v585, trip_k0_t3.sl.v589, trip_k0_t3.sl.v583, trip_k0_t3.sl.v584, trip_k0_t3.sl.cst_385, trip_k0_t3.sl.v579, trip_k0_t3.sl.v588, trip_k0_t3.sl.v582, trip_k0_t3.sl.v581, trip_k0_t3.sl.v578, trip_k0_t3.sl.v580, trip_k0_t3.sl.v577, trip_k0_t3.sl.v575, trip_k0_t3.sl.v455, trip_k0_t3.sl.v576, trip_k0_t3.sl.v574, trip_k0_t3.sl.cst_340, trip_k0_t3.sl.v454, trip_k0_t3.sl.v573]
    pointwise
    simp only [slab_load _ _ 5 (by decide), key_load arg5.view X_arg5 _ 5 (512 * k.val) (by decide) (by omega) (k0_off103_inb i k) (off103 i k),
      val_load arg6.view X_arg6 _ 5 k.val (by decide) hk (k0_off111_inb i k) (off111 i k)]
    rfl
  · refine (slab_cons _ _ 7 _ _ _ 6 d q).trans ?_
    simp only [slab_cons]
    simp only [trip_k0_t3.sl.v614, trip_k0_t3.sl.v611, trip_k0_t3.sl.v606, trip_k0_t3.sl.v610, trip_k0_t3.sl.v604, trip_k0_t3.sl.v605, trip_k0_t3.sl.cst_385, trip_k0_t3.sl.v600, trip_k0_t3.sl.v609, trip_k0_t3.sl.v603, trip_k0_t3.sl.v602, trip_k0_t3.sl.v599, trip_k0_t3.sl.v601, trip_k0_t3.sl.v598, trip_k0_t3.sl.v596, trip_k0_t3.sl.v461, trip_k0_t3.sl.v597, trip_k0_t3.sl.v595, trip_k0_t3.sl.cst_340, trip_k0_t3.sl.v460, trip_k0_t3.sl.v594]
    pointwise
    simp only [slab_load _ _ 6 (by decide), key_load arg5.view X_arg5 _ 6 (512 * k.val) (by decide) (by omega) (k0_off104_inb i k) (off104 i k),
      val_load arg6.view X_arg6 _ 6 k.val (by decide) hk (k0_off112_inb i k) (off112 i k)]
    rfl
  · refine (slab_cons _ _ 7 _ _ _ 7 d q).trans ?_
    rw [if_pos (by decide)]
    simp only [trip_k0_t3.sl.v621, trip_k0_t3.sl.v627, trip_k0_t3.sl.v620, trip_k0_t3.sl.v625, trip_k0_t3.sl.v626, trip_k0_t3.sl.v619, trip_k0_t3.sl.v624, trip_k0_t3.sl.v623, trip_k0_t3.sl.v467, trip_k0_t3.sl.v618, trip_k0_t3.sl.v622, trip_k0_t3.sl.cst_340, trip_k0_t3.sl.v466, trip_k0_t3.sl.v617, trip_k0_t3.sl.v616, trip_k0_t3.sl.v615, k0_pay205]
    pointwise
    simp only [slab_load _ _ 7 (by decide), key_load arg5.view X_arg5 _ 7 (512 * k.val) (by decide) (by omega) (k0_off105_inb i k) (off105 i k),
      val_load arg6.view X_arg6 _ 7 k.val (by decide) hk (k0_off113_inb i k) (off113 i k)]
    rfl

end Cert.Kernel2Ideal.Fox
end
-- ==== Proof.Fox.Math.lean ====
/- The extended-real arithmetic of a softmax numerator kept with a running maximum. -/
module

public import Idealize.ShloMosaic.PureOps.Ideal

@[expose] public section

namespace Cert.Fox

open Idealize.ShloMosaic

/-- A difference from above is a real at most zero, or `⊥`; so its power of two is a real that is
    not negative. -/
theorem exp2_sub_real {m m' : EReal} (h : m ≤ m') : ∃ r : ℝ, 0 ≤ r ∧ Ideal.exp2 (m - m') = (r : EReal) := by
  induction m' with
  | bot =>
    obtain rfl : m = ⊥ := le_bot_iff.mp h
    exact ⟨0, le_rfl, by rw [show ((⊥ : EReal) - ⊥) = ⊥ from rfl]; simp⟩
  | top => exact ⟨0, le_rfl, by rw [show (m - (⊤ : EReal)) = ⊥ from by induction m <;> rfl]; simp⟩
  | coe r' =>
    induction m with
    | bot => exact ⟨0, le_rfl, by rw [show ((⊥ : EReal) - (r' : EReal)) = ⊥ from rfl]; simp⟩
    | top => exact absurd h (by simp)
    | coe r =>
      refine ⟨Real.rpow 2 (r - r'), Real.rpow_nonneg (by norm_num) _, ?_⟩
      rw [← EReal.coe_sub, Ideal.exp2_coe]

/-- Moving a weight from one shift to a greater one. -/
theorem exp2_shift {s m m' : EReal} (h : s ≤ m) (h' : m ≤ m') :
    Ideal.exp2 (s - m) * Ideal.exp2 (m - m') = Ideal.exp2 (s - m') := by
  induction m' with
  | bot =>
    obtain rfl : m = ⊥ := le_bot_iff.mp h'
    obtain rfl : s = ⊥ := le_bot_iff.mp h
    rw [show ((⊥ : EReal) - ⊥) = ⊥ from rfl]; simp
  | top =>
    rw [show (m - (⊤ : EReal)) = ⊥ from by induction m <;> rfl, show (s - (⊤ : EReal)) = ⊥ from by induction s <;> rfl]
    simp
  | coe r' =>
    induction m with
    | bot =>
      obtain rfl : s = ⊥ := le_bot_iff.mp h
      rw [show ((⊥ : EReal) - ⊥) = ⊥ from rfl, show ((⊥ : EReal) - (r' : EReal)) = ⊥ from rfl]; simp
    | top => exact absurd h' (by simp)
    | coe r =>
      induction s with
      | bot => rw [show ((⊥ : EReal) - (r' : EReal)) = ⊥ from rfl, show ((⊥ : EReal) - (r : EReal)) = ⊥ from rfl]; simp
      | top => exact absurd h (by simp)
      | coe t =>
        rw [← EReal.coe_sub, ← EReal.coe_sub, ← EReal.coe_sub, Ideal.exp2_coe, Ideal.exp2_coe, Ideal.exp2_coe, ← EReal.coe_mul]
        congr 1
        have := Real.rpow_add (x := 2) (by norm_num) (t - r) (r - r')
        rw [show t - r + (r - r') = t - r' by ring] at this
        exact this.symm

/-- The weight of what the mask leaves out is zero, whatever the shift. -/
theorem exp2_bot_sub (x : EReal) : Ideal.exp2 ((⊥ : EReal) - x) = 0 := by
  rw [show ((⊥ : EReal) - x) = ⊥ from by rw [sub_eq_add_neg, EReal.bot_add]]; simp

/-- A real that is not negative distributes over a finite sum. -/
theorem sum_mul_real {ι : Type} (A : Finset ι) (f : ι → EReal) {r : ℝ} (hr : 0 ≤ r) :
    (∑ k ∈ A, f k) * (r : EReal) = ∑ k ∈ A, f k * (r : EReal) := by
  classical
  induction A using Finset.induction_on with
  | empty => simp
  | insert a A ha ih =>
    rw [Finset.sum_insert ha, Finset.sum_insert ha, EReal.right_distrib_of_nonneg_of_ne_top (by exact_mod_cast hr) (EReal.coe_ne_top r), ih]

/-- Rescaling a numerator: a sum of values weighed at shift `m`, taken to a greater shift `m'`. -/
theorem sum_rescale {ι : Type} (A : Finset ι) (v s : ι → EReal) {m m' : EReal} (hs : ∀ k ∈ A, s k ≤ m) (h : m ≤ m') :
    (∑ k ∈ A, v k * Ideal.exp2 (s k - m)) * Ideal.exp2 (m - m') = ∑ k ∈ A, v k * Ideal.exp2 (s k - m') := by
  obtain ⟨r, hr, e⟩ := exp2_sub_real h
  rw [e, sum_mul_real A _ hr, ← e]
  exact Finset.sum_congr rfl fun k hk => by rw [mul_assoc, exp2_shift (hs k hk) h]

/-! ### A row's numerator over key tiles of 512, with a running maximum -/

section Row

variable (sm vm : Fin 16 → EReal) (st vt : ℕ → Fin 512 → EReal)

/-- The running maximum of a row's scores: the meta keys' and the first `n` tiles'. -/
noncomputable def mAt : ℕ → EReal
  | 0 => Finset.univ.sup sm
  | n + 1 => max (mAt n) (Finset.univ.sup (st n))

/-- The running numerator: rescaled to the new maximum, then the tile's weights added. -/
noncomputable def accAt : ℕ → EReal
  | 0 => ∑ k, vm k * Ideal.exp2 (sm k - mAt sm st 0)
  | n + 1 => accAt n * Ideal.exp2 (mAt sm st n - mAt sm st (n + 1)) + ∑ s, vt n s * Ideal.exp2 (st n s - mAt sm st (n + 1))

theorem mAt_le_succ (n : ℕ) : mAt sm st n ≤ mAt sm st (n + 1) := le_max_left _ _

theorem mAt_mono : Monotone (mAt sm st) := monotone_nat_of_le_succ (mAt_le_succ sm st)

theorem sm_le (k : Fin 16) (n : ℕ) : sm k ≤ mAt sm st n :=
  le_trans (Finset.le_sup (f := sm) (Finset.mem_univ k)) (mAt_mono sm st (Nat.zero_le n))

theorem st_le (s : Fin 512) {j n : ℕ} (h : j < n) : st j s ≤ mAt sm st n :=
  le_trans (le_trans (Finset.le_sup (f := st j) (Finset.mem_univ s)) (le_max_right _ _)) (mAt_mono sm st h)

theorem mAt_eq (n : ℕ) :
    mAt sm st n = max (Finset.univ.sup sm) ((Finset.range n).sup fun j => Finset.univ.sup (st j)) := by
  induction n with
  | zero => simp [mAt]
  | succ n ih =>
    rw [Finset.range_add_one, Finset.sup_insert, mAt, ih, max_assoc]
    congr 1
    exact max_comm _ _

/-- What the running numerator holds: every weight at the running maximum. -/
theorem accAt_eq (n : ℕ) :
    accAt sm vm st vt n = (∑ k, vm k * Ideal.exp2 (sm k - mAt sm st n))
      + ∑ j ∈ Finset.range n, ∑ s, vt j s * Ideal.exp2 (st j s - mAt sm st n) := by
  induction n with
  | zero => simp [accAt]
  | succ n ih =>
    obtain ⟨r, hr, e⟩ := exp2_sub_real (mAt_le_succ sm st n)
    have hmeta := sum_rescale Finset.univ vm sm (fun k _ => sm_le sm st k n) (mAt_le_succ sm st n)
    have htile : (∑ j ∈ Finset.range n, ∑ s, vt j s * Ideal.exp2 (st j s - mAt sm st n)) * Ideal.exp2 (mAt sm st n - mAt sm st (n + 1))
        = ∑ j ∈ Finset.range n, ∑ s, vt j s * Ideal.exp2 (st j s - mAt sm st (n + 1)) := by
      rw [e, sum_mul_real _ _ hr, ← e]
      exact Finset.sum_congr rfl fun j hj =>
        sum_rescale Finset.univ (vt j) (st j) (fun s _ => st_le sm st s (Finset.mem_range.mp hj)) (mAt_le_succ sm st n)
    rw [accAt, ih, e, EReal.right_distrib_of_nonneg_of_ne_top (by exact_mod_cast hr) (EReal.coe_ne_top r), ← e, hmeta, htile,
      Finset.sum_range_succ, add_assoc]

/-- Tiles that agree give one maximum and one numerator. -/
theorem mAt_congr {st' : ℕ → Fin 512 → EReal} {n : ℕ} (h : ∀ j < n, st j = st' j) : mAt sm st n = mAt sm st' n := by
  induction n with
  | zero => rfl
  | succ n ih => rw [mAt, mAt, ih fun j hj => h j (by omega), h n (by omega)]

theorem accAt_congr {st' : ℕ → Fin 512 → EReal} {n : ℕ} (h : ∀ j < n, st j = st' j) :
    accAt sm vm st vt n = accAt sm vm st' vt n := by
  induction n with
  | zero => rfl
  | succ n ih =>
    rw [accAt, accAt, ih fun j hj => h j (by omega), h n (by omega), mAt_congr sm st (n := n + 1) h,
      mAt_congr sm st (n := n) fun j hj => h j (by omega)]

end Row

/-! ### 4096 keys as eight tiles of 512 -/

theorem sum_range_tiles (f : ℕ → EReal) (n : ℕ) :
    ∑ k ∈ Finset.range (512 * n), f k = ∑ j ∈ Finset.range n, ∑ s : Fin 512, f (512 * j + s) := by
  induction n with
  | zero => simp
  | succ n ih =>
    rw [show 512 * (n + 1) = 512 * n + 512 by ring, Finset.sum_range_add, ih, Finset.sum_range_succ (fun j => ∑ s : Fin 512, f (512 * j + s)) n,
      Finset.sum_range fun x => f (512 * n + x)]

/-- A sum over the keys whose terms vanish after tile `i` is the sum over the tiles up to `i`. -/
theorem sum_tiles (f : ℕ → EReal) {i : ℕ} (hi : i < 8) (h : ∀ k, 512 * (i + 1) ≤ k → f k = 0) :
    ∑ k : Fin 4096, f k = ∑ j ∈ Finset.range (i + 1), ∑ s : Fin 512, f (512 * j + s) := by
  rw [← Finset.sum_range f, ← sum_range_tiles]
  symm
  refine Finset.sum_subset (fun k hk => ?_) fun k _ hk => h k ?_
  · have := Finset.mem_range.mp hk
    exact Finset.mem_range.mpr (by omega)
  · by_contra hc
    exact hk (Finset.mem_range.mpr (by omega))

/-- The same of a maximum whose terms are `⊥` after tile `i`. -/
theorem sup_tiles (f : ℕ → EReal) {i : ℕ} (hi : i < 8) (h : ∀ k, 512 * (i + 1) ≤ k → f k = ⊥) :
    (Finset.univ.sup fun k : Fin 4096 => f k)
      = (Finset.range (i + 1)).sup fun j => Finset.univ.sup fun s : Fin 512 => f (512 * j + s) := by
  apply le_antisymm
  · refine Finset.sup_le fun k _ => ?_
    by_cases hk : k.val < 512 * (i + 1)
    · refine le_trans ?_ (Finset.le_sup (f := fun j => Finset.univ.sup fun s : Fin 512 => f (512 * j + s))
        (Finset.mem_range.mpr (show k.val / 512 < i + 1 by omega)))
      refine le_trans (le_of_eq ?_) (Finset.le_sup (f := fun s : Fin 512 => f (512 * (k.val / 512) + s))
        (Finset.mem_univ ⟨k.val % 512, by omega⟩))
      exact congrArg f (show k.val = 512 * (k.val / 512) + k.val % 512 by omega)
    · exact le_of_eq_of_le (h _ (by omega)) bot_le
  · refine Finset.sup_le fun j hj => Finset.sup_le fun s _ => ?_
    have := Finset.mem_range.mp hj
    have hs := s.isLt
    exact Finset.le_sup (f := fun k : Fin 4096 => f k) (Finset.mem_univ ⟨512 * j + s.val, by omega⟩)

end Cert.Fox
-- ==== Proof.Fox.Loop.lean ====
module

public import proofs.«01_k».proof.Proof.Fox.Trip3
public import proofs.«01_k».proof.Proof.Fox.Math

@[expose] public section
set_option maxRecDepth 16384
set_option maxHeartbeats 400000
noncomputable section
namespace Cert.Kernel2Ideal.Fox
open Cert.Fox
open Cert.Kernel2Ideal Cert.Kernel2Ideal.Gen
open Idealize.ShloMosaic Idealize.ShloMosaic.TcCoe Idealize.ShloMosaic.Tactic
variable [Named Ideal]

theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val := by decide +kernel
theorem trips4 : ∀ i : grid0.Coords, (k0_t4_loop i).trips = 0 := by decide +kernel

/-- The pairs loop adds two tiles' weighted values a trip. -/
theorem loop1 (𝒱 : Variants) (c : Dev nD) (bd : Option 𝒱.V) (i : grid0.Coords) (arg3 : Memref sig .tc .smem S32 .i32) (harg3 : arg3.IsWhole) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (arg2 : BitVec 32) (v17 : FVec Ideal S80x512 .bf16) (v19 : FVec Ideal S80x512 .bf16) (v21 : FVec Ideal S80x512 .bf16) (v23 : FVec Ideal S80x512 .bf16) (v25 : FVec Ideal S80x512 .bf16) (v27 : FVec Ideal S80x512 .bf16) (v29 : FVec Ideal S80x512 .bf16) (v31 : FVec Ideal S80x512 .bf16) (v249 : FVec Ideal S80x512 .f32) (X_arg5 : BufTy.Contents (Elt Ideal) arg5.view.ty) (X_arg6 : BufTy.Contents (Elt Ideal) arg6.view.ty) (G : BufTy.Contents (Elt Ideal) arg12.view.ty) (h : Fin 8) (d : Fin 80) (q : Fin 512) (n : ℕ) (hn : n ≤ (k0_t1_loop i).trips) :
    arg12.view.read (Elt Ideal) (arg12.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v249 X_arg5 X_arg6 G n)) (ix4 0 h d q)
      = arg12.view.read (Elt Ideal) G (ix4 0 h d q)
        + ∑ j ∈ Finset.range (2 * n), ∑ s, tileV (arg6.view.read (Elt Ideal) X_arg6) h j d s * Ideal.exp2 (tileS (arg5.view.read (Elt Ideal) X_arg5) (![v17, v19, v21, v23, v25, v27, v29, v31] h) h j s q) := by
  induction n with
  | zero => simp; rfl
  | succ n ih =>
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v249 X_arg5 X_arg6 G ⟨n, hn⟩
    dsimp only at e
    rw [e, View.writes_append, trip1, ih (by omega), show 2 * (n + 1) = 2 * n + 1 + 1 by ring, Finset.sum_range_succ, Finset.sum_range_succ]
    simp only [add_assoc]

/-- The loop with a running maximum keeps every head's maximum and rescaled sums. -/
theorem loop3 (𝒱 : Variants) (c : Dev nD) (bd : Option 𝒱.V) (i : grid0.Coords) (arg3 : Memref sig .tc .smem S32 .i32) (harg3 : arg3.IsWhole) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (arg2 : BitVec 32) (v17 : FVec Ideal S80x512 .bf16) (v19 : FVec Ideal S80x512 .bf16) (v21 : FVec Ideal S80x512 .bf16) (v23 : FVec Ideal S80x512 .bf16) (v25 : FVec Ideal S80x512 .bf16) (v27 : FVec Ideal S80x512 .bf16) (v29 : FVec Ideal S80x512 .bf16) (v31 : FVec Ideal S80x512 .bf16) (v41 : FVec Ideal S1x512 .f32) (v56 : FVec Ideal S1x512 .f32) (v71 : FVec Ideal S1x512 .f32) (v86 : FVec Ideal S1x512 .f32) (v101 : FVec Ideal S1x512 .f32) (v116 : FVec Ideal S1x512 .f32) (v131 : FVec Ideal S1x512 .f32) (v144 : FVec Ideal S16x512 .f32) (v146 : FVec Ideal S1x512 .f32) (X_arg5 : BufTy.Contents (Elt Ideal) arg5.view.ty) (X_arg6 : BufTy.Contents (Elt Ideal) arg6.view.ty) (G : BufTy.Contents (Elt Ideal) arg12.view.ty) (init : FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32)
    (h : Fin 8) (q : Fin 512) (sm : Fin 16 → EReal) (vm : Fin 80 → Fin 16 → EReal)
    (hi : comp8 init h (ix2 0 q) = Finset.univ.sup sm)
    (hG : ∀ d, arg12.view.read (Elt Ideal) G (ix4 0 h d q) = ∑ k, vm d k * Ideal.exp2 (sm k - Finset.univ.sup sm))
    (n : ℕ) (hn : n ≤ (k0_t3_loop i).trips) :
    comp8 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).1 h (ix2 0 q) = mAt sm (fun j s => tileS (arg5.view.read (Elt Ideal) X_arg5) (![v17, v19, v21, v23, v25, v27, v29, v31] h) h j s q) n
      ∧ ∀ d, arg12.view.read (Elt Ideal) (arg12.view.writes (Elt Ideal) G ((st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).2)) (ix4 0 h d q)
        = accAt sm (vm d) (fun j s => tileS (arg5.view.read (Elt Ideal) X_arg5) (![v17, v19, v21, v23, v25, v27, v29, v31] h) h j s q) (fun j s => tileV (arg6.view.read (Elt Ideal) X_arg6) h j d s) n := by
  induction n with
  | zero => exact ⟨hi, hG⟩
  | succ n ih =>
    obtain ⟨ihm, iha⟩ := ih (by omega)
    have e := st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init ⟨n, hn⟩
    dsimp only at e
    have hm := trip3R 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 ⟨n, hn⟩ (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).1 (arg12.view.writes (Elt Ideal) G ((st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).2)) h q
    rw [ihm] at hm
    refine ⟨by rw [e]; exact hm, fun d => ?_⟩
    rw [e, View.writes_append]
    rw [trip3L 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 ⟨n, hn⟩ (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).1 (arg12.view.writes (Elt Ideal) G ((st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v17 v19 v21 v23 v25 v27 v29 v31 v41 v56 v71 v86 v101 v116 v131 v144 v146 X_arg5 X_arg6 G init n).2)) h d q (mAt sm (fun j s => tileS (arg5.view.read (Elt Ideal) X_arg5) (![v17, v19, v21, v23, v25, v27, v29, v31] h) h j s q) (n + 1)) (by rw [ihm]; rfl), iha, ihm, accAt, mul_comm (accAt _ _ _ _ _)]

end Cert.Kernel2Ideal.Fox
end
-- ==== Proof.Fox.First.lean ====
module

public import proofs.«01_k».proof.Proof.Fox.Loop

@[expose] public section
set_option maxRecDepth 16384
set_option maxHeartbeats 400000
noncomputable section
namespace Cert.Kernel2Ideal.Fox
open Cert.Fox
open Cert.Kernel2Ideal Cert.Kernel2Ideal.Gen
open Idealize.ShloMosaic Idealize.ShloMosaic.TcCoe Idealize.ShloMosaic.Tactic

/-- The queries of head `h` of a tile. -/
def qOf (x0 : S1x1x8x80x512.Idx → EReal) (h : Fin 8) : S80x512.Idx → EReal := fun j => x0 (ix5 0 0 h (j 0) (j 1))

/-- The score of a prefix key. -/
def metaS (Km : S1x8x16x128.Idx → EReal) (Q : S80x512.Idx → EReal) (h : Fin 8) (k : Fin 16) (q : Fin 512) : EReal :=
  ∑ d : Fin 80, Km (ix4 0 h k ⟨d.val, by omega⟩) * Q (ix2 d q)

/-- Row `d` of the value of a prefix key. -/
def metaV (Vm : S1x1x8x80x128.Idx → EReal) (h : Fin 8) (d : Fin 80) (k : Fin 16) : EReal :=
  Vm (ix5 0 0 h d ⟨k.val, by omega⟩)

/-- The scores of the queries' own tile: a key after the query is masked. -/
def diagS (K : S1x8x4096x128.Idx → EReal) (Q : S80x512.Idx → EReal) (h : Fin 8) (j : ℕ) (s q : Fin 512) : EReal :=
  if s.val ≤ q.val then tileS K Q h j s q else ⊥

theorem sel_mask (x q : Fin 512) (a : EReal) (b : BitVec 32) :
    Scalar.select (IntOp.cmpi CmpIPredicate.sle (BitVec.ofNat 32 x.val) (BitVec.ofNat 32 q.val)) a
      (Named.named (F := Ideal) κ "mask" (φ := .f32) b) = if x.val ≤ q.val then a else ⊥ := by
  have hc : IntOp.cmpi CmpIPredicate.sle (BitVec.ofNat 32 x.val) (BitVec.ofNat 32 q.val) = if x.val ≤ q.val then 1#1 else 0#1 := by
    have e : ∀ n : ℕ, n < 512 → (BitVec.ofNat 32 n).toInt = n := fun n hn => by
      rw [BitVec.toInt_eq_toNat_of_lt (by rw [BitVec.toNat_ofNat]; omega), BitVec.toNat_ofNat]; omega
    simp only [IntOp.cmpi, BitVec.sle_eq_decide, e _ x.isLt, e _ q.isLt, Nat.cast_le]
    by_cases h : x.val ≤ q.val <;> simp [h]
  rw [hc]
  by_cases h : x.val ≤ q.val
  · simp [h, Scalar.select]
  · simp only [h, if_false, Scalar.select]; rfl

/-- A load of one head's queries. -/
theorem q_load (v : View sig .tc .vmem S1x1x8x80x512 .bf16) (f : v.ty.Contents (Elt Ideal)) (h : ℕ) (hh : h < 8)
    (inb : ∀ a, (![0, 0, h, 0, 0] : Fin 5 → ℕ) a + (![1, 1, 1, 80, 512] : Fin 5 → ℕ) a ≤ S1x1x8x80x512.size a) (d : Fin 80) (k : Fin 512) :
    v.readAt (Elt Ideal) (Rect.unit (s := S1x1x8x80x512) ![0, 0, h, 0, 0] ![1, 1, 1, 80, 512] inb).toLoadRect f
      (ix5 (0 : Fin 1) (0 : Fin 1) (0 : Fin 1) d k) = v.read (Elt Ideal) f (ix5 0 0 ⟨h, hh⟩ d k) := by
  refine congrArg (v.read (Elt Ideal) f) (funext fun a => Fin.ext ?_)
  fin_cases a
  · rfl
  · rfl
  · rfl
  · show 0 + 1 * d.val = d.val; omega
  · show 0 + 1 * k.val = k.val; omega

/-- A load of one head's prefix keys. -/
theorem mkey_load (v : View sig .tc .vmem S1x8x16x128 .bf16) (f : v.ty.Contents (Elt Ideal)) (h : ℕ) (hh : h < 8)
    (inb : ∀ a, (![0, h, 0, 0] : Fin 4 → ℕ) a + (![1, 1, 16, 80] : Fin 4 → ℕ) a ≤ S1x8x16x128.size a) (k : Fin 16) (d : Fin 80) :
    v.readAt (Elt Ideal) (Rect.unit (s := S1x8x16x128) ![0, h, 0, 0] ![1, 1, 16, 80] inb).toLoadRect f
      (ix4 (0 : Fin 1) (0 : Fin 1) k d) = v.read (Elt Ideal) f (ix4 0 ⟨h, hh⟩ k ⟨d.val, by omega⟩) := by
  refine congrArg (v.read (Elt Ideal) f) (funext fun a => Fin.ext ?_)
  fin_cases a
  · rfl
  · rfl
  · show 0 + 1 * k.val = k.val; omega
  · show 0 + 1 * d.val = d.val; omega

/-- A load of one head's prefix values. -/
theorem mval_load (v : View sig .tc .vmem S1x1x8x80x128 .bf16) (f : v.ty.Contents (Elt Ideal)) (h : ℕ) (hh : h < 8)
    (inb : ∀ a, (![0, 0, h, 0, 0] : Fin 5 → ℕ) a + (![1, 1, 1, 80, 16] : Fin 5 → ℕ) a ≤ S1x1x8x80x128.size a) (d : Fin 80) (k : Fin 16) :
    v.readAt (Elt Ideal) (Rect.unit (s := S1x1x8x80x128) ![0, 0, h, 0, 0] ![1, 1, 1, 80, 16] inb).toLoadRect f
      (ix5 (0 : Fin 1) (0 : Fin 1) (0 : Fin 1) d k) = v.read (Elt Ideal) f (ix5 0 0 ⟨h, hh⟩ d ⟨k.val, by omega⟩) := by
  refine congrArg (v.read (Elt Ideal) f) (funext fun a => Fin.ext ?_)
  fin_cases a
  · rfl
  · rfl
  · rfl
  · show 0 + 1 * d.val = d.val; omega
  · show 0 + 1 * k.val = k.val; omega

theorem off2 : ∀ i : grid0.Coords, k0_off2 i = ![0, 0, 512 * (i 2).val, 0] := by decide +kernel
theorem off4 : ∀ i : grid0.Coords, k0_off4 i = ![0, (i 2).val, 0, 0, 0] := by decide +kernel
theorem off3 : ∀ i : grid0.Coords, k0_off3 i = ![0, 1, 512 * (i 2).val, 0] := by decide +kernel
theorem off6 : ∀ i : grid0.Coords, k0_off6 i = ![0, (i 2).val, 1, 0, 0] := by decide +kernel
theorem off5 : ∀ i : grid0.Coords, k0_off5 i = ![0, 2, 512 * (i 2).val, 0] := by decide +kernel
theorem off8 : ∀ i : grid0.Coords, k0_off8 i = ![0, (i 2).val, 2, 0, 0] := by decide +kernel
theorem off7 : ∀ i : grid0.Coords, k0_off7 i = ![0, 3, 512 * (i 2).val, 0] := by decide +kernel
theorem off10 : ∀ i : grid0.Coords, k0_off10 i = ![0, (i 2).val, 3, 0, 0] := by decide +kernel
theorem off9 : ∀ i : grid0.Coords, k0_off9 i = ![0, 4, 512 * (i 2).val, 0] := by decide +kernel
theorem off12 : ∀ i : grid0.Coords, k0_off12 i = ![0, (i 2).val, 4, 0, 0] := by decide +kernel
theorem off11 : ∀ i : grid0.Coords, k0_off11 i = ![0, 5, 512 * (i 2).val, 0] := by decide +kernel
theorem off14 : ∀ i : grid0.Coords, k0_off14 i = ![0, (i 2).val, 5, 0, 0] := by decide +kernel
theorem off13 : ∀ i : grid0.Coords, k0_off13 i = ![0, 6, 512 * (i 2).val, 0] := by decide +kernel
theorem off16 : ∀ i : grid0.Coords, k0_off16 i = ![0, (i 2).val, 6, 0, 0] := by decide +kernel
theorem off15 : ∀ i : grid0.Coords, k0_off15 i = ![0, 7, 512 * (i 2).val, 0] := by decide +kernel
theorem off17 : ∀ i : grid0.Coords, k0_off17 i = ![0, (i 2).val, 7, 0, 0] := by decide +kernel
theorem tile_lt : ∀ i : grid0.Coords, (i 2).val < 8 := fun i => (i 2).isLt

end Cert.Kernel2Ideal.Fox
end
-- ==== Proof.Fox.FirstB.lean ====
module

public import proofs.«01_k».proof.Proof.Fox.RunB
public import proofs.«01_k».proof.Proof.Fox.First

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

/-- The eight heads' queries as the body reads them. -/
theorem q8B (c : Dev nD) (arg4 : Memref sig .tc .vmem S1x1x8x80x512 .bf16) (harg4 : arg4.IsWhole) (x0 : Vec Ideal S1x1x8x80x512 .bf16) (h : Fin 8) :
    (![runB.sl.r_1 c arg4 harg4 x0, runB.sl.r_2 c arg4 harg4 x0, runB.sl.r_3 c arg4 harg4 x0, k0_pay1 (runB.sl.v22 c arg4 harg4 x0), k0_pay2 (runB.sl.v24 c arg4 harg4 x0), k0_pay3 (runB.sl.v26 c arg4 harg4 x0), k0_pay4 (runB.sl.v28 c arg4 harg4 x0), k0_pay5 (runB.sl.v30 c arg4 harg4 x0)] : Fin 8 → FVec Ideal S80x512 .bf16) h = qOf x0 h := by
  funext j
  obtain ⟨d, q, rfl⟩ : ∃ d q, j = ix2 d q := ⟨j 0, j 1, by funext a; fin_cases a <;> rfl⟩
  fin_cases h
  · refine (show _ = (runB.sl.r_1 c arg4 harg4 x0 : FVec Ideal S80x512 .bf16) (ix2 d q) from rfl).trans ?_
    simp only [runB.sl.r_1, k0_pay241]
    pointwise
    simp only [q_load _ _ 0 (by decide), harg4.read_unread]
    rfl
  · refine (show _ = (runB.sl.r_2 c arg4 harg4 x0 : FVec Ideal S80x512 .bf16) (ix2 d q) from rfl).trans ?_
    simp only [runB.sl.r_2, k0_pay242]
    pointwise
    simp only [q_load _ _ 1 (by decide), harg4.read_unread]
    rfl
  · refine (show _ = (runB.sl.r_3 c arg4 harg4 x0 : FVec Ideal S80x512 .bf16) (ix2 d q) from rfl).trans ?_
    simp only [runB.sl.r_3, k0_pay243]
    pointwise
    simp only [q_load _ _ 2 (by decide), harg4.read_unread]
    rfl
  · refine (show _ = (k0_pay1 (runB.sl.v22 c arg4 harg4 x0) : FVec Ideal S80x512 .bf16) (ix2 d q) from rfl).trans ?_
    simp only [runB.sl.v22, k0_pay1]
    pointwise
    simp only [q_load _ _ 3 (by decide), harg4.read_unread]
    rfl
  · refine (show _ = (k0_pay2 (runB.sl.v24 c arg4 harg4 x0) : FVec Ideal S80x512 .bf16) (ix2 d q) from rfl).trans ?_
    simp only [runB.sl.v24, k0_pay2]
    pointwise
    simp only [q_load _ _ 4 (by decide), harg4.read_unread]
    rfl
  · refine (show _ = (k0_pay3 (runB.sl.v26 c arg4 harg4 x0) : FVec Ideal S80x512 .bf16) (ix2 d q) from rfl).trans ?_
    simp only [runB.sl.v26, k0_pay3]
    pointwise
    simp only [q_load _ _ 5 (by decide), harg4.read_unread]
    rfl
  · refine (show _ = (k0_pay4 (runB.sl.v28 c arg4 harg4 x0) : FVec Ideal S80x512 .bf16) (ix2 d q) from rfl).trans ?_
    simp only [runB.sl.v28, k0_pay4]
    pointwise
    simp only [q_load _ _ 6 (by decide), harg4.read_unread]
    rfl
  · refine (show _ = (k0_pay5 (runB.sl.v30 c arg4 harg4 x0) : FVec Ideal S80x512 .bf16) (ix2 d q) from rfl).trans ?_
    simp only [runB.sl.v30, k0_pay5]
    pointwise
    simp only [q_load _ _ 7 (by decide), harg4.read_unread]
    rfl

/-- What the first work leaves: the queries' own tile, masked, and the prefix. -/
theorem firstB (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (v : View sig .tc .vmem S1x8x80x512 .f32) (f : v.ty.Contents (Elt Ideal)) (h : Fin 8) (d : Fin 80) (q : Fin 512) :
    v.read (Elt Ideal) (v.writes (Elt Ideal) f (runB.sl.H8_8 (F := Ideal) c i arg4 harg4 arg5 harg5 arg6 harg6 arg7 harg7 arg8 harg8 x0 x1 x2 x3 x4)) (ix4 0 h d q)
      = (∑ s, tileV x2 h (i 2).val d s * Ideal.exp2 (diagS x1 (qOf x0 h) h (i 2).val s q))
        + ∑ k, metaV x4 h d k * Ideal.exp2 (metaS x3 (qOf x0 h) h k q) := by
  have hk := tile_lt i
  simp only [tileV, diagS, tileS, dif_pos hk]
  unfold runB.sl.H8_8
  fin_cases h
  · refine (slab_cons _ _ 7 _ _ _ 0 d q).trans ?_
    simp only [slab_cons]
    simp only [runB.sl.r_4, runB.sl.r_6, runB.sl.r_1, k0_pay241, k0_pay92, k0_pay94, k0_pay95]
    pointwise
    simp only [q_load _ _ 0 (by decide), mkey_load _ _ 0 (by decide), mval_load _ _ 0 (by decide), key_load arg5.view (harg5.unread x1) _ 0 (512 * (i 2).val) (by decide) (by omega) (k0_off2_inb i) (off2 i),
      val_load arg6.view (harg6.unread x2) _ 0 (i 2).val (by decide) hk (k0_off4_inb i) (off4 i), harg4.read_unread, harg5.read_unread, harg6.read_unread, harg7.read_unread, harg8.read_unread, sel_mask]
    rfl
  · refine (slab_cons _ _ 7 _ _ _ 1 d q).trans ?_
    simp only [slab_cons]
    simp only [runB.sl.r_5, runB.sl.r_8, runB.sl.r_2, k0_pay242, k0_pay93, k0_pay97, k0_pay98]
    pointwise
    simp only [q_load _ _ 1 (by decide), mkey_load _ _ 1 (by decide), mval_load _ _ 1 (by decide), key_load arg5.view (harg5.unread x1) _ 1 (512 * (i 2).val) (by decide) (by omega) (k0_off3_inb i) (off3 i),
      val_load arg6.view (harg6.unread x2) _ 1 (i 2).val (by decide) hk (k0_off6_inb i) (off6 i), harg4.read_unread, harg5.read_unread, harg6.read_unread, harg7.read_unread, harg8.read_unread, sel_mask]
    rfl
  · refine (slab_cons _ _ 7 _ _ _ 2 d q).trans ?_
    simp only [slab_cons]
    simp only [runB.sl.r_10, runB.sl.r_7, runB.sl.r_3, k0_pay100, k0_pay101, k0_pay243, k0_pay96]
    pointwise
    simp only [q_load _ _ 2 (by decide), mkey_load _ _ 2 (by decide), mval_load _ _ 2 (by decide), key_load arg5.view (harg5.unread x1) _ 2 (512 * (i 2).val) (by decide) (by omega) (k0_off5_inb i) (off5 i),
      val_load arg6.view (harg6.unread x2) _ 2 (i 2).val (by decide) hk (k0_off8_inb i) (off8 i), harg4.read_unread, harg5.read_unread, harg6.read_unread, harg7.read_unread, harg8.read_unread, sel_mask]
    rfl
  · refine (slab_cons _ _ 7 _ _ _ 3 d q).trans ?_
    simp only [slab_cons]
    simp only [runB.sl.r_9, runB.sl.v22, k0_pay1, k0_pay103, k0_pay99]
    pointwise
    simp only [q_load _ _ 3 (by decide), mkey_load _ _ 3 (by decide), mval_load _ _ 3 (by decide), key_load arg5.view (harg5.unread x1) _ 3 (512 * (i 2).val) (by decide) (by omega) (k0_off7_inb i) (off7 i),
      val_load arg6.view (harg6.unread x2) _ 3 (i 2).val (by decide) hk (k0_off10_inb i) (off10 i), harg4.read_unread, harg5.read_unread, harg6.read_unread, harg7.read_unread, harg8.read_unread, sel_mask]
    rfl
  · refine (slab_cons _ _ 7 _ _ _ 4 d q).trans ?_
    simp only [slab_cons]
    simp only [runB.sl.r_11, runB.sl.v24, k0_pay102, k0_pay105, k0_pay2]
    pointwise
    simp only [q_load _ _ 4 (by decide), mkey_load _ _ 4 (by decide), mval_load _ _ 4 (by decide), key_load arg5.view (harg5.unread x1) _ 4 (512 * (i 2).val) (by decide) (by omega) (k0_off9_inb i) (off9 i),
      val_load arg6.view (harg6.unread x2) _ 4 (i 2).val (by decide) hk (k0_off12_inb i) (off12 i), harg4.read_unread, harg5.read_unread, harg6.read_unread, harg7.read_unread, harg8.read_unread, sel_mask]
    rfl
  · refine (slab_cons _ _ 7 _ _ _ 5 d q).trans ?_
    simp only [slab_cons]
    simp only [runB.sl.r_12, runB.sl.v26, k0_pay104, k0_pay108, k0_pay3]
    pointwise
    simp only [q_load _ _ 5 (by decide), mkey_load _ _ 5 (by decide), mval_load _ _ 5 (by decide), key_load arg5.view (harg5.unread x1) _ 5 (512 * (i 2).val) (by decide) (by omega) (k0_off11_inb i) (off11 i),
      val_load arg6.view (harg6.unread x2) _ 5 (i 2).val (by decide) hk (k0_off14_inb i) (off14 i), harg4.read_unread, harg5.read_unread, harg6.read_unread, harg7.read_unread, harg8.read_unread, sel_mask]
    rfl
  · refine (slab_cons _ _ 7 _ _ _ 6 d q).trans ?_
    simp only [slab_cons]
    simp only [runB.sl.r_14, runB.sl.r_13, runB.sl.v28, k0_pay106, k0_pay107, k0_pay112, k0_pay4]
    pointwise
    simp only [q_load _ _ 6 (by decide), mkey_load _ _ 6 (by decide), mval_load _ _ 6 (by decide), key_load arg5.view (harg5.unread x1) _ 6 (512 * (i 2).val) (by decide) (by omega) (k0_off13_inb i) (off13 i),
      val_load arg6.view (harg6.unread x2) _ 6 (i 2).val (by decide) hk (k0_off16_inb i) (off16 i), harg4.read_unread, harg5.read_unread, harg6.read_unread, harg7.read_unread, harg8.read_unread, sel_mask]
    rfl
  · refine (slab_cons _ _ 7 _ _ _ 7 d q).trans ?_
    rw [if_pos (by decide)]
    simp only [runB.sl.r_16, runB.sl.r_15, runB.sl.v30, k0_pay109, k0_pay110, k0_pay111, k0_pay113, k0_pay114, k0_pay5]
    pointwise
    simp only [q_load _ _ 7 (by decide), mkey_load _ _ 7 (by decide), mval_load _ _ 7 (by decide), key_load arg5.view (harg5.unread x1) _ 7 (512 * (i 2).val) (by decide) (by omega) (k0_off15_inb i) (off15 i),
      val_load arg6.view (harg6.unread x2) _ 7 (i 2).val (by decide) hk (k0_off17_inb i) (off17 i), harg4.read_unread, harg5.read_unread, harg6.read_unread, harg7.read_unread, harg8.read_unread, sel_mask]
    rfl

end Cert.Kernel2Ideal.Fox
end
-- ==== Proof.Fox.Blocks.lean ====
module

public import proofs.«01_k».proof.Proof.Fox.First
public import proofs.«01_k».proof.Proof.Fox.RunsI

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

/-- A query tile's block in the safe case: its own tile masked, the prefix, then the earlier tiles. -/
def blkSafe (x0 : S1x1x8x80x512.Idx → EReal) (x1 : S1x8x4096x128.Idx → EReal) (x2 : S1x8x8x80x512.Idx → EReal) (x3 : S1x8x16x128.Idx → EReal) (x4 : S1x1x8x80x128.Idx → EReal)
    (n : ℕ) (h : Fin 8) (d : Fin 80) (q : Fin 512) : EReal :=
  ((∑ s, tileV x2 h n d s * Ideal.exp2 (diagS x1 (qOf x0 h) h n s q)) + ∑ k, metaV x4 h d k * Ideal.exp2 (metaS x3 (qOf x0 h) h k q))
    + ∑ j ∈ Finset.range n, ∑ s, tileV x2 h j d s * Ideal.exp2 (tileS x1 (qOf x0 h) h j s q)

/-- A query tile's block with a running maximum: the prefix, the earlier tiles, then its own tile masked. -/
def blkMax (x0 : S1x1x8x80x512.Idx → EReal) (x1 : S1x8x4096x128.Idx → EReal) (x2 : S1x8x8x80x512.Idx → EReal) (x3 : S1x8x16x128.Idx → EReal) (x4 : S1x1x8x80x128.Idx → EReal)
    (n : ℕ) (h : Fin 8) (d : Fin 80) (q : Fin 512) : EReal :=
  accAt (fun k => metaS x3 (qOf x0 h) h k q) (metaV x4 h d)
    (fun j s => if j < n then tileS x1 (qOf x0 h) h j s q else diagS x1 (qOf x0 h) h n s q) (fun j s => tileV x2 h j d s) (n + 1)

theorem cond1_iff : ∀ i : grid0.Coords, cond0_1 i ↔ (i 2).val % 2 = 1 := by decide +kernel

end Cert.Kernel2Ideal.Fox
end
-- ==== Proof.Fox.ValB.lean ====
module

public import proofs.«01_k».proof.Proof.Fox.FirstB
public import proofs.«01_k».proof.Proof.Fox.Blocks

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

/-- The block of an even tile in the safe case. -/
theorem valB (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) (h : Fin 8) (d : Fin 80) (q : Fin 512) :
    arg12.view.read (Elt Ideal) (arg12.view.writes (Elt Ideal) arg12.view.junk (runB (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).1) (ix4 0 h d q)
      = blkSafe x0 x1 x2 x3 x4 (i 2).val h d q := by
  have hn : (i 2).val % 2 = 0 := by
    have := (cond1_iff i).not.mp hc1; omega
  unfold runB
  dsimp only
  rw [View.writes_append, show Scf.trips (k0_t2_loop i).lb (k0_t2_loop i).ub (k0_t2_loop i).st = 0 from trips2 i]
  refine (show _ = arg12.view.read (Elt Ideal) (arg12.view.writes (Elt Ideal) arg12.view.junk _) (ix4 0 h d q) from rfl).trans ?_
  rw [View.writes_append, loop1 (n := Scf.trips (k0_t1_loop i).lb (k0_t1_loop i).ub (k0_t1_loop i).st) (hn := le_rfl), firstB, q8B,
    harg5.read_unread, harg6.read_unread, show Scf.trips (k0_t1_loop i).lb (k0_t1_loop i).ub (k0_t1_loop i).st = (i 2).val / 2 from trips1 i,
    show 2 * ((i 2).val / 2) = (i 2).val by omega]
  rfl

end Cert.Kernel2Ideal.Fox
end
-- ==== Proof.Fox.RunF.lean ====
/- The body run in one case of its branches, with the stores each output buffer ends with. -/
module

public import proofs.«01_k».proof.Proof.Fox.RunB

@[expose] public section

-- membership in a rectangle is decided coordinate by coordinate along the long axes
set_option maxRecDepth 16384

noncomputable section

namespace Cert.Kernel2Ideal.Fox

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1176000 in
/-- The body's triple in this case: the inputs as they were, each output at the stores the run finds. -/
@[irreducible] def runF (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : cond0_0 i (tbM0_0.view.readAt (Elt F) (Rect.unit (s := S32) (k0_off1 i) S1.size (k0_off1_inb i)).toLoadRect xt0 (Shape.Idx.first (numel1_S1.symm ▸ Nat.one_pos)))) (hc2 : ¬cond0_2 i (tbM0_0.view.readAt (Elt F) (Rect.unit (s := S32) (k0_off1 i) S1.size (k0_off1_inb i)).toLoadRect xt0 (Shape.Idx.first (numel1_S1.symm ▸ Nat.one_pos)))) :
      Σ' (L8 : List (View.Piece (Elt F) S1x8x80x512 .f32)) (L9 : List (View.Piece (Elt F) S32x1024 .bf16)) (L10 : List (View.Piece (Elt F) S32x5632 .bf16)), { L11 : List (View.Piece (Elt F) S128x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (arg12.view.read (Elt F) (arg12.view.writes (Elt F) arg12.view.junk L8)) ∗ owns (c : Thread nD τ) arg13 fullShare (arg13.view.read (Elt F) (arg13.view.writes (Elt F) arg13.view.junk L9)) ∗ owns (c : Thread nD τ) arg14 fullShare (arg14.view.read (Elt F) (arg14.view.writes (Elt F) arg14.view.junk L10)) ∗ owns (c : Thread nD τ) arg15 fullShare (arg15.view.read (Elt F) (arg15.view.writes (Elt F) arg15.view.junk L11)) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K } := by
    refine ⟨?_, ?_, ?_, ?_, fun E K => ?_⟩
    rotate_left 4
    simp only [cc0_fox_eq_skeleton]; unfold cc0_fox_skel
    simp only [k0_part57_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part25_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexact HT0

end Cert.Kernel2Ideal.Fox

end
-- ==== Proof.Fox.FirstF.lean ====
module

public import proofs.«01_k».proof.Proof.Fox.RunF
public import proofs.«01_k».proof.Proof.Fox.FirstB

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

/-- The eight heads' queries as the body reads them. -/
theorem q8F (c : Dev nD) (arg4 : Memref sig .tc .vmem S1x1x8x80x512 .bf16) (harg4 : arg4.IsWhole) (x0 : Vec Ideal S1x1x8x80x512 .bf16) (h : Fin 8) :
    (![runF.sl.r_1 c arg4 harg4 x0, runF.sl.r_2 c arg4 harg4 x0, runF.sl.r_3 c arg4 harg4 x0, k0_pay1 (runF.sl.v22 c arg4 harg4 x0), k0_pay2 (runF.sl.v24 c arg4 harg4 x0), k0_pay3 (runF.sl.v26 c arg4 harg4 x0), k0_pay4 (runF.sl.v28 c arg4 harg4 x0), k0_pay5 (runF.sl.v30 c arg4 harg4 x0)] : Fin 8 → FVec Ideal S80x512 .bf16) h = qOf x0 h := by
  funext j
  obtain ⟨d, q, rfl⟩ : ∃ d q, j = ix2 d q := ⟨j 0, j 1, by funext a; fin_cases a <;> rfl⟩
  fin_cases h
  · refine (show _ = (runF.sl.r_1 c arg4 harg4 x0 : FVec Ideal S80x512 .bf16) (ix2 d q) from rfl).trans ?_
    simp only [runF.sl.r_1, k0_pay241]
    pointwise
    simp only [q_load _ _ 0 (by decide), harg4.read_unread]
    rfl
  · refine (show _ = (runF.sl.r_2 c arg4 harg4 x0 : FVec Ideal S80x512 .bf16) (ix2 d q) from rfl).trans ?_
    simp only [runF.sl.r_2, k0_pay242]
    pointwise
    simp only [q_load _ _ 1 (by decide), harg4.read_unread]
    rfl
  · refine (show _ = (runF.sl.r_3 c arg4 harg4 x0 : FVec Ideal S80x512 .bf16) (ix2 d q) from rfl).trans ?_
    simp only [runF.sl.r_3, k0_pay243]
    pointwise
    simp only [q_load _ _ 2 (by decide), harg4.read_unread]
    rfl
  · refine (show _ = (k0_pay1 (runF.sl.v22 c arg4 harg4 x0) : FVec Ideal S80x512 .bf16) (ix2 d q) from rfl).trans ?_
    simp only [runF.sl.v22, k0_pay1]
    pointwise
    simp only [q_load _ _ 3 (by decide), harg4.read_unread]
    rfl
  · refine (show _ = (k0_pay2 (runF.sl.v24 c arg4 harg4 x0) : FVec Ideal S80x512 .bf16) (ix2 d q) from rfl).trans ?_
    simp only [runF.sl.v24, k0_pay2]
    pointwise
    simp only [q_load _ _ 4 (by decide), harg4.read_unread]
    rfl
  · refine (show _ = (k0_pay3 (runF.sl.v26 c arg4 harg4 x0) : FVec Ideal S80x512 .bf16) (ix2 d q) from rfl).trans ?_
    simp only [runF.sl.v26, k0_pay3]
    pointwise
    simp only [q_load _ _ 5 (by decide), harg4.read_unread]
    rfl
  · refine (show _ = (k0_pay4 (runF.sl.v28 c arg4 harg4 x0) : FVec Ideal S80x512 .bf16) (ix2 d q) from rfl).trans ?_
    simp only [runF.sl.v28, k0_pay4]
    pointwise
    simp only [q_load _ _ 6 (by decide), harg4.read_unread]
    rfl
  · refine (show _ = (k0_pay5 (runF.sl.v30 c arg4 harg4 x0) : FVec Ideal S80x512 .bf16) (ix2 d q) from rfl).trans ?_
    simp only [runF.sl.v30, k0_pay5]
    pointwise
    simp only [q_load _ _ 7 (by decide), harg4.read_unread]
    rfl

/-- What the first work leaves: the queries' own tile, masked, and the prefix. -/
theorem firstF (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (v : View sig .tc .vmem S1x8x80x512 .f32) (f : v.ty.Contents (Elt Ideal)) (h : Fin 8) (d : Fin 80) (q : Fin 512) :
    v.read (Elt Ideal) (v.writes (Elt Ideal) f (runF.sl.H8_8 (F := Ideal) c i arg4 harg4 arg5 harg5 arg6 harg6 arg7 harg7 arg8 harg8 x0 x1 x2 x3 x4)) (ix4 0 h d q)
      = (∑ s, tileV x2 h (i 2).val d s * Ideal.exp2 (diagS x1 (qOf x0 h) h (i 2).val s q))
        + ∑ k, metaV x4 h d k * Ideal.exp2 (metaS x3 (qOf x0 h) h k q) := by
  have hk := tile_lt i
  simp only [tileV, diagS, tileS, dif_pos hk]
  unfold runF.sl.H8_8
  fin_cases h
  · refine (slab_cons _ _ 7 _ _ _ 0 d q).trans ?_
    simp only [slab_cons]
    simp only [runF.sl.r_4, runF.sl.r_6, runF.sl.r_1, k0_pay241, k0_pay92, k0_pay94, k0_pay95]
    pointwise
    simp only [q_load _ _ 0 (by decide), mkey_load _ _ 0 (by decide), mval_load _ _ 0 (by decide), key_load arg5.view (harg5.unread x1) _ 0 (512 * (i 2).val) (by decide) (by omega) (k0_off2_inb i) (off2 i),
      val_load arg6.view (harg6.unread x2) _ 0 (i 2).val (by decide) hk (k0_off4_inb i) (off4 i), harg4.read_unread, harg5.read_unread, harg6.read_unread, harg7.read_unread, harg8.read_unread, sel_mask]
    rfl
  · refine (slab_cons _ _ 7 _ _ _ 1 d q).trans ?_
    simp only [slab_cons]
    simp only [runF.sl.r_5, runF.sl.r_8, runF.sl.r_2, k0_pay242, k0_pay93, k0_pay97, k0_pay98]
    pointwise
    simp only [q_load _ _ 1 (by decide), mkey_load _ _ 1 (by decide), mval_load _ _ 1 (by decide), key_load arg5.view (harg5.unread x1) _ 1 (512 * (i 2).val) (by decide) (by omega) (k0_off3_inb i) (off3 i),
      val_load arg6.view (harg6.unread x2) _ 1 (i 2).val (by decide) hk (k0_off6_inb i) (off6 i), harg4.read_unread, harg5.read_unread, harg6.read_unread, harg7.read_unread, harg8.read_unread, sel_mask]
    rfl
  · refine (slab_cons _ _ 7 _ _ _ 2 d q).trans ?_
    simp only [slab_cons]
    simp only [runF.sl.r_10, runF.sl.r_7, runF.sl.r_3, k0_pay100, k0_pay101, k0_pay243, k0_pay96]
    pointwise
    simp only [q_load _ _ 2 (by decide), mkey_load _ _ 2 (by decide), mval_load _ _ 2 (by decide), key_load arg5.view (harg5.unread x1) _ 2 (512 * (i 2).val) (by decide) (by omega) (k0_off5_inb i) (off5 i),
      val_load arg6.view (harg6.unread x2) _ 2 (i 2).val (by decide) hk (k0_off8_inb i) (off8 i), harg4.read_unread, harg5.read_unread, harg6.read_unread, harg7.read_unread, harg8.read_unread, sel_mask]
    rfl
  · refine (slab_cons _ _ 7 _ _ _ 3 d q).trans ?_
    simp only [slab_cons]
    simp only [runF.sl.r_9, runF.sl.v22, k0_pay1, k0_pay103, k0_pay99]
    pointwise
    simp only [q_load _ _ 3 (by decide), mkey_load _ _ 3 (by decide), mval_load _ _ 3 (by decide), key_load arg5.view (harg5.unread x1) _ 3 (512 * (i 2).val) (by decide) (by omega) (k0_off7_inb i) (off7 i),
      val_load arg6.view (harg6.unread x2) _ 3 (i 2).val (by decide) hk (k0_off10_inb i) (off10 i), harg4.read_unread, harg5.read_unread, harg6.read_unread, harg7.read_unread, harg8.read_unread, sel_mask]
    rfl
  · refine (slab_cons _ _ 7 _ _ _ 4 d q).trans ?_
    simp only [slab_cons]
    simp only [runF.sl.r_11, runF.sl.v24, k0_pay102, k0_pay105, k0_pay2]
    pointwise
    simp only [q_load _ _ 4 (by decide), mkey_load _ _ 4 (by decide), mval_load _ _ 4 (by decide), key_load arg5.view (harg5.unread x1) _ 4 (512 * (i 2).val) (by decide) (by omega) (k0_off9_inb i) (off9 i),
      val_load arg6.view (harg6.unread x2) _ 4 (i 2).val (by decide) hk (k0_off12_inb i) (off12 i), harg4.read_unread, harg5.read_unread, harg6.read_unread, harg7.read_unread, harg8.read_unread, sel_mask]
    rfl
  · refine (slab_cons _ _ 7 _ _ _ 5 d q).trans ?_
    simp only [slab_cons]
    simp only [runF.sl.r_12, runF.sl.v26, k0_pay104, k0_pay108, k0_pay3]
    pointwise
    simp only [q_load _ _ 5 (by decide), mkey_load _ _ 5 (by decide), mval_load _ _ 5 (by decide), key_load arg5.view (harg5.unread x1) _ 5 (512 * (i 2).val) (by decide) (by omega) (k0_off11_inb i) (off11 i),
      val_load arg6.view (harg6.unread x2) _ 5 (i 2).val (by decide) hk (k0_off14_inb i) (off14 i), harg4.read_unread, harg5.read_unread, harg6.read_unread, harg7.read_unread, harg8.read_unread, sel_mask]
    rfl
  · refine (slab_cons _ _ 7 _ _ _ 6 d q).trans ?_
    simp only [slab_cons]
    simp only [runF.sl.r_14, runF.sl.r_13, runF.sl.v28, k0_pay106, k0_pay107, k0_pay112, k0_pay4]
    pointwise
    simp only [q_load _ _ 6 (by decide), mkey_load _ _ 6 (by decide), mval_load _ _ 6 (by decide), key_load arg5.view (harg5.unread x1) _ 6 (512 * (i 2).val) (by decide) (by omega) (k0_off13_inb i) (off13 i),
      val_load arg6.view (harg6.unread x2) _ 6 (i 2).val (by decide) hk (k0_off16_inb i) (off16 i), harg4.read_unread, harg5.read_unread, harg6.read_unread, harg7.read_unread, harg8.read_unread, sel_mask]
    rfl
  · refine (slab_cons _ _ 7 _ _ _ 7 d q).trans ?_
    rw [if_pos (by decide)]
    simp only [runF.sl.r_16, runF.sl.r_15, runF.sl.v30, k0_pay109, k0_pay110, k0_pay111, k0_pay113, k0_pay114, k0_pay5]
    pointwise
    simp only [q_load _ _ 7 (by decide), mkey_load _ _ 7 (by decide), mval_load _ _ 7 (by decide), key_load arg5.view (harg5.unread x1) _ 7 (512 * (i 2).val) (by decide) (by omega) (k0_off15_inb i) (off15 i),
      val_load arg6.view (harg6.unread x2) _ 7 (i 2).val (by decide) hk (k0_off17_inb i) (off17 i), harg4.read_unread, harg5.read_unread, harg6.read_unread, harg7.read_unread, harg8.read_unread, sel_mask]
    rfl

end Cert.Kernel2Ideal.Fox
end
-- ==== Proof.Fox.ValF.lean ====
module

public import proofs.«01_k».proof.Proof.Fox.FirstF
public import proofs.«01_k».proof.Proof.Fox.Blocks

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

theorem off82 : ∀ i : grid0.Coords, cond0_1 i → k0_off82 i = ![0, 0, 512 * ((i 2).val - 1), 0] := by decide +kernel
theorem off84 : ∀ i : grid0.Coords, cond0_1 i → k0_off84 i = ![0, (i 2).val - 1, 0, 0, 0] := by decide +kernel
theorem off83 : ∀ i : grid0.Coords, cond0_1 i → k0_off83 i = ![0, 1, 512 * ((i 2).val - 1), 0] := by decide +kernel
theorem off86 : ∀ i : grid0.Coords, cond0_1 i → k0_off86 i = ![0, (i 2).val - 1, 1, 0, 0] := by decide +kernel
theorem off85 : ∀ i : grid0.Coords, cond0_1 i → k0_off85 i = ![0, 2, 512 * ((i 2).val - 1), 0] := by decide +kernel
theorem off88 : ∀ i : grid0.Coords, cond0_1 i → k0_off88 i = ![0, (i 2).val - 1, 2, 0, 0] := by decide +kernel
theorem off87 : ∀ i : grid0.Coords, cond0_1 i → k0_off87 i = ![0, 3, 512 * ((i 2).val - 1), 0] := by decide +kernel
theorem off90 : ∀ i : grid0.Coords, cond0_1 i → k0_off90 i = ![0, (i 2).val - 1, 3, 0, 0] := by decide +kernel
theorem off89 : ∀ i : grid0.Coords, cond0_1 i → k0_off89 i = ![0, 4, 512 * ((i 2).val - 1), 0] := by decide +kernel
theorem off92 : ∀ i : grid0.Coords, cond0_1 i → k0_off92 i = ![0, (i 2).val - 1, 4, 0, 0] := by decide +kernel
theorem off91 : ∀ i : grid0.Coords, cond0_1 i → k0_off91 i = ![0, 5, 512 * ((i 2).val - 1), 0] := by decide +kernel
theorem off94 : ∀ i : grid0.Coords, cond0_1 i → k0_off94 i = ![0, (i 2).val - 1, 5, 0, 0] := by decide +kernel
theorem off93 : ∀ i : grid0.Coords, cond0_1 i → k0_off93 i = ![0, 6, 512 * ((i 2).val - 1), 0] := by decide +kernel
theorem off96 : ∀ i : grid0.Coords, cond0_1 i → k0_off96 i = ![0, (i 2).val - 1, 6, 0, 0] := by decide +kernel
theorem off95 : ∀ i : grid0.Coords, cond0_1 i → k0_off95 i = ![0, 7, 512 * ((i 2).val - 1), 0] := by decide +kernel
theorem off97 : ∀ i : grid0.Coords, cond0_1 i → k0_off97 i = ![0, (i 2).val - 1, 7, 0, 0] := by decide +kernel

/-- The block of an odd tile in the safe case. -/
theorem valF (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) (h : Fin 8) (d : Fin 80) (q : Fin 512) :
    arg12.view.read (Elt Ideal) (arg12.view.writes (Elt Ideal) arg12.view.junk (runF (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).1) (ix4 0 h d q)
      = blkSafe x0 x1 x2 x3 x4 (i 2).val h d q := by
  have hn : (i 2).val % 2 = 1 := (cond1_iff i).mp hc1
  have hj := tile_lt i
  have hk : (i 2).val - 1 < 8 := by omega
  have hb : ∀ (h : Fin 8) (d : Fin 80) (q : Fin 512), arg12.view.read (Elt Ideal) (arg12.view.writes (Elt Ideal) arg12.view.junk (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runF.sl.r_1 c arg4 harg4 x0) (runF.sl.r_2 c arg4 harg4 x0) (runF.sl.r_3 c arg4 harg4 x0) (k0_pay1 (runF.sl.v22 c arg4 harg4 x0)) (k0_pay2 (runF.sl.v24 c arg4 harg4 x0)) (k0_pay3 (runF.sl.v26 c arg4 harg4 x0)) (k0_pay4 (runF.sl.v28 c arg4 harg4 x0)) (k0_pay5 (runF.sl.v30 c arg4 harg4 x0)) (runF.sl.r_16 c i arg4 harg4 arg5 harg5 arg6 harg6 arg7 harg7 arg8 harg8 x0 x1 x2 x3 x4) (runF.sl.v274 i) (harg5.unread x1) (harg6.unread x2) (arg12.view.writes (Elt Ideal) arg12.view.junk (pb_k0_t1 Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runF.sl.r_1 c arg4 harg4 x0) (runF.sl.r_2 c arg4 harg4 x0) (runF.sl.r_3 c arg4 harg4 x0) (k0_pay1 (runF.sl.v22 c arg4 harg4 x0)) (k0_pay2 (runF.sl.v24 c arg4 harg4 x0)) (k0_pay3 (runF.sl.v26 c arg4 harg4 x0)) (k0_pay4 (runF.sl.v28 c arg4 harg4 x0)) (k0_pay5 (runF.sl.v30 c arg4 harg4 x0)) (runF.sl.r_16 c i arg4 harg4 arg5 harg5 arg6 harg6 arg7 harg7 arg8 harg8 x0 x1 x2 x3 x4) (harg5.unread x1) (harg6.unread x2) (arg12.view.writes (Elt Ideal) arg12.view.junk (runF.sl.H8_8 c i arg4 harg4 arg5 harg5 arg6 harg6 arg7 harg7 arg8 harg8 x0 x1 x2 x3 x4)) (Scf.trips (k0_t1_loop i).lb (k0_t1_loop i).ub (k0_t1_loop i).st) ++ runF.sl.H8_8 c i arg4 harg4 arg5 harg5 arg6 harg6 arg7 harg7 arg8 harg8 x0 x1 x2 x3 x4)) (Scf.trips (k0_t2_loop i).lb (k0_t2_loop i).ub (k0_t2_loop i).st) ++ (pb_k0_t1 Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runF.sl.r_1 c arg4 harg4 x0) (runF.sl.r_2 c arg4 harg4 x0) (runF.sl.r_3 c arg4 harg4 x0) (k0_pay1 (runF.sl.v22 c arg4 harg4 x0)) (k0_pay2 (runF.sl.v24 c arg4 harg4 x0)) (k0_pay3 (runF.sl.v26 c arg4 harg4 x0)) (k0_pay4 (runF.sl.v28 c arg4 harg4 x0)) (k0_pay5 (runF.sl.v30 c arg4 harg4 x0)) (runF.sl.r_16 c i arg4 harg4 arg5 harg5 arg6 harg6 arg7 harg7 arg8 harg8 x0 x1 x2 x3 x4) (harg5.unread x1) (harg6.unread x2) (arg12.view.writes (Elt Ideal) arg12.view.junk (runF.sl.H8_8 c i arg4 harg4 arg5 harg5 arg6 harg6 arg7 harg7 arg8 harg8 x0 x1 x2 x3 x4)) (Scf.trips (k0_t1_loop i).lb (k0_t1_loop i).ub (k0_t1_loop i).st) ++ runF.sl.H8_8 c i arg4 harg4 arg5 harg5 arg6 harg6 arg7 harg7 arg8 harg8 x0 x1 x2 x3 x4))) (ix4 0 h d q)
      = ((∑ s, tileV x2 h (i 2).val d s * Ideal.exp2 (diagS x1 (qOf x0 h) h (i 2).val s q)) + ∑ k, metaV x4 h d k * Ideal.exp2 (metaS x3 (qOf x0 h) h k q))
        + ∑ j ∈ Finset.range ((i 2).val - 1), ∑ s, tileV x2 h j d s * Ideal.exp2 (tileS x1 (qOf x0 h) h j s q) := by
    intro h d q
    rw [View.writes_append, show Scf.trips (k0_t2_loop i).lb (k0_t2_loop i).ub (k0_t2_loop i).st = 0 from trips2 i]
    refine (show _ = arg12.view.read (Elt Ideal) (arg12.view.writes (Elt Ideal) arg12.view.junk _) (ix4 0 h d q) from rfl).trans ?_
    rw [View.writes_append, loop1 (n := Scf.trips (k0_t1_loop i).lb (k0_t1_loop i).ub (k0_t1_loop i).st) (hn := le_rfl), firstF, q8F,
      harg5.read_unread, harg6.read_unread, show Scf.trips (k0_t1_loop i).lb (k0_t1_loop i).ub (k0_t1_loop i).st = (i 2).val / 2 from trips1 i,
      show 2 * ((i 2).val / 2) = (i 2).val - 1 by omega]
  have hs : blkSafe x0 x1 x2 x3 x4 (i 2).val h d q
      = (((∑ s, tileV x2 h (i 2).val d s * Ideal.exp2 (diagS x1 (qOf x0 h) h (i 2).val s q)) + ∑ k, metaV x4 h d k * Ideal.exp2 (metaS x3 (qOf x0 h) h k q))
        + ∑ j ∈ Finset.range ((i 2).val - 1), ∑ s, tileV x2 h j d s * Ideal.exp2 (tileS x1 (qOf x0 h) h j s q))
        + ∑ s, tileV x2 h ((i 2).val - 1) d s * Ideal.exp2 (tileS x1 (qOf x0 h) h ((i 2).val - 1) s q) := by
    unfold blkSafe
    conv_lhs => rw [show Finset.range (i 2).val = Finset.range ((i 2).val - 1 + 1) by congr 1; omega, Finset.sum_range_succ]
    simp only [add_assoc]
  rw [hs, ← hb]
  clear hs
  simp only [show ∀ s, tileV x2 h ((i 2).val - 1) d s = x2 (ix5 0 ⟨(i 2).val - 1, hk⟩ h d s) from fun s => dif_pos hk,
    show ∀ s, tileS x1 (qOf x0 h) h ((i 2).val - 1) s q = ∑ e : Fin 80, x1 (ix4 0 h ⟨512 * ((i 2).val - 1) + s.val, by omega⟩ ⟨e.val, by omega⟩) * qOf x0 h (ix2 e q) from fun s => dif_pos hk]
  unfold runF
  dsimp only
  fin_cases h
  · refine (slab_cons _ _ 7 _ _ _ 0 d q).trans ?_
    simp only [runF.sl.H8_7, runF.sl.H8_6, runF.sl.H8_5, runF.sl.H8_4, runF.sl.H8_3, runF.sl.H8_2, runF.sl.H8_1, slab_cons]
    simp only [runF.sl.v312, runF.sl.v309, runF.sl.v302, runF.sl.v308, runF.sl.v301, runF.sl.cst_282, runF.sl.v305, runF.sl.v307, runF.sl.v306, runF.sl.v294, runF.sl.cst_268, runF.sl.v293, k0_pay100, k0_pay102, k0_pay104, k0_pay106, k0_pay107, k0_pay92, k0_pay93, k0_pay94, k0_pay96, k0_pay97, k0_pay99]
    pointwise
    simp only [slab_cov _ _ 0 (by decide), runF.sl.H8_7, runF.sl.H8_6, runF.sl.H8_5, runF.sl.H8_4, runF.sl.H8_3, runF.sl.H8_2, runF.sl.H8_1, slab_cons]
    simp only [key_load arg5.view (harg5.unread x1) _ 0 (512 * ((i 2).val - 1)) (by decide) (by omega) (k0_off82_inb i hc1) (off82 i hc1),
      val_load arg6.view (harg6.unread x2) _ 0 ((i 2).val - 1) (by decide) hk (k0_off84_inb i hc1) (off84 i hc1), harg5.read_unread, harg6.read_unread]
    have hq := fun j => congrFun (q8F c arg4 harg4 x0 0) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 1 d q).trans ?_
    simp only [runF.sl.H8_7, runF.sl.H8_6, runF.sl.H8_5, runF.sl.H8_4, runF.sl.H8_3, runF.sl.H8_2, runF.sl.H8_1, slab_cons]
    simp only [runF.sl.v330, runF.sl.v327, runF.sl.v320, runF.sl.v326, runF.sl.v319, runF.sl.cst_282, runF.sl.v323, runF.sl.v325, runF.sl.v324, runF.sl.v300, runF.sl.cst_268, runF.sl.v299]
    pointwise
    simp only [slab_cov _ _ 1 (by decide), runF.sl.H8_7, runF.sl.H8_6, runF.sl.H8_5, runF.sl.H8_4, runF.sl.H8_3, runF.sl.H8_2, runF.sl.H8_1, slab_cons]
    simp only [key_load arg5.view (harg5.unread x1) _ 1 (512 * ((i 2).val - 1)) (by decide) (by omega) (k0_off83_inb i hc1) (off83 i hc1),
      val_load arg6.view (harg6.unread x2) _ 1 ((i 2).val - 1) (by decide) hk (k0_off86_inb i hc1) (off86 i hc1), harg5.read_unread, harg6.read_unread]
    have hq := fun j => congrFun (q8F c arg4 harg4 x0 1) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 2 d q).trans ?_
    simp only [runF.sl.H8_7, runF.sl.H8_6, runF.sl.H8_5, runF.sl.H8_4, runF.sl.H8_3, runF.sl.H8_2, runF.sl.H8_1, slab_cons]
    simp only [runF.sl.v348, runF.sl.v345, runF.sl.v338, runF.sl.v344, runF.sl.v337, runF.sl.cst_282, runF.sl.v341, runF.sl.v343, runF.sl.v342, runF.sl.v318, runF.sl.cst_268, runF.sl.v317]
    pointwise
    simp only [slab_cov _ _ 2 (by decide), runF.sl.H8_7, runF.sl.H8_6, runF.sl.H8_5, runF.sl.H8_4, runF.sl.H8_3, runF.sl.H8_2, runF.sl.H8_1, slab_cons]
    simp only [key_load arg5.view (harg5.unread x1) _ 2 (512 * ((i 2).val - 1)) (by decide) (by omega) (k0_off85_inb i hc1) (off85 i hc1),
      val_load arg6.view (harg6.unread x2) _ 2 ((i 2).val - 1) (by decide) hk (k0_off88_inb i hc1) (off88 i hc1), harg5.read_unread, harg6.read_unread]
    have hq := fun j => congrFun (q8F c arg4 harg4 x0 2) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 3 d q).trans ?_
    simp only [runF.sl.H8_7, runF.sl.H8_6, runF.sl.H8_5, runF.sl.H8_4, runF.sl.H8_3, runF.sl.H8_2, runF.sl.H8_1, slab_cons]
    simp only [runF.sl.v366, runF.sl.v363, runF.sl.v356, runF.sl.v362, runF.sl.v355, runF.sl.cst_282, runF.sl.v359, runF.sl.v361, runF.sl.v360, runF.sl.v336, runF.sl.cst_268, runF.sl.v335]
    pointwise
    simp only [slab_cov _ _ 3 (by decide), runF.sl.H8_7, runF.sl.H8_6, runF.sl.H8_5, runF.sl.H8_4, runF.sl.H8_3, runF.sl.H8_2, runF.sl.H8_1, slab_cons]
    simp only [key_load arg5.view (harg5.unread x1) _ 3 (512 * ((i 2).val - 1)) (by decide) (by omega) (k0_off87_inb i hc1) (off87 i hc1),
      val_load arg6.view (harg6.unread x2) _ 3 ((i 2).val - 1) (by decide) hk (k0_off90_inb i hc1) (off90 i hc1), harg5.read_unread, harg6.read_unread]
    have hq := fun j => congrFun (q8F c arg4 harg4 x0 3) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 4 d q).trans ?_
    simp only [runF.sl.H8_7, runF.sl.H8_6, runF.sl.H8_5, runF.sl.H8_4, runF.sl.H8_3, runF.sl.H8_2, runF.sl.H8_1, slab_cons]
    simp only [runF.sl.v384, runF.sl.v381, runF.sl.v374, runF.sl.v380, runF.sl.v373, runF.sl.cst_282, runF.sl.v377, runF.sl.v379, runF.sl.v378, runF.sl.v354, runF.sl.cst_268, runF.sl.v353]
    pointwise
    simp only [slab_cov _ _ 4 (by decide), runF.sl.H8_7, runF.sl.H8_6, runF.sl.H8_5, runF.sl.H8_4, runF.sl.H8_3, runF.sl.H8_2, runF.sl.H8_1, slab_cons]
    simp only [key_load arg5.view (harg5.unread x1) _ 4 (512 * ((i 2).val - 1)) (by decide) (by omega) (k0_off89_inb i hc1) (off89 i hc1),
      val_load arg6.view (harg6.unread x2) _ 4 ((i 2).val - 1) (by decide) hk (k0_off92_inb i hc1) (off92 i hc1), harg5.read_unread, harg6.read_unread]
    have hq := fun j => congrFun (q8F c arg4 harg4 x0 4) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 5 d q).trans ?_
    simp only [runF.sl.H8_7, runF.sl.H8_6, runF.sl.H8_5, runF.sl.H8_4, runF.sl.H8_3, runF.sl.H8_2, runF.sl.H8_1, slab_cons]
    simp only [runF.sl.v402, runF.sl.v399, runF.sl.v392, runF.sl.v398, runF.sl.v391, runF.sl.cst_282, runF.sl.v395, runF.sl.v397, runF.sl.v396, runF.sl.v372, runF.sl.cst_268, runF.sl.v371]
    pointwise
    simp only [slab_cov _ _ 5 (by decide), runF.sl.H8_7, runF.sl.H8_6, runF.sl.H8_5, runF.sl.H8_4, runF.sl.H8_3, runF.sl.H8_2, runF.sl.H8_1, slab_cons]
    simp only [key_load arg5.view (harg5.unread x1) _ 5 (512 * ((i 2).val - 1)) (by decide) (by omega) (k0_off91_inb i hc1) (off91 i hc1),
      val_load arg6.view (harg6.unread x2) _ 5 ((i 2).val - 1) (by decide) hk (k0_off94_inb i hc1) (off94 i hc1), harg5.read_unread, harg6.read_unread]
    have hq := fun j => congrFun (q8F c arg4 harg4 x0 5) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 6 d q).trans ?_
    simp only [runF.sl.H8_7, runF.sl.H8_6, runF.sl.H8_5, runF.sl.H8_4, runF.sl.H8_3, runF.sl.H8_2, runF.sl.H8_1, slab_cons]
    simp only [runF.sl.v390, runF.sl.v409, runF.sl.cst_268, runF.sl.v389, k0_pay90]
    pointwise
    simp only [slab_cov _ _ 6 (by decide), runF.sl.H8_7, runF.sl.H8_6, runF.sl.H8_5, runF.sl.H8_4, runF.sl.H8_3, runF.sl.H8_2, runF.sl.H8_1, slab_cons]
    simp only [key_load arg5.view (harg5.unread x1) _ 6 (512 * ((i 2).val - 1)) (by decide) (by omega) (k0_off93_inb i hc1) (off93 i hc1),
      val_load arg6.view (harg6.unread x2) _ 6 ((i 2).val - 1) (by decide) hk (k0_off96_inb i hc1) (off96 i hc1), harg5.read_unread, harg6.read_unread]
    have hq := fun j => congrFun (q8F c arg4 harg4 x0 6) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))
  · refine (slab_cons _ _ 7 _ _ _ 7 d q).trans ?_
    rw [if_pos (by decide)]
    simp only [runF.sl.r_17, runF.sl.v421, k0_pay6, k0_pay91]
    pointwise
    simp only [slab_cov _ _ 7 (by decide), runF.sl.H8_7, runF.sl.H8_6, runF.sl.H8_5, runF.sl.H8_4, runF.sl.H8_3, runF.sl.H8_2, runF.sl.H8_1, slab_cons]
    simp only [key_load arg5.view (harg5.unread x1) _ 7 (512 * ((i 2).val - 1)) (by decide) (by omega) (k0_off95_inb i hc1) (off95 i hc1),
      val_load arg6.view (harg6.unread x2) _ 7 ((i 2).val - 1) (by decide) hk (k0_off97_inb i hc1) (off97 i hc1), harg5.read_unread, harg6.read_unread]
    have hq := fun j => congrFun (q8F c arg4 harg4 x0 7) j
    refine congrArg₂ (· + ·) rfl ?_
    refine Finset.sum_congr rfl fun s _ => ?_
    refine congrArg (fun t => _ * Ideal.exp2 t) (Finset.sum_congr rfl fun e _ => ?_)
    exact congrArg (fun t => _ * t) (hq (ix2 e q))

end Cert.Kernel2Ideal.Fox
end
-- ==== Proof.Fox.RunC.lean ====
/- The body run in one case of its branches, with the stores each output buffer ends with. -/
module

public import proofs.«01_k».proof.Proof.Fox.RunF

@[expose] public section

-- membership in a rectangle is decided coordinate by coordinate along the long axes
set_option maxRecDepth 16384

noncomputable section

namespace Cert.Kernel2Ideal.Fox

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run is long)
set_option maxHeartbeats 1000000 in
/-- The body's triple in this case: the inputs as they were, each output at the stores the run finds. -/
@[irreducible] def runC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec F S1x1x8x80x512 .bf16) (x1 : Vec F S1x8x4096x128 .bf16) (x2 : Vec F S1x8x8x80x512 .bf16) (x3 : Vec F S1x8x16x128 .bf16) (x4 : Vec F S1x1x8x80x128 .bf16) (x5 : Vec F S32x1024 .f32) (x6 : Vec F S32x5632 .f32) (x7 : Vec F S128x1024 .f32) (xt0 : TbBuf0 (F := F) c tbM0_0) (hc0 : ¬cond0_0 i (tbM0_0.view.readAt (Elt F) (Rect.unit (s := S32) (k0_off1 i) S1.size (k0_off1_inb i)).toLoadRect xt0 (Shape.Idx.first (numel1_S1.symm ▸ Nat.one_pos)))) (hc2 : cond0_2 i (tbM0_0.view.readAt (Elt F) (Rect.unit (s := S32) (k0_off1 i) S1.size (k0_off1_inb i)).toLoadRect xt0 (Shape.Idx.first (numel1_S1.symm ▸ Nat.one_pos)))) :
      Σ' (L8 : List (View.Piece (Elt F) S1x8x80x512 .f32)) (L9 : List (View.Piece (Elt F) S32x1024 .bf16)) (L10 : List (View.Piece (Elt F) S32x5632 .bf16)), { L11 : List (View.Piece (Elt F) S128x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (arg12.view.read (Elt F) (arg12.view.writes (Elt F) arg12.view.junk L8)) ∗ owns (c : Thread nD τ) arg13 fullShare (arg13.view.read (Elt F) (arg13.view.writes (Elt F) arg13.view.junk L9)) ∗ owns (c : Thread nD τ) arg14 fullShare (arg14.view.read (Elt F) (arg14.view.writes (Elt F) arg14.view.junk L10)) ∗ owns (c : Thread nD τ) arg15 fullShare (arg15.view.read (Elt F) (arg15.view.writes (Elt F) arg15.view.junk L11)) ∗ tbPt0 c tbM0_0 xt0) -∗ K ⟨⟩))
          ⊢ wp frame (wpE (defs₀ (F := F)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K } := by
    refine ⟨?_, ?_, ?_, ?_, fun E K => ?_⟩
    rotate_left 4
    simp only [cc0_fox_eq_skeleton]; unfold cc0_fox_skel
    simp only [k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexact HT0

end Cert.Kernel2Ideal.Fox

end
-- ==== Proof.Fox.FirstC.lean ====
module

public import proofs.«01_k».proof.Proof.Fox.RunC
public import proofs.«01_k».proof.Proof.Fox.First
public import proofs.«01_k».proof.Proof.Fox.Blocks
public import proofs.«01_k».proof.Proof.Fox.Loop

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

/-- The eight heads' queries as the body reads them. -/
theorem q8C (c : Dev nD) (arg4 : Memref sig .tc .vmem S1x1x8x80x512 .bf16) (harg4 : arg4.IsWhole) (x0 : Vec Ideal S1x1x8x80x512 .bf16) (h : Fin 8) :
    (![runC.sl.r_1 c arg4 harg4 x0, runC.sl.r_2 c arg4 harg4 x0, runC.sl.r_3 c arg4 harg4 x0, k0_pay1 (runC.sl.v22 c arg4 harg4 x0), k0_pay2 (runC.sl.v24 c arg4 harg4 x0), k0_pay3 (runC.sl.v26 c arg4 harg4 x0), k0_pay4 (runC.sl.v28 c arg4 harg4 x0), k0_pay5 (runC.sl.v30 c arg4 harg4 x0)] : Fin 8 → FVec Ideal S80x512 .bf16) h = qOf x0 h := by
  funext j
  obtain ⟨d, q, rfl⟩ : ∃ d q, j = ix2 d q := ⟨j 0, j 1, by funext a; fin_cases a <;> rfl⟩
  fin_cases h
  · refine (show _ = (runC.sl.r_1 c arg4 harg4 x0 : FVec Ideal S80x512 .bf16) (ix2 d q) from rfl).trans ?_
    simp only [runC.sl.r_1, k0_pay241]
    pointwise
    simp only [q_load _ _ 0 (by decide), harg4.read_unread]
    rfl
  · refine (show _ = (runC.sl.r_2 c arg4 harg4 x0 : FVec Ideal S80x512 .bf16) (ix2 d q) from rfl).trans ?_
    simp only [runC.sl.r_2, k0_pay242]
    pointwise
    simp only [q_load _ _ 1 (by decide), harg4.read_unread]
    rfl
  · refine (show _ = (runC.sl.r_3 c arg4 harg4 x0 : FVec Ideal S80x512 .bf16) (ix2 d q) from rfl).trans ?_
    simp only [runC.sl.r_3, k0_pay243]
    pointwise
    simp only [q_load _ _ 2 (by decide), harg4.read_unread]
    rfl
  · refine (show _ = (k0_pay1 (runC.sl.v22 c arg4 harg4 x0) : FVec Ideal S80x512 .bf16) (ix2 d q) from rfl).trans ?_
    simp only [runC.sl.v22, k0_pay1]
    pointwise
    simp only [q_load _ _ 3 (by decide), harg4.read_unread]
    rfl
  · refine (show _ = (k0_pay2 (runC.sl.v24 c arg4 harg4 x0) : FVec Ideal S80x512 .bf16) (ix2 d q) from rfl).trans ?_
    simp only [runC.sl.v24, k0_pay2]
    pointwise
    simp only [q_load _ _ 4 (by decide), harg4.read_unread]
    rfl
  · refine (show _ = (k0_pay3 (runC.sl.v26 c arg4 harg4 x0) : FVec Ideal S80x512 .bf16) (ix2 d q) from rfl).trans ?_
    simp only [runC.sl.v26, k0_pay3]
    pointwise
    simp only [q_load _ _ 5 (by decide), harg4.read_unread]
    rfl
  · refine (show _ = (k0_pay4 (runC.sl.v28 c arg4 harg4 x0) : FVec Ideal S80x512 .bf16) (ix2 d q) from rfl).trans ?_
    simp only [runC.sl.v28, k0_pay4]
    pointwise
    simp only [q_load _ _ 6 (by decide), harg4.read_unread]
    rfl
  · refine (show _ = (k0_pay5 (runC.sl.v30 c arg4 harg4 x0) : FVec Ideal S80x512 .bf16) (ix2 d q) from rfl).trans ?_
    simp only [runC.sl.v30, k0_pay5]
    pointwise
    simp only [q_load _ _ 7 (by decide), harg4.read_unread]
    rfl

/-- The running maxima at entry: the largest score of a prefix key. -/
theorem maxC (c : Dev nD) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (h : Fin 8) (q : Fin 512) :
    comp8 (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) h (ix2 0 q) = Finset.univ.sup fun k => metaS x3 (qOf x0 h) h k q := by
  fin_cases h
  · refine (show _ = (runC.sl.r_4 c arg4 harg4 arg7 harg7 x0 x3 : FVec Ideal S1x512 .f32) (ix2 0 q) from rfl).trans ?_
    simp only [runC.sl.r_4, runC.sl.r_1, k0_pay178, k0_pay241, k0_pay177]
    pointwise
    simp only [q_load _ _ 0 (by decide), mkey_load _ _ 0 (by decide), mval_load _ _ 0 (by decide), harg4.read_unread, harg7.read_unread, harg8.read_unread]
    rfl
  · refine (show _ = (runC.sl.r_5 c arg4 harg4 arg7 harg7 x0 x3 : FVec Ideal S1x512 .f32) (ix2 0 q) from rfl).trans ?_
    simp only [runC.sl.r_5, runC.sl.r_2, k0_pay181, k0_pay242, k0_pay180]
    pointwise
    simp only [q_load _ _ 1 (by decide), mkey_load _ _ 1 (by decide), mval_load _ _ 1 (by decide), harg4.read_unread, harg7.read_unread, harg8.read_unread]
    rfl
  · refine (show _ = (runC.sl.r_7 c arg4 harg4 arg7 harg7 x0 x3 : FVec Ideal S1x512 .f32) (ix2 0 q) from rfl).trans ?_
    simp only [runC.sl.r_7, runC.sl.r_3, k0_pay185, k0_pay243, k0_pay184]
    pointwise
    simp only [q_load _ _ 2 (by decide), mkey_load _ _ 2 (by decide), mval_load _ _ 2 (by decide), harg4.read_unread, harg7.read_unread, harg8.read_unread]
    rfl
  · refine (show _ = (runC.sl.r_8 c arg4 harg4 arg7 harg7 x0 x3 : FVec Ideal S1x512 .f32) (ix2 0 q) from rfl).trans ?_
    simp only [runC.sl.r_8, runC.sl.v22, k0_pay1, k0_pay188, k0_pay187]
    pointwise
    simp only [q_load _ _ 3 (by decide), mkey_load _ _ 3 (by decide), mval_load _ _ 3 (by decide), harg4.read_unread, harg7.read_unread, harg8.read_unread]
    rfl
  · refine (show _ = (runC.sl.r_10 c arg4 harg4 arg7 harg7 x0 x3 : FVec Ideal S1x512 .f32) (ix2 0 q) from rfl).trans ?_
    simp only [runC.sl.r_10, runC.sl.v24, k0_pay192, k0_pay2, k0_pay191]
    pointwise
    simp only [q_load _ _ 4 (by decide), mkey_load _ _ 4 (by decide), mval_load _ _ 4 (by decide), harg4.read_unread, harg7.read_unread, harg8.read_unread]
    rfl
  · refine (show _ = (runC.sl.r_11 c arg4 harg4 arg7 harg7 x0 x3 : FVec Ideal S1x512 .f32) (ix2 0 q) from rfl).trans ?_
    simp only [runC.sl.r_11, runC.sl.v26, k0_pay195, k0_pay3, k0_pay194]
    pointwise
    simp only [q_load _ _ 5 (by decide), mkey_load _ _ 5 (by decide), mval_load _ _ 5 (by decide), harg4.read_unread, harg7.read_unread, harg8.read_unread]
    rfl
  · refine (show _ = (runC.sl.r_14 c arg4 harg4 arg7 harg7 x0 x3 : FVec Ideal S1x512 .f32) (ix2 0 q) from rfl).trans ?_
    simp only [runC.sl.r_14, runC.sl.v28, k0_pay200, k0_pay4, k0_pay199]
    pointwise
    simp only [q_load _ _ 6 (by decide), mkey_load _ _ 6 (by decide), mval_load _ _ 6 (by decide), harg4.read_unread, harg7.read_unread, harg8.read_unread]
    rfl
  · refine (show _ = (runC.sl.r_16 c arg4 harg4 arg7 harg7 x0 x3 : FVec Ideal S1x512 .f32) (ix2 0 q) from rfl).trans ?_
    simp only [runC.sl.r_16, runC.sl.v30, k0_pay203, k0_pay5, k0_pay202]
    pointwise
    simp only [q_load _ _ 7 (by decide), mkey_load _ _ 7 (by decide), mval_load _ _ 7 (by decide), harg4.read_unread, harg7.read_unread, harg8.read_unread]
    rfl

/-- The block at entry: the prefix's weights at its largest score. -/
theorem firstC (c : Dev nD) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (arg12' : View sig .tc .vmem S1x8x80x512 .f32) (h : Fin 8) (d : Fin 80) (q : Fin 512) :
    arg12'.read (Elt Ideal) (arg12'.writes (Elt Ideal) arg12'.junk (runC.sl.H8_8 (F := Ideal) c arg4 harg4 arg7 harg7 arg8 harg8 x0 x3 x4)) (ix4 0 h d q)
      = ∑ k, metaV x4 h d k * Ideal.exp2 (metaS x3 (qOf x0 h) h k q - Finset.univ.sup fun k => metaS x3 (qOf x0 h) h k q) := by
  unfold runC.sl.H8_8
  fin_cases h
  · refine (slab_cons _ _ 7 _ _ _ 0 d q).trans ?_
    simp only [slab_cons]
    simp only [runC.sl.r_1, k0_pay179, k0_pay241, k0_pay177, k0_pay178]
    pointwise
    simp only [q_load _ _ 0 (by decide), mkey_load _ _ 0 (by decide), mval_load _ _ 0 (by decide), harg4.read_unread, harg7.read_unread, harg8.read_unread]
    rfl
  · refine (slab_cons _ _ 7 _ _ _ 1 d q).trans ?_
    simp only [slab_cons]
    simp only [runC.sl.r_6, runC.sl.r_2, k0_pay182, k0_pay183, k0_pay242, k0_pay180, k0_pay181]
    pointwise
    simp only [q_load _ _ 1 (by decide), mkey_load _ _ 1 (by decide), mval_load _ _ 1 (by decide), harg4.read_unread, harg7.read_unread, harg8.read_unread]
    rfl
  · refine (slab_cons _ _ 7 _ _ _ 2 d q).trans ?_
    simp only [slab_cons]
    simp only [runC.sl.r_3, k0_pay186, k0_pay243, k0_pay184, k0_pay185]
    pointwise
    simp only [q_load _ _ 2 (by decide), mkey_load _ _ 2 (by decide), mval_load _ _ 2 (by decide), harg4.read_unread, harg7.read_unread, harg8.read_unread]
    rfl
  · refine (slab_cons _ _ 7 _ _ _ 3 d q).trans ?_
    simp only [slab_cons]
    simp only [runC.sl.r_9, runC.sl.v22, k0_pay1, k0_pay189, k0_pay190, k0_pay187, k0_pay188]
    pointwise
    simp only [q_load _ _ 3 (by decide), mkey_load _ _ 3 (by decide), mval_load _ _ 3 (by decide), harg4.read_unread, harg7.read_unread, harg8.read_unread]
    rfl
  · refine (slab_cons _ _ 7 _ _ _ 4 d q).trans ?_
    simp only [slab_cons]
    simp only [runC.sl.v24, k0_pay193, k0_pay2, k0_pay191, k0_pay192]
    pointwise
    simp only [q_load _ _ 4 (by decide), mkey_load _ _ 4 (by decide), mval_load _ _ 4 (by decide), harg4.read_unread, harg7.read_unread, harg8.read_unread]
    rfl
  · refine (slab_cons _ _ 7 _ _ _ 5 d q).trans ?_
    simp only [slab_cons]
    simp only [runC.sl.r_12, runC.sl.r_13, runC.sl.v26, k0_pay196, k0_pay197, k0_pay198, k0_pay3, k0_pay194, k0_pay195]
    pointwise
    simp only [q_load _ _ 5 (by decide), mkey_load _ _ 5 (by decide), mval_load _ _ 5 (by decide), harg4.read_unread, harg7.read_unread, harg8.read_unread]
    rfl
  · refine (slab_cons _ _ 7 _ _ _ 6 d q).trans ?_
    simp only [slab_cons]
    simp only [runC.sl.v28, k0_pay201, k0_pay4, k0_pay199, k0_pay200]
    pointwise
    simp only [q_load _ _ 6 (by decide), mkey_load _ _ 6 (by decide), mval_load _ _ 6 (by decide), harg4.read_unread, harg7.read_unread, harg8.read_unread]
    rfl
  · refine (slab_cons _ _ 7 _ _ _ 7 d q).trans ?_
    rw [if_pos (by decide)]
    simp only [runC.sl.r_15, runC.sl.r_16, runC.sl.v30, k0_pay202, k0_pay203, k0_pay204, k0_pay5]
    pointwise
    simp only [q_load _ _ 7 (by decide), mkey_load _ _ 7 (by decide), mval_load _ _ 7 (by decide), harg4.read_unread, harg7.read_unread, harg8.read_unread]
    rfl

end Cert.Kernel2Ideal.Fox
end
-- ==== Proof.Fox.ValC.lean ====
module

public import proofs.«01_k».proof.Proof.Fox.FirstC

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic

theorem off130 : ∀ i : grid0.Coords, k0_off130 i = ![0, 0, 512 * (i 2).val, 0] := by decide +kernel
theorem off138 : ∀ i : grid0.Coords, k0_off138 i = ![0, (i 2).val, 0, 0, 0] := by decide +kernel
theorem off131 : ∀ i : grid0.Coords, k0_off131 i = ![0, 1, 512 * (i 2).val, 0] := by decide +kernel
theorem off139 : ∀ i : grid0.Coords, k0_off139 i = ![0, (i 2).val, 1, 0, 0] := by decide +kernel
theorem off132 : ∀ i : grid0.Coords, k0_off132 i = ![0, 2, 512 * (i 2).val, 0] := by decide +kernel
theorem off140 : ∀ i : grid0.Coords, k0_off140 i = ![0, (i 2).val, 2, 0, 0] := by decide +kernel
theorem off133 : ∀ i : grid0.Coords, k0_off133 i = ![0, 3, 512 * (i 2).val, 0] := by decide +kernel
theorem off141 : ∀ i : grid0.Coords, k0_off141 i = ![0, (i 2).val, 3, 0, 0] := by decide +kernel
theorem off134 : ∀ i : grid0.Coords, k0_off134 i = ![0, 4, 512 * (i 2).val, 0] := by decide +kernel
theorem off142 : ∀ i : grid0.Coords, k0_off142 i = ![0, (i 2).val, 4, 0, 0] := by decide +kernel
theorem off135 : ∀ i : grid0.Coords, k0_off135 i = ![0, 5, 512 * (i 2).val, 0] := by decide +kernel
theorem off143 : ∀ i : grid0.Coords, k0_off143 i = ![0, (i 2).val, 5, 0, 0] := by decide +kernel
theorem off136 : ∀ i : grid0.Coords, k0_off136 i = ![0, 6, 512 * (i 2).val, 0] := by decide +kernel
theorem off144 : ∀ i : grid0.Coords, k0_off144 i = ![0, (i 2).val, 6, 0, 0] := by decide +kernel
theorem off137 : ∀ i : grid0.Coords, k0_off137 i = ![0, 7, 512 * (i 2).val, 0] := by decide +kernel
theorem off145 : ∀ i : grid0.Coords, k0_off145 i = ![0, (i 2).val, 7, 0, 0] := by decide +kernel

/-- A block with a running maximum, its last step spelt out. -/
theorem blkMax_eq (x0 : S1x1x8x80x512.Idx → EReal) (x1 : S1x8x4096x128.Idx → EReal) (x2 : S1x8x8x80x512.Idx → EReal) (x3 : S1x8x16x128.Idx → EReal) (x4 : S1x1x8x80x128.Idx → EReal)
    (n : ℕ) (h : Fin 8) (d : Fin 80) (q : Fin 512) (a m : EReal)
    (hm : m = mAt (fun k => metaS x3 (qOf x0 h) h k q) (fun j s => tileS x1 (qOf x0 h) h j s q) n)
    (ha : a = accAt (fun k => metaS x3 (qOf x0 h) h k q) (metaV x4 h d) (fun j s => tileS x1 (qOf x0 h) h j s q) (fun j s => tileV x2 h j d s) n) :
    blkMax x0 x1 x2 x3 x4 n h d q
      = Ideal.exp2 (m - max m (Finset.univ.sup fun s => diagS x1 (qOf x0 h) h n s q)) * a
        + ∑ s, tileV x2 h n d s * Ideal.exp2 (diagS x1 (qOf x0 h) h n s q - max m (Finset.univ.sup fun s => diagS x1 (qOf x0 h) h n s q)) := by
  subst hm ha
  have e : ∀ j < n, (fun s => if j < n then tileS x1 (qOf x0 h) h j s q else diagS x1 (qOf x0 h) h n s q) = fun s => tileS x1 (qOf x0 h) h j s q := by
    intro j hj; funext s; rw [if_pos hj]
  unfold blkMax
  rw [accAt, accAt_congr _ _ _ _ e, mAt, mAt_congr _ _ e, mul_comm]
  simp only [lt_irrefl, if_false]

/-- The state after the earlier tiles. -/
theorem stC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (h : Fin 8) (q : Fin 512) :
    comp8 ((st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st))).1 h (ix2 0 q) = mAt (fun k => metaS x3 (qOf x0 h) h k q) (fun j s => tileS x1 (qOf x0 h) h j s q) (i 2).val
      ∧ ∀ d, arg12.view.read (Elt Ideal) (arg12.view.writes (Elt Ideal) arg12.view.junk (((st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st))).2 ++ runC.sl.H8_8 c arg4 harg4 arg7 harg7 arg8 harg8 x0 x3 x4)) (ix4 0 h d q) = accAt (fun k => metaS x3 (qOf x0 h) h k q) (metaV x4 h d) (fun j s => tileS x1 (qOf x0 h) h j s q) (fun j s => tileV x2 h j d s) (i 2).val := by
  have e := loop3 (h := h) (q := q) (hi := maxC c arg4 harg4 arg5 harg5 arg6 harg6 arg7 harg7 arg8 harg8 x0 x1 x2 x3 x4 h q)
    (hG := fun d => firstC c arg4 harg4 arg5 harg5 arg6 harg6 arg7 harg7 arg8 harg8 x0 x1 x2 x3 x4 arg12.view h d q)
    (𝒱 := Variants.none) (c := c) (bd := none) (i := i) (arg3 := tbM0_0) (harg3 := htbM0_0) (arg2 := BitVec.ofNat 32 (i 2).val) (X_arg5 := harg5.unread x1) (X_arg6 := harg6.unread x2)
    (harg4 := harg4) (harg5 := harg5) (harg6 := harg6) (harg7 := harg7) (harg8 := harg8) (harg9 := harg9) (harg10 := harg10) (harg11 := harg11) (harg12 := harg12) (harg13 := harg13) (harg14 := harg14) (harg15 := harg15)
    (v17 := (runC.sl.r_1 c arg4 harg4 x0)) (v19 := (runC.sl.r_2 c arg4 harg4 x0)) (v21 := (runC.sl.r_3 c arg4 harg4 x0)) (v23 := (k0_pay1 (runC.sl.v22 c arg4 harg4 x0))) (v25 := (k0_pay2 (runC.sl.v24 c arg4 harg4 x0))) (v27 := (k0_pay3 (runC.sl.v26 c arg4 harg4 x0))) (v29 := (k0_pay4 (runC.sl.v28 c arg4 harg4 x0))) (v31 := (k0_pay5 (runC.sl.v30 c arg4 harg4 x0)))
    (v41 := (runC.sl.r_4 c arg4 harg4 arg7 harg7 x0 x3)) (v56 := (runC.sl.r_5 c arg4 harg4 arg7 harg7 x0 x3)) (v71 := (runC.sl.r_7 c arg4 harg4 arg7 harg7 x0 x3)) (v86 := (runC.sl.r_8 c arg4 harg4 arg7 harg7 x0 x3)) (v101 := (runC.sl.r_10 c arg4 harg4 arg7 harg7 x0 x3)) (v116 := (runC.sl.r_11 c arg4 harg4 arg7 harg7 x0 x3)) (v131 := (runC.sl.r_14 c arg4 harg4 arg7 harg7 x0 x3)) (v144 := (runC.sl.r_15 c arg4 harg4 arg7 harg7 x0 x3)) (v146 := (runC.sl.r_16 c arg4 harg4 arg7 harg7 x0 x3))
    (n := Scf.trips (k0_t3_loop i).lb (k0_t3_loop i).ub (k0_t3_loop i).st) (hn := le_rfl)
  rw [q8C, harg5.read_unread, harg6.read_unread] at e
  have e3 : Scf.trips (k0_t3_loop i).lb (k0_t3_loop i).ub (k0_t3_loop i).st = (i 2).val := trips3 i
  refine ⟨e.1.trans ?_, fun d => ?_⟩
  · rw [e3]
  · rw [View.writes_append]
    refine (e.2 d).trans ?_
    rw [e3]

/-- The running maxima before the queries' own tile. -/
theorem mC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (h : Fin 8) (q : Fin 512) :
    comp8 (runC.sl.r_17 c i arg4 harg4 arg5 harg5 arg6 harg6 arg7 harg7 arg8 harg8 arg9 harg9 arg10 harg10 arg11 harg11 arg12 harg12 arg13 harg13 arg14 harg14 arg15 harg15 x0 x1 x2 x3 x4, runC.sl.r_18 c i arg4 harg4 arg5 harg5 arg6 harg6 arg7 harg7 arg8 harg8 arg9 harg9 arg10 harg10 arg11 harg11 arg12 harg12 arg13 harg13 arg14 harg14 arg15 harg15 x0 x1 x2 x3 x4, runC.sl.r_19 c i arg4 harg4 arg5 harg5 arg6 harg6 arg7 harg7 arg8 harg8 arg9 harg9 arg10 harg10 arg11 harg11 arg12 harg12 arg13 harg13 arg14 harg14 arg15 harg15 x0 x1 x2 x3 x4, runC.sl.r_20 c i arg4 harg4 arg5 harg5 arg6 harg6 arg7 harg7 arg8 harg8 arg9 harg9 arg10 harg10 arg11 harg11 arg12 harg12 arg13 harg13 arg14 harg14 arg15 harg15 x0 x1 x2 x3 x4, runC.sl.r_21 c i arg4 harg4 arg5 harg5 arg6 harg6 arg7 harg7 arg8 harg8 arg9 harg9 arg10 harg10 arg11 harg11 arg12 harg12 arg13 harg13 arg14 harg14 arg15 harg15 x0 x1 x2 x3 x4, runC.sl.r_22 c i arg4 harg4 arg5 harg5 arg6 harg6 arg7 harg7 arg8 harg8 arg9 harg9 arg10 harg10 arg11 harg11 arg12 harg12 arg13 harg13 arg14 harg14 arg15 harg15 x0 x1 x2 x3 x4, runC.sl.r_23 c i arg4 harg4 arg5 harg5 arg6 harg6 arg7 harg7 arg8 harg8 arg9 harg9 arg10 harg10 arg11 harg11 arg12 harg12 arg13 harg13 arg14 harg14 arg15 harg15 x0 x1 x2 x3 x4, runC.sl.r_24 c i arg4 harg4 arg5 harg5 arg6 harg6 arg7 harg7 arg8 harg8 arg9 harg9 arg10 harg10 arg11 harg11 arg12 harg12 arg13 harg13 arg14 harg14 arg15 harg15 x0 x1 x2 x3 x4) h (ix2 0 q) = mAt (fun k => metaS x3 (qOf x0 h) h k q) (fun j s => tileS x1 (qOf x0 h) h j s q) (i 2).val := by
  refine Eq.trans (congrArg (fun a => comp8 a h (ix2 0 q)) ?_) (stC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h q).1
  simp only [runC.sl.r_17, runC.sl.r_18, runC.sl.r_19, runC.sl.r_20, runC.sl.r_21, runC.sl.r_22, runC.sl.r_23, runC.sl.r_24]
  rw [show Scf.trips (k0_t4_loop i).lb (k0_t4_loop i).ub (k0_t4_loop i).st = 0 from trips4 i]
  rfl

/-- The scores of the queries' own tile, masked. -/
theorem dC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (h : Fin 8) (s q : Fin 512) :
    (![runC.sl.r_25 c i arg4 harg4 arg5 harg5 x0 x1, runC.sl.r_27 c i arg4 harg4 arg5 harg5 x0 x1, runC.sl.r_28 c i arg4 harg4 arg5 harg5 x0 x1, runC.sl.r_29 c i arg4 harg4 arg5 harg5 x0 x1, runC.sl.r_30 c i arg4 harg4 arg5 harg5 x0 x1, runC.sl.r_32 c i arg4 harg4 arg5 harg5 x0 x1, runC.sl.r_33 c i arg4 harg4 arg5 harg5 x0 x1, runC.sl.r_34 c i arg4 harg4 arg5 harg5 x0 x1] : Fin 8 → FVec Ideal S512x512 .f32) h (ix2 s q) = diagS x1 (qOf x0 h) h (i 2).val s q := by
  have hk := tile_lt i
  simp only [diagS, tileS, dif_pos hk]
  fin_cases h
  · refine (show _ = (runC.sl.r_25 c i arg4 harg4 arg5 harg5 x0 x1 : FVec Ideal S512x512 .f32) (ix2 s q) from rfl).trans ?_
    simp only [runC.sl.r_25, runC.sl.r_1, k0_pay207, k0_pay241]
    pointwise
    simp only [q_load _ _ 0 (by decide), harg4.read_unread, harg5.read_unread, key_load arg5.view (harg5.unread x1) _ 0 (512 * (i 2).val) (by decide) (by omega) (k0_off130_inb i) (off130 i), sel_mask]
    rfl
  · refine (show _ = (runC.sl.r_27 c i arg4 harg4 arg5 harg5 x0 x1 : FVec Ideal S512x512 .f32) (ix2 s q) from rfl).trans ?_
    simp only [runC.sl.r_27, runC.sl.r_26, runC.sl.r_2, k0_pay208, k0_pay209, k0_pay210, k0_pay211, k0_pay242]
    pointwise
    simp only [q_load _ _ 1 (by decide), harg4.read_unread, harg5.read_unread, key_load arg5.view (harg5.unread x1) _ 1 (512 * (i 2).val) (by decide) (by omega) (k0_off131_inb i) (off131 i), sel_mask]
    rfl
  · refine (show _ = (runC.sl.r_28 c i arg4 harg4 arg5 harg5 x0 x1 : FVec Ideal S512x512 .f32) (ix2 s q) from rfl).trans ?_
    simp only [runC.sl.r_28, runC.sl.r_3, k0_pay212, k0_pay243]
    pointwise
    simp only [q_load _ _ 2 (by decide), harg4.read_unread, harg5.read_unread, key_load arg5.view (harg5.unread x1) _ 2 (512 * (i 2).val) (by decide) (by omega) (k0_off132_inb i) (off132 i), sel_mask]
    rfl
  · refine (show _ = (runC.sl.r_29 c i arg4 harg4 arg5 harg5 x0 x1 : FVec Ideal S512x512 .f32) (ix2 s q) from rfl).trans ?_
    simp only [runC.sl.r_29, runC.sl.v22, k0_pay1, k0_pay213]
    pointwise
    simp only [q_load _ _ 3 (by decide), harg4.read_unread, harg5.read_unread, key_load arg5.view (harg5.unread x1) _ 3 (512 * (i 2).val) (by decide) (by omega) (k0_off133_inb i) (off133 i), sel_mask]
    rfl
  · refine (show _ = (runC.sl.r_30 c i arg4 harg4 arg5 harg5 x0 x1 : FVec Ideal S512x512 .f32) (ix2 s q) from rfl).trans ?_
    simp only [runC.sl.r_30, runC.sl.v24, k0_pay2, k0_pay214]
    pointwise
    simp only [q_load _ _ 4 (by decide), harg4.read_unread, harg5.read_unread, key_load arg5.view (harg5.unread x1) _ 4 (512 * (i 2).val) (by decide) (by omega) (k0_off134_inb i) (off134 i), sel_mask]
    rfl
  · refine (show _ = (runC.sl.r_32 c i arg4 harg4 arg5 harg5 x0 x1 : FVec Ideal S512x512 .f32) (ix2 s q) from rfl).trans ?_
    simp only [runC.sl.r_32, runC.sl.r_31, runC.sl.v26, k0_pay215, k0_pay3]
    pointwise
    simp only [q_load _ _ 5 (by decide), harg4.read_unread, harg5.read_unread, key_load arg5.view (harg5.unread x1) _ 5 (512 * (i 2).val) (by decide) (by omega) (k0_off135_inb i) (off135 i), sel_mask]
    rfl
  · refine (show _ = (runC.sl.r_33 c i arg4 harg4 arg5 harg5 x0 x1 : FVec Ideal S512x512 .f32) (ix2 s q) from rfl).trans ?_
    simp only [runC.sl.r_33, runC.sl.v28, k0_pay216, k0_pay4]
    pointwise
    simp only [q_load _ _ 6 (by decide), harg4.read_unread, harg5.read_unread, key_load arg5.view (harg5.unread x1) _ 6 (512 * (i 2).val) (by decide) (by omega) (k0_off136_inb i) (off136 i), sel_mask]
    rfl
  · refine (show _ = (runC.sl.r_34 c i arg4 harg4 arg5 harg5 x0 x1 : FVec Ideal S512x512 .f32) (ix2 s q) from rfl).trans ?_
    simp only [runC.sl.r_34, runC.sl.v30, k0_pay217, k0_pay5]
    pointwise
    simp only [q_load _ _ 7 (by decide), harg4.read_unread, harg5.read_unread, key_load arg5.view (harg5.unread x1) _ 7 (512 * (i 2).val) (by decide) (by omega) (k0_off137_inb i) (off137 i), sel_mask]
    rfl

/-- The block of a tile with a running maximum. -/
theorem valC (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : ¬cond0_0 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) (h : Fin 8) (d : Fin 80) (q : Fin 512) :
    arg12.view.read (Elt Ideal) (arg12.view.writes (Elt Ideal) arg12.view.junk (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 hc0 hc2).1) (ix4 0 h d q)
      = blkMax x0 x1 x2 x3 x4 (i 2).val h d q := by
  have hk := tile_lt i
  have hb : ∀ (h : Fin 8) (d : Fin 80) (q : Fin 512), arg12.view.read (Elt Ideal) (arg12.view.writes (Elt Ideal) arg12.view.junk ((st_k0_t4 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (runC.sl.v161 i) (harg5.unread x1) (harg6.unread x2) (arg12.view.writes (Elt Ideal) arg12.view.junk ((st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).2 ++ runC.sl.H8_8 c arg4 harg4 arg7 harg7 arg8 harg8 x0 x3 x4)) ((st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.2.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.2.2.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.2.2.2.2.1, (st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).1.2.2.2.2.2.2.2) (Scf.trips (k0_t4_loop i).lb (k0_t4_loop i).ub (k0_t4_loop i).st)).2 ++ ((st_k0_t3 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 (BitVec.ofNat 32 ↑(i 2)) (runC.sl.r_1 c arg4 harg4 x0) (runC.sl.r_2 c arg4 harg4 x0) (runC.sl.r_3 c arg4 harg4 x0) (k0_pay1 (runC.sl.v22 c arg4 harg4 x0)) (k0_pay2 (runC.sl.v24 c arg4 harg4 x0)) (k0_pay3 (runC.sl.v26 c arg4 harg4 x0)) (k0_pay4 (runC.sl.v28 c arg4 harg4 x0)) (k0_pay5 (runC.sl.v30 c arg4 harg4 x0)) (runC.sl.r_4 c arg4 harg4 arg7 harg7 x0 x3) (runC.sl.r_5 c arg4 harg4 arg7 harg7 x0 x3) (runC.sl.r_7 c arg4 harg4 arg7 harg7 x0 x3) (runC.sl.r_8 c arg4 harg4 arg7 harg7 x0 x3) (runC.sl.r_10 c arg4 harg4 arg7 harg7 x0 x3) (runC.sl.r_11 c arg4 harg4 arg7 harg7 x0 x3) (runC.sl.r_14 c arg4 harg4 arg7 harg7 x0 x3) (runC.sl.r_15 c arg4 harg4 arg7 harg7 x0 x3) (runC.sl.r_16 c arg4 harg4 arg7 harg7 x0 x3) (harg5.unread x1) (harg6.unread x2) (arg12.view.writes (Elt Ideal) arg12.view.junk (runC.sl.H8_8 c arg4 harg4 arg7 harg7 arg8 harg8 x0 x3 x4)) (runC.sl.r_4 c arg4 harg4 arg7 harg7 x0 x3, runC.sl.r_5 c arg4 harg4 arg7 harg7 x0 x3, runC.sl.r_7 c arg4 harg4 arg7 harg7 x0 x3, runC.sl.r_8 c arg4 harg4 arg7 harg7 x0 x3, runC.sl.r_10 c arg4 harg4 arg7 harg7 x0 x3, runC.sl.r_11 c arg4 harg4 arg7 harg7 x0 x3, runC.sl.r_14 c arg4 harg4 arg7 harg7 x0 x3, runC.sl.r_16 c arg4 harg4 arg7 harg7 x0 x3) (Scf.trips (k0_t3_loop i).lb (k0_t3_loop i).ub (k0_t3_loop i).st)).2 ++ runC.sl.H8_8 c arg4 harg4 arg7 harg7 arg8 harg8 x0 x3 x4))) (ix4 0 h d q) = accAt (fun k => metaS x3 (qOf x0 h) h k q) (metaV x4 h d) (fun j s => tileS x1 (qOf x0 h) h j s q) (fun j s => tileV x2 h j d s) (i 2).val := by
    intro h d q
    refine Eq.trans ?_ ((stC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h q).2 d)
    rw [show Scf.trips (k0_t4_loop i).lb (k0_t4_loop i).ub (k0_t4_loop i).st = 0 from trips4 i]
    rfl
  rw [blkMax_eq x0 x1 x2 x3 x4 (i 2).val h d q _ _ (mC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h q) (hb h d q)]
  simp only [← dC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0, show ∀ s, tileV x2 h (i 2).val d s = x2 (ix5 0 ⟨(i 2).val, hk⟩ h d s) from fun s => dif_pos hk]
  clear hb
  unfold runC
  dsimp only
  fin_cases h
  · refine (slab_cons _ _ 7 _ _ _ 0 d q).trans ?_
    simp only [runC.sl.H8_7, runC.sl.H8_6, runC.sl.H8_5, runC.sl.H8_4, runC.sl.H8_3, runC.sl.H8_2, runC.sl.H8_1, slab_cons]
    simp only [runC.sl.r_35, runC.sl.r_36, runC.sl.r_37, runC.sl.v261, k0_pay219, k0_pay220, k0_pay221, k0_pay222, k0_pay218]
    pointwise
    simp only [slab_cov _ _ 0 (by decide), runC.sl.H8_7, runC.sl.H8_6, runC.sl.H8_5, runC.sl.H8_4, runC.sl.H8_3, runC.sl.H8_2, runC.sl.H8_1, slab_cons]
    simp only [val_load arg6.view (harg6.unread x2) _ 0 (i 2).val (by decide) hk (k0_off138_inb i) (off138 i), harg6.read_unread]
    rfl
  · refine (slab_cons _ _ 7 _ _ _ 1 d q).trans ?_
    simp only [runC.sl.H8_7, runC.sl.H8_6, runC.sl.H8_5, runC.sl.H8_4, runC.sl.H8_3, runC.sl.H8_2, runC.sl.H8_1, slab_cons]
    simp only [runC.sl.v282, k0_pay223]
    pointwise
    simp only [slab_cov _ _ 1 (by decide), runC.sl.H8_7, runC.sl.H8_6, runC.sl.H8_5, runC.sl.H8_4, runC.sl.H8_3, runC.sl.H8_2, runC.sl.H8_1, slab_cons]
    simp only [val_load arg6.view (harg6.unread x2) _ 1 (i 2).val (by decide) hk (k0_off139_inb i) (off139 i), harg6.read_unread]
    rfl
  · refine (slab_cons _ _ 7 _ _ _ 2 d q).trans ?_
    simp only [runC.sl.H8_7, runC.sl.H8_6, runC.sl.H8_5, runC.sl.H8_4, runC.sl.H8_3, runC.sl.H8_2, runC.sl.H8_1, slab_cons]
    simp only [runC.sl.r_38, runC.sl.r_39, runC.sl.v303, k0_pay224, k0_pay225, k0_pay226]
    pointwise
    simp only [slab_cov _ _ 2 (by decide), runC.sl.H8_7, runC.sl.H8_6, runC.sl.H8_5, runC.sl.H8_4, runC.sl.H8_3, runC.sl.H8_2, runC.sl.H8_1, slab_cons]
    simp only [val_load arg6.view (harg6.unread x2) _ 2 (i 2).val (by decide) hk (k0_off140_inb i) (off140 i), harg6.read_unread]
    rfl
  · refine (slab_cons _ _ 7 _ _ _ 3 d q).trans ?_
    simp only [runC.sl.H8_7, runC.sl.H8_6, runC.sl.H8_5, runC.sl.H8_4, runC.sl.H8_3, runC.sl.H8_2, runC.sl.H8_1, slab_cons]
    simp only [runC.sl.r_40, runC.sl.v324, k0_pay227, k0_pay228]
    pointwise
    simp only [slab_cov _ _ 3 (by decide), runC.sl.H8_7, runC.sl.H8_6, runC.sl.H8_5, runC.sl.H8_4, runC.sl.H8_3, runC.sl.H8_2, runC.sl.H8_1, slab_cons]
    simp only [val_load arg6.view (harg6.unread x2) _ 3 (i 2).val (by decide) hk (k0_off141_inb i) (off141 i), harg6.read_unread]
    rfl
  · refine (slab_cons _ _ 7 _ _ _ 4 d q).trans ?_
    simp only [runC.sl.H8_7, runC.sl.H8_6, runC.sl.H8_5, runC.sl.H8_4, runC.sl.H8_3, runC.sl.H8_2, runC.sl.H8_1, slab_cons]
    simp only [runC.sl.v345, k0_pay229]
    pointwise
    simp only [slab_cov _ _ 4 (by decide), runC.sl.H8_7, runC.sl.H8_6, runC.sl.H8_5, runC.sl.H8_4, runC.sl.H8_3, runC.sl.H8_2, runC.sl.H8_1, slab_cons]
    simp only [val_load arg6.view (harg6.unread x2) _ 4 (i 2).val (by decide) hk (k0_off142_inb i) (off142 i), harg6.read_unread]
    rfl
  · refine (slab_cons _ _ 7 _ _ _ 5 d q).trans ?_
    simp only [runC.sl.H8_7, runC.sl.H8_6, runC.sl.H8_5, runC.sl.H8_4, runC.sl.H8_3, runC.sl.H8_2, runC.sl.H8_1, slab_cons]
    simp only [runC.sl.r_41, runC.sl.r_42, runC.sl.r_43, runC.sl.v366, k0_pay231, k0_pay232, k0_pay233, k0_pay234, k0_pay230]
    pointwise
    simp only [slab_cov _ _ 5 (by decide), runC.sl.H8_7, runC.sl.H8_6, runC.sl.H8_5, runC.sl.H8_4, runC.sl.H8_3, runC.sl.H8_2, runC.sl.H8_1, slab_cons]
    simp only [val_load arg6.view (harg6.unread x2) _ 5 (i 2).val (by decide) hk (k0_off143_inb i) (off143 i), harg6.read_unread]
    rfl
  · refine (slab_cons _ _ 7 _ _ _ 6 d q).trans ?_
    simp only [runC.sl.H8_7, runC.sl.H8_6, runC.sl.H8_5, runC.sl.H8_4, runC.sl.H8_3, runC.sl.H8_2, runC.sl.H8_1, slab_cons]
    simp only [runC.sl.v387, k0_pay235]
    pointwise
    simp only [slab_cov _ _ 6 (by decide), runC.sl.H8_7, runC.sl.H8_6, runC.sl.H8_5, runC.sl.H8_4, runC.sl.H8_3, runC.sl.H8_2, runC.sl.H8_1, slab_cons]
    simp only [val_load arg6.view (harg6.unread x2) _ 6 (i 2).val (by decide) hk (k0_off144_inb i) (off144 i), harg6.read_unread]
    rfl
  · refine (slab_cons _ _ 7 _ _ _ 7 d q).trans ?_
    rw [if_pos (by decide)]
    simp only [runC.sl.r_44, runC.sl.r_45, runC.sl.v408, k0_pay236, k0_pay237, k0_pay7]
    pointwise
    simp only [slab_cov _ _ 7 (by decide), runC.sl.H8_7, runC.sl.H8_6, runC.sl.H8_5, runC.sl.H8_4, runC.sl.H8_3, runC.sl.H8_2, runC.sl.H8_1, slab_cons]
    simp only [val_load arg6.view (harg6.unread x2) _ 7 (i 2).val (by decide) hk (k0_off145_inb i) (off145 i), harg6.read_unread]
    rfl

end Cert.Kernel2Ideal.Fox
end
-- ==== Proof.Fox.CastI.lean ====
/- The three casts the body makes beside its block. -/
module

public import proofs.«01_k».proof.Proof.Fox.ValB
public import proofs.«01_k».proof.Proof.Fox.ValF
public import proofs.«01_k».proof.Proof.Fox.ValC
public import Idealize.ShloMosaic.Lib.Claim

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body's two halves are taken by opposite values of one bit of the flag word. -/
theorem cond_word (v : BitVec 32) : k0_cond3 v = 1#1 ↔ ¬k0_cond1 v = 1#1 := by
  unfold k0_cond1 k0_cond3
  dsimp only
  generalize Scalar.cmpi .sgt v 0#32 = b
  revert b
  decide +kernel

/-- A tile's block: safe where the flag word is positive, else with a running maximum. -/
def outBlk (x0 : S1x1x8x80x512.Idx → EReal) (x1 : S1x8x4096x128.Idx → EReal) (x2 : S1x8x8x80x512.Idx → EReal) (x3 : S1x8x16x128.Idx → EReal) (x4 : S1x1x8x80x128.Idx → EReal)
    (v : BitVec 32) (n : ℕ) : Vec Ideal S1x8x80x512 .f32 := fun j =>
  if k0_cond1 v = 1#1 then blkSafe x0 x1 x2 x3 x4 n (j 1) (j 2) (j 3) else blkMax x0 x1 x2 x3 x4 n (j 1) (j 2) (j 3)

/-- A whole buffer written at one store reads that store. -/
theorem whole_piece {s : Shape} {e : EltTy} (v : View sig .tc .vmem s e) (f : v.ty.Contents (Elt Ideal)) (off : Fin s.rank → ℕ) (ho : ∀ a, off a = 0)
    (inb : ∀ a, off a + s.size a ≤ s.size a) (w : s.Idx → Elt Ideal e) (y : s.Idx) :
    v.read (Elt Ideal) (v.writes (Elt Ideal) f [⟨Rect.unit (s := s) off s.size inb, w⟩]) y = w y :=
  View.read_writes_cons_unit_of_mem v f inb w [] y y rfl fun a => by rw [ho]; exact (Nat.zero_add _).symm

/-- A load of a whole buffer reads it. -/
theorem whole_load {s : Shape} {e : EltTy} (v : View sig .tc .vmem s e) (f : v.ty.Contents (Elt Ideal)) (off : Fin s.rank → ℕ) (ho : ∀ a, off a = 0)
    (inb : ∀ a, off a + s.size a ≤ s.size a) (y : s.Idx) :
    v.readAt (Elt Ideal) (Rect.unit (s := s) off s.size inb).toLoadRect f y = v.read (Elt Ideal) f y :=
  congrArg (v.read (Elt Ideal) f) (funext fun a => Fin.ext (by
    show off a + 1 * (y a).val = (y a).val
    rw [ho]; omega))

theorem zero2 : ∀ a : Fin 2, (![0, 0] : Fin 2 → ℕ) a = 0 := by decide

theorem pay238_at (v : Vec Ideal S32x1024 .f32) (y : S32x1024.Idx) : k0_pay238 (F := Ideal) v y = v y := rfl

theorem piece5B (c : Dev nD) (a : Memref sig .tc .vmem S32x1024 .f32) (ha : a.IsWhole) (b : Memref sig .tc .vmem S32x1024 .bf16) (x : Vec Ideal S32x1024 .f32) :
    b.view.read (Elt Ideal) (b.view.writes (Elt Ideal) b.view.junk (runB.sl.H9_1 (F := Ideal) c a ha x)) = x := by
  funext y
  unfold runB.sl.H9_1
  exact (whole_piece _ _ _ zero2 _ _ y).trans ((pay238_at _ y).trans ((whole_load _ _ _ zero2 _ y).trans (congrFun (ha.read_unread _) y)))

theorem piece5F (c : Dev nD) (a : Memref sig .tc .vmem S32x1024 .f32) (ha : a.IsWhole) (b : Memref sig .tc .vmem S32x1024 .bf16) (x : Vec Ideal S32x1024 .f32) :
    b.view.read (Elt Ideal) (b.view.writes (Elt Ideal) b.view.junk (runF.sl.H9_1 (F := Ideal) c a ha x)) = x := by
  funext y
  unfold runF.sl.H9_1
  exact (whole_piece _ _ _ zero2 _ _ y).trans ((pay238_at _ y).trans ((whole_load _ _ _ zero2 _ y).trans (congrFun (ha.read_unread _) y)))

theorem piece5C (c : Dev nD) (a : Memref sig .tc .vmem S32x1024 .f32) (ha : a.IsWhole) (b : Memref sig .tc .vmem S32x1024 .bf16) (x : Vec Ideal S32x1024 .f32) :
    b.view.read (Elt Ideal) (b.view.writes (Elt Ideal) b.view.junk (runC.sl.H9_1 (F := Ideal) c a ha x)) = x := by
  funext y
  unfold runC.sl.H9_1
  exact (whole_piece _ _ _ zero2 _ _ y).trans ((pay238_at _ y).trans ((whole_load _ _ _ zero2 _ y).trans (congrFun (ha.read_unread _) y)))

theorem pay239_at (v : Vec Ideal S32x5632 .f32) (y : S32x5632.Idx) : k0_pay239 (F := Ideal) v y = v y := rfl

theorem piece6B (c : Dev nD) (a : Memref sig .tc .vmem S32x5632 .f32) (ha : a.IsWhole) (b : Memref sig .tc .vmem S32x5632 .bf16) (x : Vec Ideal S32x5632 .f32) :
    b.view.read (Elt Ideal) (b.view.writes (Elt Ideal) b.view.junk (runB.sl.H10_1 (F := Ideal) c a ha x)) = x := by
  funext y
  unfold runB.sl.H10_1
  exact (whole_piece _ _ _ zero2 _ _ y).trans ((pay239_at _ y).trans ((whole_load _ _ _ zero2 _ y).trans (congrFun (ha.read_unread _) y)))

theorem piece6F (c : Dev nD) (a : Memref sig .tc .vmem S32x5632 .f32) (ha : a.IsWhole) (b : Memref sig .tc .vmem S32x5632 .bf16) (x : Vec Ideal S32x5632 .f32) :
    b.view.read (Elt Ideal) (b.view.writes (Elt Ideal) b.view.junk (runF.sl.H10_1 (F := Ideal) c a ha x)) = x := by
  funext y
  unfold runF.sl.H10_1
  exact (whole_piece _ _ _ zero2 _ _ y).trans ((pay239_at _ y).trans ((whole_load _ _ _ zero2 _ y).trans (congrFun (ha.read_unread _) y)))

theorem piece6C (c : Dev nD) (a : Memref sig .tc .vmem S32x5632 .f32) (ha : a.IsWhole) (b : Memref sig .tc .vmem S32x5632 .bf16) (x : Vec Ideal S32x5632 .f32) :
    b.view.read (Elt Ideal) (b.view.writes (Elt Ideal) b.view.junk (runC.sl.H10_1 (F := Ideal) c a ha x)) = x := by
  funext y
  unfold runC.sl.H10_1
  exact (whole_piece _ _ _ zero2 _ _ y).trans ((pay239_at _ y).trans ((whole_load _ _ _ zero2 _ y).trans (congrFun (ha.read_unread _) y)))

theorem pay240_at (v : Vec Ideal S128x1024 .f32) (y : S128x1024.Idx) : k0_pay240 (F := Ideal) v y = v y := rfl

theorem piece7B (c : Dev nD) (a : Memref sig .tc .vmem S128x1024 .f32) (ha : a.IsWhole) (b : Memref sig .tc .vmem S128x1024 .bf16) (x : Vec Ideal S128x1024 .f32) :
    b.view.read (Elt Ideal) (b.view.writes (Elt Ideal) b.view.junk (runB.sl.H11_1 (F := Ideal) c a ha x)) = x := by
  funext y
  unfold runB.sl.H11_1
  exact (whole_piece _ _ _ zero2 _ _ y).trans ((pay240_at _ y).trans ((whole_load _ _ _ zero2 _ y).trans (congrFun (ha.read_unread _) y)))

theorem piece7F (c : Dev nD) (a : Memref sig .tc .vmem S128x1024 .f32) (ha : a.IsWhole) (b : Memref sig .tc .vmem S128x1024 .bf16) (x : Vec Ideal S128x1024 .f32) :
    b.view.read (Elt Ideal) (b.view.writes (Elt Ideal) b.view.junk (runF.sl.H11_1 (F := Ideal) c a ha x)) = x := by
  funext y
  unfold runF.sl.H11_1
  exact (whole_piece _ _ _ zero2 _ _ y).trans ((pay240_at _ y).trans ((whole_load _ _ _ zero2 _ y).trans (congrFun (ha.read_unread _) y)))

theorem piece7C (c : Dev nD) (a : Memref sig .tc .vmem S128x1024 .f32) (ha : a.IsWhole) (b : Memref sig .tc .vmem S128x1024 .bf16) (x : Vec Ideal S128x1024 .f32) :
    b.view.read (Elt Ideal) (b.view.writes (Elt Ideal) b.view.junk (runC.sl.H11_1 (F := Ideal) c a ha x)) = x := by
  funext y
  unfold runC.sl.H11_1
  exact (whole_piece _ _ _ zero2 _ _ y).trans ((pay240_at _ y).trans ((whole_load _ _ _ zero2 _ y).trans (congrFun (ha.read_unread _) y)))

theorem cast5B (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg13.view.read (Elt Ideal) (arg13.view.writes (Elt Ideal) arg13.view.junk (runB (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.1) = x5 := by
  unfold runB
  dsimp only
  exact piece5B c arg9 harg9 arg13 x5

theorem cast6B (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg14.view.read (Elt Ideal) (arg14.view.writes (Elt Ideal) arg14.view.junk (runB (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.2.1) = x6 := by
  unfold runB
  dsimp only
  exact piece6B c arg10 harg10 arg14 x6

theorem cast7B (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : ¬cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg15.view.read (Elt Ideal) (arg15.view.writes (Elt Ideal) arg15.view.junk (runB (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.2.2.1) = x7 := by
  unfold runB
  dsimp only
  exact piece7B c arg11 harg11 arg15 x7

theorem cast5F (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg13.view.read (Elt Ideal) (arg13.view.writes (Elt Ideal) arg13.view.junk (runF (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.1) = x5 := by
  unfold runF
  dsimp only
  exact piece5F c arg9 harg9 arg13 x5

theorem cast6F (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg14.view.read (Elt Ideal) (arg14.view.writes (Elt Ideal) arg14.view.junk (runF (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.2.1) = x6 := by
  unfold runF
  dsimp only
  exact piece6F c arg10 harg10 arg14 x6

theorem cast7F (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole) (hc1 : cond0_1 i)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : cond0_0 i (tbM0_0.view.readAt (Elt Ideal) (Rect.unit (s := S32) (k0_off1 i) S1.size (k0_off1_inb i)).toLoadRect xt0 (Shape.Idx.first (numel1_S1.symm ▸ Nat.one_pos)))) (hc2 : ¬cond0_2 i (tbM0_0.view.readAt (Elt Ideal) (Rect.unit (s := S32) (k0_off1 i) S1.size (k0_off1_inb i)).toLoadRect xt0 (Shape.Idx.first (numel1_S1.symm ▸ Nat.one_pos)))) :
    arg15.view.read (Elt Ideal) (arg15.view.writes (Elt Ideal) arg15.view.junk (runF (F := Ideal) c i arg4 harg4 arg5 harg5 arg6 harg6 arg7 harg7 arg8 harg8 arg9 harg9 arg10 harg10 arg11 harg11 arg12 harg12 arg13 harg13 arg14 harg14 arg15 harg15 hc1 x0 x1 x2 x3 x4 x5 x6 x7 xt0 hc0 hc2).2.2.2.1) = x7 := by
  unfold runF
  dsimp only
  exact piece7F c arg11 harg11 arg15 x7

theorem cast5C (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : ¬cond0_0 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    arg13.view.read (Elt Ideal) (arg13.view.writes (Elt Ideal) arg13.view.junk (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 hc0 hc2).2.1) = x5 := by
  unfold runC
  dsimp only
  exact piece5C c arg9 harg9 arg13 x5

theorem cast6C (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : ¬cond0_0 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    arg14.view.read (Elt Ideal) (arg14.view.writes (Elt Ideal) arg14.view.junk (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 hc0 hc2).2.2.1) = x6 := by
  unfold runC
  dsimp only
  exact piece6C c arg10 harg10 arg14 x6

theorem cast7C (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (hc0 : ¬cond0_0 i (tbM0_0.view.readAt (Elt Ideal) (Rect.unit (s := S32) (k0_off1 i) S1.size (k0_off1_inb i)).toLoadRect xt0 (Shape.Idx.first (numel1_S1.symm ▸ Nat.one_pos)))) (hc2 : cond0_2 i (tbM0_0.view.readAt (Elt Ideal) (Rect.unit (s := S32) (k0_off1 i) S1.size (k0_off1_inb i)).toLoadRect xt0 (Shape.Idx.first (numel1_S1.symm ▸ Nat.one_pos)))) :
    arg15.view.read (Elt Ideal) (arg15.view.writes (Elt Ideal) arg15.view.junk (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 hc0 hc2).2.2.2.1) = x7 := by
  unfold runC
  dsimp only
  exact piece7C c arg11 harg11 arg15 x7

end Cert.Kernel2Ideal.Fox

end
-- ==== Proof.Fox.Target.lean ====
/- The attention result as a function of the arguments. -/
module

public import proofs.«01_k».proof.Proof.Fox.CastI

@[expose] public section

noncomputable section

namespace Cert.Kernel2Ideal.Fox

open Cert.Fox Cert.Kernel2Ideal Cert.Kernel2Ideal.Gen Idealize.ShloMosaic Idealize.ShloMosaic.TcCoe

/-- One query tile of one batch. -/
def argQ (A1 : S4x8x8x80x512.Idx → EReal) (b : Fin 4) (i : Fin 8) : S1x1x8x80x512.Idx → EReal := fun j => A1 (ix5 b i (j 2) (j 3) (j 4))

/-- One batch's keys. -/
def argK (A2 : S4x8x4096x128.Idx → EReal) (b : Fin 4) : S1x8x4096x128.Idx → EReal := fun j => A2 (ix4 b (j 1) (j 2) (j 3))

/-- One batch's values. -/
def argV (A3 : S4x8x8x80x512.Idx → EReal) (b : Fin 4) : S1x8x8x80x512.Idx → EReal := fun j => A3 (ix5 b (j 1) (j 2) (j 3) (j 4))

theorem lt_128 (k : Fin 16) : k.val < 128 := lt_of_lt_of_le k.isLt (by decide)

/-- The prefix keys. -/
def argKm (A4 : S1x8x128x128.Idx → EReal) : S1x8x16x128.Idx → EReal := fun j => A4 (ix4 0 (j 1) ⟨(j 2).val, lt_128 (j 2)⟩ (j 3))

/-- One batch's values over the prefix. -/
def argVm (A5 : S1x1x8x80x128.Idx → EReal) : S1x1x8x80x128.Idx → EReal := fun j => A5 (ix5 0 0 (j 2) (j 3) (j 4))

/-- The tile of a query. -/
def tileOf (L : Fin 4096) : Fin 8 := ⟨L.val / 512, by omega⟩

/-- A query's place in its tile. -/
def rowOf (L : Fin 4096) : Fin 512 := ⟨L.val % 512, by omega⟩

/-- The place of a tile's flag. -/
def flagOf (b : Fin 4) (i : Fin 8) : Fin 32 := ⟨b.val * 8 + i.val, by omega⟩

/-- The result at batch `b`, head `h`, value row `d` and query `L`. -/
def outAt (A0 : Vec Ideal S32 .i32) (A1 : S4x8x8x80x512.Idx → EReal) (A2 : S4x8x4096x128.Idx → EReal) (A3 : S4x8x8x80x512.Idx → EReal)
    (A4 : S1x8x128x128.Idx → EReal) (A5 : S1x1x8x80x128.Idx → EReal) (b : Fin 4) (h : Fin 8) (d : Fin 80) (L : Fin 4096) : EReal :=
  outBlk (argQ A1 b (tileOf L)) (argK A2 b) (argV A3 b) (argKm A4) (argVm A5) (A0 (ix1 (flagOf b (tileOf L)))) (tileOf L).val (ix4 0 h d (rowOf L))

end Cert.Kernel2Ideal.Fox

end
-- ==== Proof.Fox.BlkI.lean ====
/- The windows' blocks as parts of the arguments. -/
module

public import proofs.«01_k».proof.Proof.Fox.Target
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Fox

open Cert.Fox Cert.Kernel2Ideal Cert.Kernel2Ideal.Gen Idealize.ShloMosaic Idealize.ShloMosaic.TcCoe
open Idealize.ShloMosaic.Pipeline (Dat Cfg Window)

theorem places : ∀ t : Fin grid0.N, cc0_transform_0 (grid0.coords t) = ![t.val / 8, t.val % 8, 0, 0, 0] ∧ cc0_transform_1 (grid0.coords t) = ![t.val / 8, 0, 0, 0]
    ∧ cc0_transform_2 (grid0.coords t) = ![t.val / 8, 0, 0, 0, 0] ∧ cc0_transform_3 (grid0.coords t) = ![0, 0, 0, 0] ∧ cc0_transform_4 (grid0.coords t) = ![0, 0, 0, 0, 0]
    ∧ cc0_transform_5 (grid0.coords t) = ![t.val, 0] ∧ cc0_transform_6 (grid0.coords t) = ![t.val, 0] ∧ cc0_transform_7 (grid0.coords t) = ![min t.val 21, 0]
    ∧ cc0_transform_8 (grid0.coords t) = ![t.val / 8, 0, 0, t.val % 8]
    ∧ cc0_transform_9 (grid0.coords t) = ![t.val, 0] ∧ cc0_transform_10 (grid0.coords t) = ![t.val, 0] ∧ cc0_transform_11 (grid0.coords t) = ![min t.val 21, 0] := by
  decide +kernel

theorem at_word : ∀ t : Fin grid0.N, k0_off1 (grid0.coords t) = ![t.val] ∧ ((grid0.coords t) 2).val = t.val % 8 := by decide +kernel

variable (m : (ℓ : Loc nD τ sig) → Buf (Elt Ideal) ℓ)

theorem idx (hO : Ok m) (t : Fin (cfgM m hO).N) : ((cfgM m hO).win 0).index t = ![t.val / 8, t.val % 8, 0, 0, 0] ∧ ((cfgM m hO).win 1).index t = ![t.val / 8, 0, 0, 0]
    ∧ ((cfgM m hO).win 2).index t = ![t.val / 8, 0, 0, 0, 0] ∧ ((cfgM m hO).win 3).index t = ![0, 0, 0, 0] ∧ ((cfgM m hO).win 4).index t = ![0, 0, 0, 0, 0]
    ∧ ((cfgM m hO).win 5).index t = ![t.val, 0] ∧ ((cfgM m hO).win 6).index t = ![t.val, 0] ∧ ((cfgM m hO).win 7).index t = ![min t.val 21, 0]
    ∧ ((cfgM m hO).win 8).index t = ![t.val / 8, 0, 0, t.val % 8]
    ∧ ((cfgM m hO).win 9).index t = ![t.val, 0] ∧ ((cfgM m hO).win 10).index t = ![t.val, 0] ∧ ((cfgM m hO).win 11).index t = ![min t.val 21, 0] := places t

theorem lt_32 (hO : Ok m) (t : Fin (cfgM m hO).N) : t.val < 32 := t.isLt

/-- The batch of a point. -/
def bOf (t : Fin grid0.N) : Fin 4 := ⟨t.val / 8, by have := lt_of_lt_of_eq t.isLt N_0; omega⟩
/-- The tile of a point. -/
def iOf (t : Fin grid0.N) : Fin 8 := ⟨t.val % 8, by omega⟩

theorem blk0 (hO : Ok m) (c : Dev nD) (t : Fin (cfgM m hO).N) (j : S1x1x8x80x512.Idx) :
    (show Vec Ideal S1x1x8x80x512 .bf16 from iblk m hO c 0 t) j = argQ (m ((c : Thread nD τ).loc main_arg1)) (bOf t) (iOf t) j := by
  refine congrArg (m ((c : Thread nD τ).loc main_arg1)) (funext fun a => Fin.ext ?_)
  refine (((cfgM m hO).win 0).rect_emb_val t j a rfl).trans ?_
  rw [show ((cfgM m hO).win 0).index t = _ from (idx m hO t).1]
  fin_cases a
  all_goals simp [bOf, iOf]

theorem blk1 (hO : Ok m) (c : Dev nD) (t : Fin (cfgM m hO).N) (j : S1x8x4096x128.Idx) :
    (show Vec Ideal S1x8x4096x128 .bf16 from iblk m hO c 1 t) j = argK (m ((c : Thread nD τ).loc main_arg2)) (bOf t) j := by
  refine congrArg (m ((c : Thread nD τ).loc main_arg2)) (funext fun a => Fin.ext ?_)
  refine (((cfgM m hO).win 1).rect_emb_val t j a rfl).trans ?_
  rw [show ((cfgM m hO).win 1).index t = _ from (idx m hO t).2.1]
  fin_cases a
  all_goals simp [bOf, iOf]

theorem blk2 (hO : Ok m) (c : Dev nD) (t : Fin (cfgM m hO).N) (j : S1x8x8x80x512.Idx) :
    (show Vec Ideal S1x8x8x80x512 .bf16 from iblk m hO c 2 t) j = argV (m ((c : Thread nD τ).loc main_arg3)) (bOf t) j := by
  refine congrArg (m ((c : Thread nD τ).loc main_arg3)) (funext fun a => Fin.ext ?_)
  refine (((cfgM m hO).win 2).rect_emb_val t j a rfl).trans ?_
  rw [show ((cfgM m hO).win 2).index t = _ from (idx m hO t).2.2.1]
  fin_cases a
  all_goals simp [bOf, iOf]

theorem blk3 (hO : Ok m) (c : Dev nD) (t : Fin (cfgM m hO).N) (j : S1x8x16x128.Idx) :
    (show Vec Ideal S1x8x16x128 .bf16 from iblk m hO c 3 t) j = argKm (m ((c : Thread nD τ).loc main_arg4)) j := by
  refine congrArg (m ((c : Thread nD τ).loc main_arg4)) (funext fun a => Fin.ext ?_)
  refine (((cfgM m hO).win 3).rect_emb_val t j a rfl).trans ?_
  rw [show ((cfgM m hO).win 3).index t = _ from (idx m hO t).2.2.2.1]
  fin_cases a
  all_goals simp [bOf, iOf]

theorem blk4 (hO : Ok m) (c : Dev nD) (t : Fin (cfgM m hO).N) (j : S1x1x8x80x128.Idx) :
    (show Vec Ideal S1x1x8x80x128 .bf16 from iblk m hO c 4 t) j = argVm (m ((c : Thread nD τ).loc main_arg5)) j := by
  refine congrArg (m ((c : Thread nD τ).loc main_arg5)) (funext fun a => Fin.ext ?_)
  refine (((cfgM m hO).win 4).rect_emb_val t j a rfl).trans ?_
  rw [show ((cfgM m hO).win 4).index t = _ from (idx m hO t).2.2.2.2.1]
  fin_cases a
  all_goals simp [bOf, iOf]

/-- The flag word of a point. -/
theorem word_at (c : Dev nD) (t : Fin grid0.N) :
    tbM0_0.view.readAt (Elt Ideal) (Rect.unit (s := S32) (k0_off1 (grid0.coords t)) S1.size (k0_off1_inb (grid0.coords t))).toLoadRect (tbl m 0) (Shape.Idx.first (numel1_S1.symm ▸ Nat.one_pos))
      = m ((c : Thread nD τ).loc main_arg0) (ix1 (flagOf (bOf t) (iOf t))) := by
  obtain rfl : c = 0 := Subsingleton.elim _ _
  refine congrArg (m (((0 : Dev nD) : Thread nD τ).loc main_arg0)) (funext fun a => Fin.ext ?_)
  have h := (at_word t).1
  fin_cases a
  show (k0_off1 (grid0.coords t)) 0 + 1 * 0 = t.val / 8 * 8 + t.val % 8
  rw [h]
  show t.val + 1 * 0 = _
  omega

end Cert.Kernel2Ideal.Fox

end
-- ==== Proof.Fox.BodyI.lean ====
/- The body's triple. -/
module

public import proofs.«01_k».proof.Proof.Fox.CastI
public import Idealize.ShloMosaic.Lib.Claim

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body's triple, by what the four outputs hold after it. -/
def Triple (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (o1 : Vec Ideal S1x8x80x512 .f32) (o2 : Vec Ideal S32x1024 .bf16) (o3 : Vec Ideal S32x5632 .bf16) (o4 : Vec Ideal S128x1024 .bf16) (E : Set ℕ) (K : PUnit → sProp 𝕄) : Prop :=
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare o1 ∗ owns (c : Thread nD τ) arg13 fullShare o2 ∗ owns (c : Thread nD τ) arg14 fullShare o3 ∗ owns (c : Thread nD τ) arg15 fullShare o4 ∗ tbPt0 c tbM0_0 xt0) -∗ K ⟨⟩))
          ⊢ wp frame (wpE (defs₀ (F := Ideal)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K

theorem Triple.of (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) {o1 p1 : Vec Ideal S1x8x80x512 .f32} {o2 p2 : Vec Ideal S32x1024 .bf16} {o3 p3 : Vec Ideal S32x5632 .bf16} {o4 p4 : Vec Ideal S128x1024 .bf16} (E : Set ℕ) (K : PUnit → sProp 𝕄)
    (e1 : o1 = p1) (e2 : o2 = p2) (e3 : o3 = p3) (e4 : o4 = p4) (r : Triple c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 o1 o2 o3 o4 E K) : Triple c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 p1 p2 p3 p4 E K := by
  subst e1 e2 e3 e4; exact r

set_option maxHeartbeats 4000000 in
/-- The body's triple: the inputs as they were, the tile's block, and the three casts. -/
theorem bodyRun (c : Dev nD) (i : grid0.Coords) (arg4 : Memref sig .tc .vmem S1x1x8x80x512 .bf16) (harg4 : arg4.IsWhole) (arg5 : Memref sig .tc .vmem S1x8x4096x128 .bf16) (harg5 : arg5.IsWhole) (arg6 : Memref sig .tc .vmem S1x8x8x80x512 .bf16) (harg6 : arg6.IsWhole) (arg7 : Memref sig .tc .vmem S1x8x16x128 .bf16) (harg7 : arg7.IsWhole) (arg8 : Memref sig .tc .vmem S1x1x8x80x128 .bf16) (harg8 : arg8.IsWhole) (arg9 : Memref sig .tc .vmem S32x1024 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S1x8x80x512 .f32) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S128x1024 .bf16) (harg15 : arg15.IsWhole)
    (x0 : Vec Ideal S1x1x8x80x512 .bf16) (x1 : Vec Ideal S1x8x4096x128 .bf16) (x2 : Vec Ideal S1x8x8x80x512 .bf16) (x3 : Vec Ideal S1x8x16x128 .bf16) (x4 : Vec Ideal S1x1x8x80x128 .bf16) (x5 : Vec Ideal S32x1024 .f32) (x6 : Vec Ideal S32x5632 .f32) (x7 : Vec Ideal S128x1024 .f32) (xt0 : TbBuf0 (F := Ideal) c tbM0_0) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (outBlk x0 x1 x2 x3 x4 (tbM0_0.view.readAt (Elt Ideal) (Rect.unit (s := S32) (k0_off1 i) S1.size (k0_off1_inb i)).toLoadRect xt0 (Shape.Idx.first (numel1_S1.symm ▸ Nat.one_pos))) (i 2).val) ∗ owns (c : Thread nD τ) arg13 fullShare x5 ∗ owns (c : Thread nD τ) arg14 fullShare x6 ∗ owns (c : Thread nD τ) arg15 fullShare x7 ∗ tbPt0 c tbM0_0 xt0) -∗ K ⟨⟩))
          ⊢ wp frame (wpE (defs₀ (F := Ideal)) Variants.none c none) E (cc0_fox i tbM0_0 htbM0_0 arg4 harg4 arg5 harg5 arg6 harg6 arg7 harg7 arg8 harg8 arg9 harg9 arg10 harg10 arg11 harg11 arg12 harg12 arg13 harg13 arg14 harg14 arg15 harg15) K := by
  by_cases h0 : cond0_0 i (tbM0_0.view.readAt (Elt Ideal) (Rect.unit (s := S32) (k0_off1 i) S1.size (k0_off1_inb i)).toLoadRect xt0 (Shape.Idx.first (numel1_S1.symm ▸ Nat.one_pos)))
  · have h2 : ¬cond0_2 i (tbM0_0.view.readAt (Elt Ideal) (Rect.unit (s := S32) (k0_off1 i) S1.size (k0_off1_inb i)).toLoadRect xt0 (Shape.Idx.first (numel1_S1.symm ▸ Nat.one_pos))) := fun h => (cond_word _).mp h h0
    by_cases h1 : cond0_1 i
    · have e : arg12.view.read (Elt Ideal) (arg12.view.writes (Elt Ideal) arg12.view.junk (runF (F := Ideal) c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2).1) = outBlk x0 x1 x2 x3 x4 (tbM0_0.view.readAt (Elt Ideal) (Rect.unit (s := S32) (k0_off1 i) S1.size (k0_off1_inb i)).toLoadRect xt0 (Shape.Idx.first (numel1_S1.symm ▸ Nat.one_pos))) (i 2).val := by
        funext y
        obtain ⟨u, h, d, q, rfl⟩ : ∃ u h d q, y = ix4 u h d q := ⟨y 0, y 1, y 2, y 3, by funext a; fin_cases a <;> rfl⟩
        obtain rfl : u = 0 := Subsingleton.elim _ _
        exact (valF c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2 h d q).trans (if_pos h0).symm
      have r : Triple c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 _ _ _ _ E K := (runF (F := Ideal) c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2).2.2.2.2 E K
      exact Triple.of c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 E K e (cast5F c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) (cast6F c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) (cast7F c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) r
    · have e : arg12.view.read (Elt Ideal) (arg12.view.writes (Elt Ideal) arg12.view.junk (runB (F := Ideal) c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2).1) = outBlk x0 x1 x2 x3 x4 (tbM0_0.view.readAt (Elt Ideal) (Rect.unit (s := S32) (k0_off1 i) S1.size (k0_off1_inb i)).toLoadRect xt0 (Shape.Idx.first (numel1_S1.symm ▸ Nat.one_pos))) (i 2).val := by
        funext y
        obtain ⟨u, h, d, q, rfl⟩ : ∃ u h d q, y = ix4 u h d q := ⟨y 0, y 1, y 2, y 3, by funext a; fin_cases a <;> rfl⟩
        obtain rfl : u = 0 := Subsingleton.elim _ _
        exact (valB c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2 h d q).trans (if_pos h0).symm
      have r : Triple c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 _ _ _ _ E K := (runB (F := Ideal) c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2).2.2.2.2 E K
      exact Triple.of c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 E K e (cast5B c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) (cast6B c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) (cast7B c i arg4 harg4 arg5 harg5 arg6 harg6 arg7 harg7 arg8 harg8 arg9 harg9 arg10 harg10 arg11 harg11 arg12 harg12 arg13 harg13 arg14 harg14 arg15 harg15 h1 x0 x1 x2 x3 x4 x5 x6 x7 xt0 h0 h2) r
  · have h2 : cond0_2 i (tbM0_0.view.readAt (Elt Ideal) (Rect.unit (s := S32) (k0_off1 i) S1.size (k0_off1_inb i)).toLoadRect xt0 (Shape.Idx.first (numel1_S1.symm ▸ Nat.one_pos))) := (cond_word _).mpr h0
    have e : arg12.view.read (Elt Ideal) (arg12.view.writes (Elt Ideal) arg12.view.junk (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2).1) = outBlk x0 x1 x2 x3 x4 (tbM0_0.view.readAt (Elt Ideal) (Rect.unit (s := S32) (k0_off1 i) S1.size (k0_off1_inb i)).toLoadRect xt0 (Shape.Idx.first (numel1_S1.symm ▸ Nat.one_pos))) (i 2).val := by
      funext y
      obtain ⟨u, h, d, q, rfl⟩ : ∃ u h d q, y = ix4 u h d q := ⟨y 0, y 1, y 2, y 3, by funext a; fin_cases a <;> rfl⟩
      obtain rfl : u = 0 := Subsingleton.elim _ _
      exact (valC c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2 h d q).trans (if_neg h0).symm
    have r : Triple c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 _ _ _ _ E K := (runC (F := Ideal) c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2).2.2.2.2 E K
    exact Triple.of c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 E K e (cast5C c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2) (cast6C c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2) (cast7C c i arg4 harg4 arg5 harg5 arg6 harg6 arg7 harg7 arg8 harg8 arg9 harg9 arg10 harg10 arg11 harg11 arg12 harg12 arg13 harg13 arg14 harg14 arg15 harg15 x0 x1 x2 x3 x4 x5 x6 x7 xt0 h0 h2) r

end Cert.Kernel2Ideal.Fox

end
-- ==== Proof.Fox.LaunchI.lean ====
/- The kernel's run. -/
module

public import proofs.«01_k».proof.Proof.Fox.BodyI
public import Idealize.ShloMosaic.Lib.Claim

@[expose] public section
set_option maxRecDepth 16384
set_option maxHeartbeats 4000000
noncomputable section
namespace Cert.Kernel2Ideal.Fox
open Cert.Fox
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The tile's flag word. -/
abbrev wordAt (i : grid0.Coords) : BitVec 32 :=
  tbM0_0.view.readAt (Elt Ideal) (Rect.unit (s := S32) (k0_off1 i) S1.size (k0_off1_inb i)).toLoadRect (tbl m 0) (Shape.Idx.first (numel1_S1.symm ▸ Nat.one_pos))

/-- The proof data of the pipeline on core `c`: the inputs at their blocks, the outputs at what the body leaves. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outBlk (iblk m hO c 0 t) (iblk m hO c 1 t) (iblk m hO c 2 t) (iblk m hO c 3 t) (iblk m hO c 4 t) (wordAt m (grid0.coords t)) ((grid0.coords t) 2).val
    | ⟨9, _⟩ => iblk m hO c 5 t
    | ⟨10, _⟩ => iblk m hO c 6 t
    | ⟨11, _⟩ => iblk m hO c 7 t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = outBlk (iblk m hO c 0 t) (iblk m hO c 1 t) (iblk m hO c 2 t) (iblk m hO c 3 t) (iblk m hO c 4 t) (wordAt m (grid0.coords t)) ((grid0.coords t) 2).val := by dsimp only [dats]; try rfl
theorem after0_9 (hO : Ok m) (c : Dev nD) (t : Fin (cfgM m hO).N) : (dats m hO 0 c).after 9 t = iblk m hO c 5 t := by dsimp only [dats]; try rfl
theorem after0_10 (hO : Ok m) (c : Dev nD) (t : Fin (cfgM m hO).N) : (dats m hO 0 c).after 10 t = iblk m hO c 6 t := by dsimp only [dats]; try rfl
theorem after0_11 (hO : Ok m) (c : Dev nD) (t : Fin (cfgM m hO).N) : (dats m hO 0 c).after 11 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 7200000 in
/-- The body at any point: the inputs hold their blocks, the invariant passes through, nothing is owed. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HT0]; · iexact HT0
  iintro ⟨H0, H1, H2, H3, H4, H5, H6, H7, H8, H9, H10, H11, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The output tile is stored at every point: a tile either has its flag or has it not. -/
theorem never_idle (hO : Ok m) (t : Fin (cfgM m hO).N) : (cfgM m hO).idle 8 ((cfgM m hO).grid.coords t) = false := by
  have key : ∀ v : BitVec 32, ∀ b : Bool, (!(k0_cond1 v == 1#1) && !(k0_cond1 v == 1#1 && b) && !(k0_cond3 v == 1#1)) = false := by
    intro v b
    by_cases h : k0_cond1 v = 1#1
    · simp [h]
    · simp [(cond_word v).mpr h]
  exact key _ _

/-- The library's body obligation, at every point: the body's triple restated (Lib/Pipeline/FrameBody.lean `triple_restated`). -/
theorem body_obligation (hO : Ok m) (c : Dev nD) : BodyObligation (dats m hO 0 c) (defs₀ (F := Ideal)) Variants.none () Set.univ := fun t => by
  rw [bigSep_W0, bigSep_W0, defs₀_row m hO]
  dsimp only
  rw [show idle0 (tbl m) 8 ((pcfg0.gridAt (tbl m)).coords t) = false from never_idle m hO t]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hO : Ok m) : θ_run defs (onTc (τ := τ) (main (F := Ideal))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- Every input array ends unchanged and every output at what its blocks make. -/
theorem run_main (hO : Ok m) : θ_run defs (onTc (τ := τ) (main (F := Ideal))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toR) (A_eq m hO)
    ((θ_run defs _ _).mono (fun r h c => ⟨fun w => ((dats m hO 0 c).toR_arrAt_iff w _ _).mpr ((h c).1 w), (h c).2⟩) (run_main m ρ hO))

/-- The argument arrays end unchanged and every semaphore at zero. -/
theorem frame (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel2Ideal.Fox

end
-- ==== Proof.Fox.FinalI.lean ====
/- The kernel's results as functions of the arguments. -/
module

public import proofs.«01_k».proof.Proof.Fox.BlkI
public import proofs.«01_k».proof.Proof.Fox.LaunchI

@[expose] public section

set_option maxRecDepth 16384

noncomputable section

namespace Cert.Kernel2Ideal.Fox

open Cert.Fox Cert.Kernel2Ideal Cert.Kernel2Ideal.Gen Idealize.ShloMosaic Idealize.ShloMosaic.TcCoe
open Idealize.ShloMosaic.Pipeline (Dat Cfg Window)

theorem outBlk_congr {x0 x0' : S1x1x8x80x512.Idx → EReal} {x1 x1' : S1x8x4096x128.Idx → EReal} {x2 x2' : S1x8x8x80x512.Idx → EReal} {x3 x3' : S1x8x16x128.Idx → EReal}
    {x4 x4' : S1x1x8x80x128.Idx → EReal} {v v' : BitVec 32} {n n' : ℕ} (e0 : x0 = x0') (e1 : x1 = x1') (e2 : x2 = x2') (e3 : x3 = x3') (e4 : x4 = x4') (ev : v = v') (en : n = n')
    (y : S1x8x80x512.Idx) : outBlk x0 x1 x2 x3 x4 v n y = outBlk x0' x1' x2' x3' x4' v' n' y := by
  subst e0 e1 e2 e3 e4 ev en; rfl

theorem outAt_of (A0 : Vec Ideal S32 .i32) (A1 : S4x8x8x80x512.Idx → EReal) (A2 : S4x8x4096x128.Idx → EReal) (A3 : S4x8x8x80x512.Idx → EReal)
    (A4 : S1x8x128x128.Idx → EReal) (A5 : S1x1x8x80x128.Idx → EReal) {b b' : Fin 4} {h : Fin 8} {d : Fin 80} {L : Fin 4096} {i : Fin 8} (y : S1x8x80x512.Idx)
    (hb : b' = b) (hh : h = y 1) (hd : d = y 2) (hi : tileOf L = i) (hr : rowOf L = y 3) :
    outBlk (argQ A1 b i) (argK A2 b) (argV A3 b) (argKm A4) (argVm A5) (A0 (ix1 (flagOf b i))) i.val y = outAt A0 A1 A2 A3 A4 A5 b' h d L := by
  subst hb hi
  unfold outAt
  refine congrArg (outBlk _ _ _ _ _ _ _) ?_
  rw [hr, hh, hd]
  funext a
  fin_cases a
  · exact Subsingleton.elim (α := Fin 1) _ _
  all_goals rfl

variable (m : (ℓ : Loc nD τ sig) → Buf (Elt Ideal) ℓ)

/-- The attention result of the arguments. -/
def OUT (c : Dev nD) : Vec Ideal S4x8x80x4096 .f32 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) (i 2) (i 3)

/-- The pipeline at a table of zeros: its windows are the pipeline's at any table. -/
abbrev cfgZ : Pipeline.Cfg sig Λ₀ := cfg0 (F := Ideal) ⟨fun | 0 => fun _ => (0 : BitVec 32) | ⟨_ + 1, h⟩ => absurd h (Nat.not_lt.2 (Nat.le_add_left _ _)), trivial⟩

theorem cover8 : (cfgZ.win 8).Covers := by decide +kernel
theorem cover9 : (cfgZ.win 9).Covers := by decide +kernel
theorem cover10 : (cfgZ.win 10).Covers := by decide +kernel
theorem cover11 : (cfgZ.win 11).Covers := by decide +kernel

theorem emb8 (hO : Ok m) (t : Fin (cfgM m hO).N) (y : S1x8x80x512.Idx) (a : Fin 4) :
    ((((cfgM m hO).win 8).rect t).emb y a : ℕ) = (![t.val / 8, 0, 0, t.val % 8] : Fin 4 → ℕ) a * S1x8x80x512.size a + (y a).val := by
  refine (((cfgM m hO).win 8).rect_emb_val t y a rfl).trans ?_
  rw [show ((cfgM m hO).win 8).index t = _ from (idx m hO t).2.2.2.2.2.2.2.2.1]
  rfl

theorem point8 (hO : Ok m) (c : Dev nD) (t : Fin (cfgM m hO).N) (y : S1x8x80x512.Idx) :
    (show Vec Ideal S1x8x80x512 .f32 from (dats m hO 0 c).after 8 t) y = OUT m c ((((cfgM m hO).win 8).rect t).emb y) := by
  rw [after0_8]
  refine (outBlk_congr (funext (blk0 m hO c t)) (funext (blk1 m hO c t)) (funext (blk2 m hO c t)) (funext (blk3 m hO c t)) (funext (blk4 m hO c t))
    (word_at m c t) (at_word t).2 y).trans ?_
  have e0 : ((((cfgM m hO).win 8).rect t).emb y (0 : Fin 4) : ℕ) = t.val / 8 * 1 + (y 0).val := emb8 m hO t y 0
  have e1 : ((((cfgM m hO).win 8).rect t).emb y (1 : Fin 4) : ℕ) = 0 * 8 + (y 1).val := emb8 m hO t y 1
  have e2 : ((((cfgM m hO).win 8).rect t).emb y (2 : Fin 4) : ℕ) = 0 * 80 + (y 2).val := emb8 m hO t y 2
  have e3 : ((((cfgM m hO).win 8).rect t).emb y (3 : Fin 4) : ℕ) = t.val % 8 * 512 + (y 3).val := emb8 m hO t y 3
  have y0 : (y 0).val < 1 := (y 0).isLt
  have y3 : (y 3).val < 512 := (y 3).isLt
  refine outAt_of _ _ _ _ _ _ (i := iOf t) y (Fin.ext ?_) (Fin.ext ?_) (Fin.ext ?_) (Fin.ext ?_) (Fin.ext ?_)
  · refine e0.trans ?_
    show _ = t.val / 8
    omega
  · refine e1.trans ?_
    omega
  · refine e2.trans ?_
    omega
  · refine (congrArg (· / 512) e3).trans ?_
    show (t.val % 8 * 512 + (y 3).val) / 512 = t.val % 8
    omega
  · refine (congrArg (· % 512) e3).trans ?_
    show (t.val % 8 * 512 + (y 3).val) % 512 = (y 3).val
    omega

theorem final8 (hO : Ok m) (c : Dev nD) : (dats m hO 0 c).arrAt 8 (cfgM m hO).N = OUT m c :=
  (dats m hO 0 c).arrAt_eq_of_covers 8 _ cover8 fun t _ y => point8 m hO c t y

theorem final9 (hO : Ok m) (c : Dev nD) : (dats m hO 0 c).arrAt 9 (cfgM m hO).N = m ((c : Thread nD τ).loc main_arg6) := by
  refine (dats m hO 0 c).arrAt_eq_of_covers 9 (fun i => m ((c : Thread nD τ).loc main_arg6) i) cover9 fun t _ y => ?_
  refine (show _ = (dats m hO 0 c).after 9 t y from rfl).trans ?_
  rw [after0_9]
  refine congrArg (m ((c : Thread nD τ).loc main_arg6)) (funext fun a => Fin.ext ?_)
  refine (((cfgM m hO).win 5).rect_emb_val t y a rfl).trans (Eq.trans ?_ (((cfgM m hO).win 9).rect_emb_val t y a rfl).symm)
  rfl

theorem final10 (hO : Ok m) (c : Dev nD) : (dats m hO 0 c).arrAt 10 (cfgM m hO).N = m ((c : Thread nD τ).loc main_arg7) := by
  refine (dats m hO 0 c).arrAt_eq_of_covers 10 (fun i => m ((c : Thread nD τ).loc main_arg7) i) cover10 fun t _ y => ?_
  refine (show _ = (dats m hO 0 c).after 10 t y from rfl).trans ?_
  rw [after0_10]
  refine congrArg (m ((c : Thread nD τ).loc main_arg7)) (funext fun a => Fin.ext ?_)
  refine (((cfgM m hO).win 6).rect_emb_val t y a rfl).trans (Eq.trans ?_ (((cfgM m hO).win 10).rect_emb_val t y a rfl).symm)
  rfl

theorem final11 (hO : Ok m) (c : Dev nD) : (dats m hO 0 c).arrAt 11 (cfgM m hO).N = m ((c : Thread nD τ).loc main_arg8) := by
  refine (dats m hO 0 c).arrAt_eq_of_covers 11 (fun i => m ((c : Thread nD τ).loc main_arg8) i) cover11 fun t _ y => ?_
  refine (show _ = (dats m hO 0 c).after 11 t y from rfl).trans ?_
  rw [after0_11]
  refine congrArg (m ((c : Thread nD τ).loc main_arg8)) (funext fun a => Fin.ext ?_)
  refine (((cfgM m hO).win 7).rect_emb_val t y a rfl).trans (Eq.trans ?_ (((cfgM m hO).win 11).rect_emb_val t y a rfl).symm)
  rfl

end Cert.Kernel2Ideal.Fox

end
-- ==== Proof.Fox.StagesR.lean ====
/- The reference's stages as functions of arrays. -/
module

public import proofs.«01_k».proof.Proof.Gen.Reference2Ideal
public import Idealize.ShloMosaic.Lib.StableHlo.Run

@[expose] public section

noncomputable section

namespace Cert.Reference2Ideal.Fox

open Cert.Reference2Ideal Cert.Reference2Ideal.Gen Idealize.ShloMosaic Idealize.ShloMosaic.TcCoe Idealize.SL.Sem

variable {F : FTy → Type} [FloatOps F]

/-- The queries, position by position. -/
def hQ (A1 : FVec F S4x8x8x80x512 .bf16) : FVec F S4x8x4096x80 .f32 :=
  shapeCast _ (transpose S4x8x8x512x80 [0, 2, 1, 4, 3] (extf .f32 A1 bitsLt_bf16_f32) transposes_S4x8x8x80x512_S4x8x8x512x80_0_2_1_4_3) shapeCasts_S4x8x8x512x80_S4x8x4096x80

/-- The meta values' 16 columns. -/
def hVm (A5 : FVec F S1x1x8x80x128 .bf16) : FVec F S8x80x16 .f32 :=
  extractStridedSlice S8x80x16 ![0, 0, 0] (extf .f32 (shapeCast S8x80x128 A5 shapeCasts_S1x1x8x80x128_S8x80x128) bitsLt_bf16_f32) slices_S8x80x128_S8x80x16_0_0_0

/-- The scores against the meta keys. -/
def hSm (A1 : FVec F S4x8x8x80x512 .bf16) (A4 : FVec F S1x8x128x128 .bf16) : FVec F S4x8x4096x16 .f32 :=
  transpose S4x8x4096x16 [2, 0, 3, 1] (Host.dotGeneral dot_S8x16x80_S4x8x4096x80_S8x16x4x4096_2_3_1_02_0_1 none
    (extractStridedSlice S8x16x80 ![0, 0, 0] (extf .f32 (shapeCast S8x128x128 A4 shapeCasts_S1x8x128x128_S8x128x128) bitsLt_bf16_f32) slices_S8x128x128_S8x16x80_0_0_0)
    (hQ A1)) transposes_S8x16x4x4096_S4x8x4096x16_2_0_3_1

/-- The scores against the keys, unmasked. -/
def hS (A1 : FVec F S4x8x8x80x512 .bf16) (A2 : FVec F S4x8x4096x128 .bf16) : FVec F S4x8x4096x4096 .f32 :=
  Host.dotGeneral dot_S4x8x4096x80_S4x8x4096x80_S4x8x4096x4096_3_3_2_2_01_01 none (hQ A1)
    (extractStridedSlice S4x8x4096x80 ![0, 0, 0, 0] (extf .f32 A2 bitsLt_bf16_f32) slices_S4x8x4096x128_S4x8x4096x80_0_0_0_0)

/-- The scores after the causal mask. -/
def hMask (s : FVec F S4x8x4096x4096 .f32) : FVec F S4x8x4096x4096 .f32 :=
  select (broadcastInDim S4x8x4096x4096 ![2, 3] bcast_S4096x4096_S4x8x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    s (broadcastInDim S4x8x4096x4096 ![] bcast_S_S4x8x4096x4096 (constant S_ .f32 0xFF800000#32))

/-- The largest score of a row. -/
def hTop (sm : FVec F S4x8x4096x16 .f32) (s : FVec F S4x8x4096x4096 .f32) : FVec F S4x8x4096 .f32 :=
  maximumf (Host.reduce FloatOps.maximumf sm (constant S_ .f32 0xFF800000#32) reducesTo_S4x8x4096x16_S4x8x4096_d3 h_S_)
    (Host.reduce FloatOps.maximumf s (constant S_ .f32 0xFF800000#32) reducesTo_S4x8x4096x4096_S4x8x4096_d3 h_S_)

/-- The shift of a row: nothing where the tile's flag is positive, the largest score elsewhere. -/
def hShift (A0 : Vec F S32 .i32) (top : FVec F S4x8x4096 .f32) : FVec F S4x8x4096x1 .f32 :=
  shapeCast _ (select (broadcastInDim S4x8x8x512 ![0, 1, 2, 3] bcast_S4x1x8x1_S4x8x8x512_0_1_2_3
      (shapeCast S4x1x8x1 (cmpi .sgt A0 (broadcastInDim S32 ![] bcast_S_S32 (constantI S_ 32 0#32))) shapeCasts_S32_S4x1x8x1))
    (broadcastInDim S4x8x8x512 ![] bcast_S_S4x8x8x512 (constant S_ .f32 0x00000000#32))
    (shapeCast S4x8x8x512 top shapeCasts_S4x8x4096_S4x8x8x512)) shapeCasts_S4x8x8x512_S4x8x4096x1

/-- The weighted sums. -/
def hOut (v : FVec F S4x8x4096x80 .f32) (vm : FVec F S8x80x16 .f32) (sm : FVec F S4x8x4096x16 .f32) (s : FVec F S4x8x4096x4096 .f32)
    (sh : FVec F S4x8x4096x1 .f32) : FVec F S4x8x80x4096 .f32 :=
  addf (transpose S4x8x80x4096 [1, 0, 3, 2] (Host.dotGeneral dot_S4x8x4096x16_S8x80x16_S8x4x4096x80_3_2_02_1_1_0 none
      (Host.exp (mulf (broadcastInDim S4x8x4096x16 ![] bcast_S_S4x8x4096x16 (Host.log (constant S_ .f32 0x40000000#32)))
        (subf sm (broadcastInDim S4x8x4096x16 ![0, 1, 2, 3] bcast_S4x8x4096x1_S4x8x4096x16_0_1_2_3 sh)))) vm) transposes_S8x4x4096x80_S4x8x80x4096_1_0_3_2)
    (Host.dotGeneral dot_S4x8x4096x80_S4x8x4096x4096_S4x8x80x4096_2_3_3_2_01_01 none v
      (Host.exp (mulf (broadcastInDim S4x8x4096x4096 ![] bcast_S_S4x8x4096x4096 (Host.log (constant S_ .f32 0x40000000#32)))
        (subf s (broadcastInDim S4x8x4096x4096 ![0, 1, 2, 3] bcast_S4x8x4096x1_S4x8x4096x4096_0_1_2_3 sh)))))

end Cert.Reference2Ideal.Fox

end
-- ==== Proof.Fox.HostR.lean ====
/- The reference's run read back in stretches of operations, each stretch's result a named stage of what the stretch reads. -/
module

public import proofs.«01_k».proof.Proof.Fox.StagesR
public import Idealize.ShloMosaic.Lib.StableHlo.Run

@[expose] public section

noncomputable section

namespace Cert.Reference2Ideal.Fox

open Cert.Reference2Ideal Cert.Reference2Ideal.Gen Idealize.ShloMosaic Idealize.ShloMosaic.TcCoe Idealize.SL.Sem Idealize.ShloMosaic.StableHlo

variable {F : FTy → Type} [FloatOps F]

/-- Stretch 1 of the operations. -/
abbrev part1 : List (HloOp τ sig (Elt F)) :=
  [ unary main_arg1 main_v0 ((extf .f32 · bitsLt_bf16_f32) : (⟨S4x8x8x80x512, .bf16⟩ : BufTy).Contents (Elt F) → (⟨S4x8x8x80x512, .f32⟩ : BufTy).Contents (Elt F)),
    unary main_v0 main_v1 ((transpose S4x8x8x512x80 [0, 2, 1, 4, 3] · transposes_S4x8x8x80x512_S4x8x8x512x80_0_2_1_4_3) : (⟨S4x8x8x80x512, .f32⟩ : BufTy).Contents (Elt F) → (⟨S4x8x8x512x80, .f32⟩ : BufTy).Contents (Elt F)),
    reshape main_v1 main_v2 (rfl : (.f32 : EltTy) = .f32) shapeCasts_S4x8x8x512x80_S4x8x4096x80,
    unary main_arg2 main_v3 ((extf .f32 · bitsLt_bf16_f32) : (⟨S4x8x4096x128, .bf16⟩ : BufTy).Contents (Elt F) → (⟨S4x8x4096x128, .f32⟩ : BufTy).Contents (Elt F)),
    unary main_v3 main_v4 ((extractStridedSlice S4x8x4096x80 ![0, 0, 0, 0] · slices_S4x8x4096x128_S4x8x4096x80_0_0_0_0) : (⟨S4x8x4096x128, .f32⟩ : BufTy).Contents (Elt F) → (⟨S4x8x4096x80, .f32⟩ : BufTy).Contents (Elt F)),
    unary main_arg3 main_v5 ((extf .f32 · bitsLt_bf16_f32) : (⟨S4x8x8x80x512, .bf16⟩ : BufTy).Contents (Elt F) → (⟨S4x8x8x80x512, .f32⟩ : BufTy).Contents (Elt F)),
    unary main_v5 main_v6 ((transpose S4x8x8x512x80 [0, 2, 1, 4, 3] · transposes_S4x8x8x80x512_S4x8x8x512x80_0_2_1_4_3) : (⟨S4x8x8x80x512, .f32⟩ : BufTy).Contents (Elt F) → (⟨S4x8x8x512x80, .f32⟩ : BufTy).Contents (Elt F)),
    reshape main_v6 main_v7 (rfl : (.f32 : EltTy) = .f32) shapeCasts_S4x8x8x512x80_S4x8x4096x80,
    reshape main_arg4 main_v8 (rfl : (.bf16 : EltTy) = .bf16) shapeCasts_S1x8x128x128_S8x128x128,
    unary main_v8 main_v9 ((extf .f32 · bitsLt_bf16_f32) : (⟨S8x128x128, .bf16⟩ : BufTy).Contents (Elt F) → (⟨S8x128x128, .f32⟩ : BufTy).Contents (Elt F)),
    unary main_v9 main_v10 ((extractStridedSlice S8x16x80 ![0, 0, 0] · slices_S8x128x128_S8x16x80_0_0_0) : (⟨S8x128x128, .f32⟩ : BufTy).Contents (Elt F) → (⟨S8x16x80, .f32⟩ : BufTy).Contents (Elt F)),
    reshape main_arg5 main_v11 (rfl : (.bf16 : EltTy) = .bf16) shapeCasts_S1x1x8x80x128_S8x80x128,
    unary main_v11 main_v12 ((extf .f32 · bitsLt_bf16_f32) : (⟨S8x80x128, .bf16⟩ : BufTy).Contents (Elt F) → (⟨S8x80x128, .f32⟩ : BufTy).Contents (Elt F)),
    unary main_v12 main_v13 ((extractStridedSlice S8x80x16 ![0, 0, 0] · slices_S8x80x128_S8x80x16_0_0_0) : (⟨S8x80x128, .f32⟩ : BufTy).Contents (Elt F) → (⟨S8x80x16, .f32⟩ : BufTy).Contents (Elt F)),
    binary main_v10 main_v2 main_v14 ((fun l r => Host.dotGeneral dot_S8x16x80_S4x8x4096x80_S8x16x4x4096_2_3_1_02_0_1 none l r) : (⟨S8x16x80, .f32⟩ : BufTy).Contents (Elt F) → (⟨S4x8x4096x80, .f32⟩ : BufTy).Contents (Elt F) → (⟨S8x16x4x4096, .f32⟩ : BufTy).Contents (Elt F)),
    unary main_v14 main_v15 ((transpose S4x8x4096x16 [2, 0, 3, 1] · transposes_S8x16x4x4096_S4x8x4096x16_2_0_3_1) : (⟨S8x16x4x4096, .f32⟩ : BufTy).Contents (Elt F) → (⟨S4x8x4096x16, .f32⟩ : BufTy).Contents (Elt F)),
    binary main_v2 main_v4 main_v16 ((fun l r => Host.dotGeneral dot_S4x8x4096x80_S4x8x4096x80_S4x8x4096x4096_3_3_2_2_01_01 none l r) : (⟨S4x8x4096x80, .f32⟩ : BufTy).Contents (Elt F) → (⟨S4x8x4096x80, .f32⟩ : BufTy).Contents (Elt F) → (⟨S4x8x4096x4096, .f32⟩ : BufTy).Contents (Elt F)) ]

/-- Stretch 2 of the operations. -/
abbrev part2 : List (HloOp τ sig (Elt F)) :=
  [ nullary main_v17 (iotaInDim S4096 32 0),
    unary main_v17 main_v18 (broadcastInDim S1x4096 ![1] bcast_S4096_S1x4096_1 : (⟨S4096, .i32⟩ : BufTy).Contents (Elt F) → (⟨S1x4096, .i32⟩ : BufTy).Contents (Elt F)),
    unary main_v17 main_v19 (broadcastInDim S4096x1 ![0] bcast_S4096_S4096x1_0 : (⟨S4096, .i32⟩ : BufTy).Contents (Elt F) → (⟨S4096x1, .i32⟩ : BufTy).Contents (Elt F)),
    unary main_v18 main_v20 (broadcastInDim S4096x4096 ![0, 1] bcast_S1x4096_S4096x4096_0_1 : (⟨S1x4096, .i32⟩ : BufTy).Contents (Elt F) → (⟨S4096x4096, .i32⟩ : BufTy).Contents (Elt F)),
    unary main_v19 main_v21 (broadcastInDim S4096x4096 ![0, 1] bcast_S4096x1_S4096x4096_0_1 : (⟨S4096x1, .i32⟩ : BufTy).Contents (Elt F) → (⟨S4096x4096, .i32⟩ : BufTy).Contents (Elt F)),
    binary main_v20 main_v21 main_v22 (cmpi .sle : (⟨S4096x4096, .i32⟩ : BufTy).Contents (Elt F) → (⟨S4096x4096, .i32⟩ : BufTy).Contents (Elt F) → (⟨S4096x4096, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S4096x4096, .i1⟩) main_v22) (TRef.of (T := ⟨S4x8x4096x4096, .i1⟩) main_call0_v1) (broadcastInDim S4x8x4096x4096 ![2, 3] bcast_S4096x4096_S4x8x4096x4096_2_3),
    TRef.unary (TRef.of (T := ⟨S_, .f32⟩) main_call0_v0) (TRef.of (T := ⟨S4x8x4096x4096, .f32⟩) main_call0_v2) (broadcastInDim S4x8x4096x4096 ![] bcast_S_S4x8x4096x4096),
    TRef.ternary (TRef.of (T := ⟨S4x8x4096x4096, .i1⟩) main_call0_v1) (TRef.of (T := ⟨S4x8x4096x4096, .f32⟩) main_v16) (TRef.of (T := ⟨S4x8x4096x4096, .f32⟩) main_call0_v2) (TRef.of (T := ⟨S4x8x4096x4096, .f32⟩) main_v23) select ]

/-- Stretch 3 of the operations. -/
abbrev part3 : List (HloOp τ sig (Elt F)) :=
  [ nullary main_cst_0 (constant S_ .f32 0xFF800000#32),
    binary main_v15 main_cst_0 main_v24 ((fun x v => Host.reduce FloatOps.maximumf x v reducesTo_S4x8x4096x16_S4x8x4096_d3 h_S_) : (⟨S4x8x4096x16, .f32⟩ : BufTy).Contents (Elt F) → (⟨S_, .f32⟩ : BufTy).Contents (Elt F) → (⟨S4x8x4096, .f32⟩ : BufTy).Contents (Elt F)),
    nullary main_cst_1 (constant S_ .f32 0xFF800000#32),
    binary main_v23 main_cst_1 main_v25 ((fun x v => Host.reduce FloatOps.maximumf x v reducesTo_S4x8x4096x4096_S4x8x4096_d3 h_S_) : (⟨S4x8x4096x4096, .f32⟩ : BufTy).Contents (Elt F) → (⟨S_, .f32⟩ : BufTy).Contents (Elt F) → (⟨S4x8x4096, .f32⟩ : BufTy).Contents (Elt F)),
    binary main_v24 main_v25 main_v26 (maximumf : (⟨S4x8x4096, .f32⟩ : BufTy).Contents (Elt F) → (⟨S4x8x4096, .f32⟩ : BufTy).Contents (Elt F) → (⟨S4x8x4096, .f32⟩ : BufTy).Contents (Elt F)) ]

/-- Stretch 4 of the operations. -/
abbrev part4 : List (HloOp τ sig (Elt F)) :=
  [ nullary main_c (constantI S_ 32 0#32),
    unary main_c main_v27 (broadcastInDim S32 ![] bcast_S_S32 : (⟨S_, .i32⟩ : BufTy).Contents (Elt F) → (⟨S32, .i32⟩ : BufTy).Contents (Elt F)),
    binary main_arg0 main_v27 main_v28 (cmpi .sgt : (⟨S32, .i32⟩ : BufTy).Contents (Elt F) → (⟨S32, .i32⟩ : BufTy).Contents (Elt F) → (⟨S32, .i1⟩ : BufTy).Contents (Elt F)),
    reshape main_v28 main_v29 (rfl : (.i1 : EltTy) = .i1) shapeCasts_S32_S4x1x8x1,
    reshape main_v26 main_v30 (rfl : (.f32 : EltTy) = .f32) shapeCasts_S4x8x4096_S4x8x8x512,
    nullary main_cst_2 (constant S_ .f32 0x00000000#32),
    TRef.unary (TRef.of (T := ⟨S_, .f32⟩) main_cst_2) (TRef.of (T := ⟨S_, .f32⟩) main_call1_v0) id,
    TRef.unary (TRef.of (T := ⟨S4x1x8x1, .i1⟩) main_v29) (TRef.of (T := ⟨S4x8x8x512, .i1⟩) main_call1_v1) (broadcastInDim S4x8x8x512 ![0, 1, 2, 3] bcast_S4x1x8x1_S4x8x8x512_0_1_2_3),
    TRef.unary (TRef.of (T := ⟨S_, .f32⟩) main_call1_v0) (TRef.of (T := ⟨S4x8x8x512, .f32⟩) main_call1_v2) (broadcastInDim S4x8x8x512 ![] bcast_S_S4x8x8x512),
    TRef.ternary (TRef.of (T := ⟨S4x8x8x512, .i1⟩) main_call1_v1) (TRef.of (T := ⟨S4x8x8x512, .f32⟩) main_call1_v2) (TRef.of (T := ⟨S4x8x8x512, .f32⟩) main_v30) (TRef.of (T := ⟨S4x8x8x512, .f32⟩) main_v31) select,
    reshape main_v31 main_v32 (rfl : (.f32 : EltTy) = .f32) shapeCasts_S4x8x8x512_S4x8x4096x1 ]

/-- Stretch 5 of the operations. -/
abbrev part5 : List (HloOp τ sig (Elt F)) :=
  [ nullary main_cst_3 (constant S_ .f32 0x40000000#32),
    unary main_cst_3 main_v33 (Host.log : (⟨S_, .f32⟩ : BufTy).Contents (Elt F) → (⟨S_, .f32⟩ : BufTy).Contents (Elt F)),
    unary main_v32 main_v34 (broadcastInDim S4x8x4096x16 ![0, 1, 2, 3] bcast_S4x8x4096x1_S4x8x4096x16_0_1_2_3 : (⟨S4x8x4096x1, .f32⟩ : BufTy).Contents (Elt F) → (⟨S4x8x4096x16, .f32⟩ : BufTy).Contents (Elt F)),
    binary main_v15 main_v34 main_v35 (subf : (⟨S4x8x4096x16, .f32⟩ : BufTy).Contents (Elt F) → (⟨S4x8x4096x16, .f32⟩ : BufTy).Contents (Elt F) → (⟨S4x8x4096x16, .f32⟩ : BufTy).Contents (Elt F)),
    unary main_v33 main_v36 (id : (⟨S_, .f32⟩ : BufTy).Contents (Elt F) → (⟨S_, .f32⟩ : BufTy).Contents (Elt F)),
    unary main_v36 main_v37 (broadcastInDim S4x8x4096x16 ![] bcast_S_S4x8x4096x16 : (⟨S_, .f32⟩ : BufTy).Contents (Elt F) → (⟨S4x8x4096x16, .f32⟩ : BufTy).Contents (Elt F)),
    binary main_v37 main_v35 main_v38 (mulf : (⟨S4x8x4096x16, .f32⟩ : BufTy).Contents (Elt F) → (⟨S4x8x4096x16, .f32⟩ : BufTy).Contents (Elt F) → (⟨S4x8x4096x16, .f32⟩ : BufTy).Contents (Elt F)),
    unary main_v38 main_v39 (Host.exp : (⟨S4x8x4096x16, .f32⟩ : BufTy).Contents (Elt F) → (⟨S4x8x4096x16, .f32⟩ : BufTy).Contents (Elt F)),
    binary main_v39 main_v13 main_v40 ((fun l r => Host.dotGeneral dot_S4x8x4096x16_S8x80x16_S8x4x4096x80_3_2_02_1_1_0 none l r) : (⟨S4x8x4096x16, .f32⟩ : BufTy).Contents (Elt F) → (⟨S8x80x16, .f32⟩ : BufTy).Contents (Elt F) → (⟨S8x4x4096x80, .f32⟩ : BufTy).Contents (Elt F)),
    unary main_v40 main_v41 ((transpose S4x8x80x4096 [1, 0, 3, 2] · transposes_S8x4x4096x80_S4x8x80x4096_1_0_3_2) : (⟨S8x4x4096x80, .f32⟩ : BufTy).Contents (Elt F) → (⟨S4x8x80x4096, .f32⟩ : BufTy).Contents (Elt F)),
    unary main_v32 main_v42 (broadcastInDim S4x8x4096x4096 ![0, 1, 2, 3] bcast_S4x8x4096x1_S4x8x4096x4096_0_1_2_3 : (⟨S4x8x4096x1, .f32⟩ : BufTy).Contents (Elt F) → (⟨S4x8x4096x4096, .f32⟩ : BufTy).Contents (Elt F)),
    binary main_v23 main_v42 main_v43 (subf : (⟨S4x8x4096x4096, .f32⟩ : BufTy).Contents (Elt F) → (⟨S4x8x4096x4096, .f32⟩ : BufTy).Contents (Elt F) → (⟨S4x8x4096x4096, .f32⟩ : BufTy).Contents (Elt F)),
    unary main_v33 main_v44 (id : (⟨S_, .f32⟩ : BufTy).Contents (Elt F) → (⟨S_, .f32⟩ : BufTy).Contents (Elt F)),
    unary main_v44 main_v45 (broadcastInDim S4x8x4096x4096 ![] bcast_S_S4x8x4096x4096 : (⟨S_, .f32⟩ : BufTy).Contents (Elt F) → (⟨S4x8x4096x4096, .f32⟩ : BufTy).Contents (Elt F)),
    binary main_v45 main_v43 main_v46 (mulf : (⟨S4x8x4096x4096, .f32⟩ : BufTy).Contents (Elt F) → (⟨S4x8x4096x4096, .f32⟩ : BufTy).Contents (Elt F) → (⟨S4x8x4096x4096, .f32⟩ : BufTy).Contents (Elt F)),
    unary main_v46 main_v47 (Host.exp : (⟨S4x8x4096x4096, .f32⟩ : BufTy).Contents (Elt F) → (⟨S4x8x4096x4096, .f32⟩ : BufTy).Contents (Elt F)),
    binary main_v7 main_v47 main_v48 ((fun l r => Host.dotGeneral dot_S4x8x4096x80_S4x8x4096x4096_S4x8x80x4096_2_3_3_2_01_01 none l r) : (⟨S4x8x4096x80, .f32⟩ : BufTy).Contents (Elt F) → (⟨S4x8x4096x4096, .f32⟩ : BufTy).Contents (Elt F) → (⟨S4x8x80x4096, .f32⟩ : BufTy).Contents (Elt F)),
    binary main_v41 main_v48 main_v49 (addf : (⟨S4x8x80x4096, .f32⟩ : BufTy).Contents (Elt F) → (⟨S4x8x80x4096, .f32⟩ : BufTy).Contents (Elt F) → (⟨S4x8x80x4096, .f32⟩ : BufTy).Contents (Elt F)) ]

/-- Stretch 6 of the operations. -/
abbrev part6 : List (HloOp τ sig (Elt F)) :=
  [ unary main_arg6 main_v50 ((truncf .bf16 · bitsLt_bf16_f32) : (⟨S1024x1024, .f32⟩ : BufTy).Contents (Elt F) → (⟨S1024x1024, .bf16⟩ : BufTy).Contents (Elt F)),
    unary main_arg7 main_v51 ((truncf .bf16 · bitsLt_bf16_f32) : (⟨S1024x5632, .f32⟩ : BufTy).Contents (Elt F) → (⟨S1024x5632, .bf16⟩ : BufTy).Contents (Elt F)),
    unary main_arg8 main_v52 ((truncf .bf16 · bitsLt_bf16_f32) : (⟨S2816x1024, .f32⟩ : BufTy).Contents (Elt F) → (⟨S2816x1024, .bf16⟩ : BufTy).Contents (Elt F)) ]

/-- All the operations, in order. -/
abbrev line : List (HloOp τ sig (Elt F)) := part1 ++ (part2 ++ (part3 ++ (part4 ++ (part5 ++ (part6)))))

set_option maxRecDepth 8192 in
set_option maxHeartbeats 4000000 in
theorem main_line (c : Dev nD) : main (F := F) c = seq line := rfl
theorem no_refs : (Finset.univ.filter fun b : Ref sig .tc => b.isScoped) = ∅ := by decide
theorem no_sems : (Finset.univ.filter fun sm : SemLoc sig => sm.isScoped .tc) = ∅ := by decide
theorem part1_sub : (part1 : List (HloOp τ sig (Elt F))).Forall fun op => op.bufs ⊆ tcRefs τ sig :=
  ⟨unary_bufs_sub .., unary_bufs_sub .., reshape_bufs_sub .., unary_bufs_sub .., unary_bufs_sub .., unary_bufs_sub .., unary_bufs_sub .., reshape_bufs_sub .., reshape_bufs_sub .., unary_bufs_sub .., unary_bufs_sub .., reshape_bufs_sub .., unary_bufs_sub .., unary_bufs_sub .., binary_bufs_sub .., unary_bufs_sub .., binary_bufs_sub ..⟩
theorem part1_fresh : ∀ op ∈ (part1 : List (HloOp τ sig (Elt F))), op.fresh = ∅ := by
  intro _ h; (repeat (cases h with | head => rfl | tail _ h => ?_)); exact nomatch h
theorem part2_sub : (part2 : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., unary_bufs_sub .., unary_bufs_sub .., ternary_bufs_sub ..⟩
theorem part2_fresh : ∀ op ∈ (part2 : List (HloOp τ sig (Elt F))), op.fresh = ∅ := by
  intro _ h; (repeat (cases h with | head => rfl | tail _ h => ?_)); exact nomatch h
theorem part3_sub : (part3 : List (HloOp τ sig (Elt F))).Forall fun op => op.bufs ⊆ tcRefs τ sig :=
  ⟨nullary_bufs_sub .., binary_bufs_sub .., nullary_bufs_sub .., binary_bufs_sub .., binary_bufs_sub ..⟩
theorem part3_fresh : ∀ op ∈ (part3 : List (HloOp τ sig (Elt F))), op.fresh = ∅ := by
  intro _ h; (repeat (cases h with | head => rfl | tail _ h => ?_)); exact nomatch h
theorem part4_sub : (part4 : List (HloOp τ sig (Elt F))).Forall fun op => op.bufs ⊆ tcRefs τ sig :=
  ⟨nullary_bufs_sub .., unary_bufs_sub .., binary_bufs_sub .., reshape_bufs_sub .., reshape_bufs_sub .., nullary_bufs_sub .., unary_bufs_sub .., unary_bufs_sub .., unary_bufs_sub .., ternary_bufs_sub .., reshape_bufs_sub ..⟩
theorem part4_fresh : ∀ op ∈ (part4 : List (HloOp τ sig (Elt F))), op.fresh = ∅ := by
  intro _ h; (repeat (cases h with | head => rfl | tail _ h => ?_)); exact nomatch h
theorem part5_sub : (part5 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩
theorem part5_fresh : ∀ op ∈ (part5 : List (HloOp τ sig (Elt F))), op.fresh = ∅ := by
  intro _ h; (repeat (cases h with | head => rfl | tail _ h => ?_)); exact nomatch h
theorem part6_sub : (part6 : List (HloOp τ sig (Elt F))).Forall fun op => op.bufs ⊆ tcRefs τ sig :=
  ⟨unary_bufs_sub .., unary_bufs_sub .., unary_bufs_sub ..⟩
theorem part6_fresh : ∀ op ∈ (part6 : List (HloOp τ sig (Elt F))), op.fresh = ∅ := by
  intro _ h; (repeat (cases h with | head => rfl | tail _ h => ?_)); exact nomatch h

theorem line_sub : (line : List (HloOp τ sig (Elt F))).Forall fun op => op.bufs ⊆ tcRefs τ sig := by
  simp only [line, List.forall_append]
  exact ⟨part1_sub, part2_sub, part3_sub, part4_sub, part5_sub, part6_sub⟩
theorem line_fresh : ∀ op ∈ (line : List (HloOp τ sig (Elt F))), op.fresh = ∅ := by
  intro op h
  simp only [line, List.mem_append] at h
  rcases h with h | h | h | h | h | h
  · exact part1_fresh op h
  · exact part2_fresh op h
  · exact part3_fresh op h
  · exact part4_fresh op h
  · exact part5_fresh op h
  · exact part6_fresh op h

theorem after_both (l₁ l₂ : List (HloOp τ sig (Elt F))) (V : Valuation τ sig (Elt F)) :
    after (l₁ ++ l₂) V = after l₂ (after l₁ V) := by
  induction l₁ generalizing V with
  | nil => rfl
  | cons a l ih => exact ih _

variable (V : Valuation τ sig (Elt F))

set_option maxRecDepth 8192 in
set_option maxHeartbeats 4000000 in
theorem read_v : after part1 V (Proc.devRef .tc main_v7) = hQ (V (Proc.devRef .tc main_arg3)) := by
  simp only [part1, TRef.ternary, TRef.binary, TRef.nullary, TRef.unary, TRef.toBuf, TRef.ofBuf, cast_eq]; after_results_simp <;> rfl

set_option maxRecDepth 8192 in
set_option maxHeartbeats 4000000 in
theorem read_vm : after part1 V (Proc.devRef .tc main_v13) = hVm (V (Proc.devRef .tc main_arg5)) := by
  simp only [part1, TRef.ternary, TRef.binary, TRef.nullary, TRef.unary, TRef.toBuf, TRef.ofBuf, cast_eq]; after_results_simp <;> rfl

set_option maxRecDepth 8192 in
set_option maxHeartbeats 4000000 in
theorem read_sm : after part1 V (Proc.devRef .tc main_v15) = hSm (V (Proc.devRef .tc main_arg1)) (V (Proc.devRef .tc main_arg4)) := by
  simp only [part1, TRef.ternary, TRef.binary, TRef.nullary, TRef.unary, TRef.toBuf, TRef.ofBuf, cast_eq]; after_results_simp <;> rfl

set_option maxRecDepth 8192 in
set_option maxHeartbeats 4000000 in
theorem read_s : after part1 V (Proc.devRef .tc main_v16) = hS (V (Proc.devRef .tc main_arg1)) (V (Proc.devRef .tc main_arg2)) := by
  simp only [part1, TRef.ternary, TRef.binary, TRef.nullary, TRef.unary, TRef.toBuf, TRef.ofBuf, cast_eq]; after_results_simp <;> rfl

set_option maxRecDepth 8192 in
set_option maxHeartbeats 4000000 in
theorem read_mask : after part2 V (Proc.devRef .tc main_v23) = hMask (V (Proc.devRef .tc main_v16)) := by
  simp only [part2, TRef.ternary, TRef.binary, TRef.nullary, TRef.unary, TRef.toBuf, TRef.ofBuf, cast_eq]; after_results_simp <;> rfl

set_option maxRecDepth 8192 in
set_option maxHeartbeats 4000000 in
theorem read_top : after part3 V (Proc.devRef .tc main_v26) = hTop (V (Proc.devRef .tc main_v15)) (V (Proc.devRef .tc main_v23)) := by
  simp only [part3, TRef.ternary, TRef.binary, TRef.nullary, TRef.unary, TRef.toBuf, TRef.ofBuf, cast_eq]; after_results_simp <;> rfl

set_option maxRecDepth 8192 in
set_option maxHeartbeats 4000000 in
theorem read_shift : after part4 V (Proc.devRef .tc main_v32) = hShift (V (Proc.devRef .tc main_arg0)) (V (Proc.devRef .tc main_v26)) := by
  simp only [part4, TRef.ternary, TRef.binary, TRef.nullary, TRef.unary, TRef.toBuf, TRef.ofBuf, cast_eq]; after_results_simp <;> rfl

set_option maxRecDepth 8192 in
set_option maxHeartbeats 4000000 in
theorem read_out : after part5 V (Proc.devRef .tc main_v49) = hOut (V (Proc.devRef .tc main_v7)) (V (Proc.devRef .tc main_v13)) (V (Proc.devRef .tc main_v15)) (V (Proc.devRef .tc main_v23)) (V (Proc.devRef .tc main_v32)) := by
  simp only [part5, TRef.ternary, TRef.binary, TRef.nullary, TRef.unary, TRef.toBuf, TRef.ofBuf, cast_eq]; after_results_simp <;> rfl

set_option maxRecDepth 8192 in
set_option maxHeartbeats 4000000 in
theorem read_w6 : after part6 V (Proc.devRef .tc main_v50) = truncf .bf16 (V (Proc.devRef .tc main_arg6)) bitsLt_bf16_f32 := by
  simp only [part6, TRef.ternary, TRef.binary, TRef.nullary, TRef.unary, TRef.toBuf, TRef.ofBuf, cast_eq]; after_results_simp <;> rfl

set_option maxRecDepth 8192 in
set_option maxHeartbeats 4000000 in
theorem read_w7 : after part6 V (Proc.devRef .tc main_v51) = truncf .bf16 (V (Proc.devRef .tc main_arg7)) bitsLt_bf16_f32 := by
  simp only [part6, TRef.ternary, TRef.binary, TRef.nullary, TRef.unary, TRef.toBuf, TRef.ofBuf, cast_eq]; after_results_simp <;> rfl

set_option maxRecDepth 8192 in
set_option maxHeartbeats 4000000 in
theorem read_w8 : after part6 V (Proc.devRef .tc main_v52) = truncf .bf16 (V (Proc.devRef .tc main_arg8)) bitsLt_bf16_f32 := by
  simp only [part6, TRef.ternary, TRef.binary, TRef.nullary, TRef.unary, TRef.toBuf, TRef.ofBuf, cast_eq]; after_results_simp <;> rfl

theorem wrote_one {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

/-- The buffers stretch 1 writes. -/
abbrev wrote1 : List (Ref sig .tc) := [main_v0, main_v1, main_v2, main_v3, main_v4, main_v5, main_v6, main_v7, main_v8, main_v9, main_v10, main_v11, main_v12, main_v13, main_v14, main_v15, main_v16]
theorem wrote1_all : (part1 : List (HloOp τ sig (Elt F))).Forall fun op => op.writes ⊆ (wrote1.map (Proc.devRef (τ := τ) .tc)).toFinset := by
  exact ⟨wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide)⟩
theorem keep1 (r : Ref sig .tc) (hr : r ∉ wrote1) : after part1 V (Proc.devRef .tc r) = V (Proc.devRef .tc r) :=
  after_of_writes_sub _ V wrote1_all hr

/-- The buffers stretch 2 writes. -/
abbrev wrote2 : List (Ref sig .tc) := [main_v17, main_v18, main_v19, main_v20, main_v21, main_v22, main_cst, main_call0_v0, main_call0_v1, main_call0_v2, main_v23]
theorem wrote2_all : (part2 : List (HloOp τ sig (Elt F))).Forall fun op => op.writes ⊆ (wrote2.map (Proc.devRef (τ := τ) .tc)).toFinset := by
  exact ⟨wrote_one (by decide), wrote_one (by decide), wrote_one (by decide), wrote_one (by decide), wrote_one (by decide), wrote_one (by decide), wrote_one (by decide), wrote_one (by decide), wrote_one (by decide), wrote_one (by decide), wrote_one (by decide)⟩
theorem keep2 (r : Ref sig .tc) (hr : r ∉ wrote2) : after part2 V (Proc.devRef .tc r) = V (Proc.devRef .tc r) :=
  after_of_writes_sub _ V wrote2_all hr

/-- The buffers stretch 3 writes. -/
abbrev wrote3 : List (Ref sig .tc) := [main_cst_0, main_v24, main_cst_1, main_v25, main_v26]
theorem wrote3_all : (part3 : List (HloOp τ sig (Elt F))).Forall fun op => op.writes ⊆ (wrote3.map (Proc.devRef (τ := τ) .tc)).toFinset := by
  exact ⟨wrote_one (by decide), wrote_one (by decide), wrote_one (by decide), wrote_one (by decide), wrote_one (by decide)⟩
theorem keep3 (r : Ref sig .tc) (hr : r ∉ wrote3) : after part3 V (Proc.devRef .tc r) = V (Proc.devRef .tc r) :=
  after_of_writes_sub _ V wrote3_all hr

/-- The buffers stretch 4 writes. -/
abbrev wrote4 : List (Ref sig .tc) := [main_c, main_v27, main_v28, main_v29, main_v30, main_cst_2, main_call1_v0, main_call1_v1, main_call1_v2, main_v31, main_v32]
theorem wrote4_all : (part4 : List (HloOp τ sig (Elt F))).Forall fun op => op.writes ⊆ (wrote4.map (Proc.devRef (τ := τ) .tc)).toFinset := by
  exact ⟨wrote_one (by decide), wrote_one (by decide), wrote_one (by decide), wrote_one (by decide), wrote_one (by decide), wrote_one (by decide), wrote_one (by decide), wrote_one (by decide), wrote_one (by decide), wrote_one (by decide), wrote_one (by decide)⟩
theorem keep4 (r : Ref sig .tc) (hr : r ∉ wrote4) : after part4 V (Proc.devRef .tc r) = V (Proc.devRef .tc r) :=
  after_of_writes_sub _ V wrote4_all hr

/-- The buffers stretch 5 writes. -/
abbrev wrote5 : List (Ref sig .tc) := [main_cst_3, main_v33, main_v34, main_v35, main_v36, main_v37, main_v38, main_v39, main_v40, main_v41, main_v42, main_v43, main_v44, main_v45, main_v46, main_v47, main_v48, main_v49]
theorem wrote5_all : (part5 : List (HloOp τ sig (Elt F))).Forall fun op => op.writes ⊆ (wrote5.map (Proc.devRef (τ := τ) .tc)).toFinset := by
  exact ⟨wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide), wrote_one (by decide)⟩
theorem keep5 (r : Ref sig .tc) (hr : r ∉ wrote5) : after part5 V (Proc.devRef .tc r) = V (Proc.devRef .tc r) :=
  after_of_writes_sub _ V wrote5_all hr

/-- The buffers stretch 6 writes. -/
abbrev wrote6 : List (Ref sig .tc) := [main_v50, main_v51, main_v52]
theorem wrote6_all : (part6 : List (HloOp τ sig (Elt F))).Forall fun op => op.writes ⊆ (wrote6.map (Proc.devRef (τ := τ) .tc)).toFinset := by
  exact ⟨wrote_one (by decide), wrote_one (by decide), wrote_one (by decide)⟩
theorem keep6 (r : Ref sig .tc) (hr : r ∉ wrote6) : after part6 V (Proc.devRef .tc r) = V (Proc.devRef .tc r) :=
  after_of_writes_sub _ V wrote6_all hr

theorem keep_line (r : Ref sig .tc) (h1 : r ∉ wrote1) (h2 : r ∉ wrote2) (h3 : r ∉ wrote3) (h4 : r ∉ wrote4) (h5 : r ∉ wrote5) (h6 : r ∉ wrote6) :
    after line V (Proc.devRef .tc r) = V (Proc.devRef .tc r) := by
  rw [line, after_both, after_both, after_both, after_both, after_both, keep6 _ r h6, keep5 _ r h5, keep4 _ r h4, keep3 _ r h3, keep2 _ r h2, keep1 _ r h1]

/-- The attention result as the stages of the arguments. -/
def staged (A0 : Vec F S32 .i32) (A1 : FVec F S4x8x8x80x512 .bf16) (A2 : FVec F S4x8x4096x128 .bf16) (A3 : FVec F S4x8x8x80x512 .bf16)
    (A4 : FVec F S1x8x128x128 .bf16) (A5 : FVec F S1x1x8x80x128 .bf16) : FVec F S4x8x80x4096 .f32 :=
  hOut (hQ A3) (hVm A5) (hSm A1 A4) (hMask (hS A1 A2)) (hShift A0 (hTop (hSm A1 A4) (hMask (hS A1 A2))))

theorem read_line : after line V (Proc.devRef .tc main_v49)
    = staged (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [line, after_both, after_both, after_both, after_both, after_both, keep6 _ main_v49 (by decide), read_out, keep4 _ main_v7 (by decide), keep4 _ main_v13 (by decide), keep4 _ main_v15 (by decide), keep4 _ main_v23 (by decide), read_shift, keep3 _ main_v7 (by decide), keep3 _ main_v13 (by decide), keep3 _ main_v15 (by decide), keep3 _ main_v23 (by decide), keep3 _ main_arg0 (by decide), read_top, keep2 _ main_v7 (by decide), keep2 _ main_v13 (by decide), keep2 _ main_v15 (by decide), keep2 _ main_arg0 (by decide), read_mask, keep1 _ main_arg0 (by decide), read_v, read_vm, read_sm, read_s]
  rfl

theorem line_w6 : after line V (Proc.devRef .tc main_v50) = truncf .bf16 (V (Proc.devRef .tc main_arg6)) bitsLt_bf16_f32 := by
  rw [line, after_both, after_both, after_both, after_both, after_both, read_w6, keep5 _ main_arg6 (by decide), keep4 _ main_arg6 (by decide), keep3 _ main_arg6 (by decide), keep2 _ main_arg6 (by decide), keep1 _ main_arg6 (by decide)]

theorem line_w7 : after line V (Proc.devRef .tc main_v51) = truncf .bf16 (V (Proc.devRef .tc main_arg7)) bitsLt_bf16_f32 := by
  rw [line, after_both, after_both, after_both, after_both, after_both, read_w7, keep5 _ main_arg7 (by decide), keep4 _ main_arg7 (by decide), keep3 _ main_arg7 (by decide), keep2 _ main_arg7 (by decide), keep1 _ main_arg7 (by decide)]

theorem line_w8 : after line V (Proc.devRef .tc main_v52) = truncf .bf16 (V (Proc.devRef .tc main_arg8)) bitsLt_bf16_f32 := by
  rw [line, after_both, after_both, after_both, after_both, after_both, read_w8, keep5 _ main_arg8 (by decide), keep4 _ main_arg8 (by decide), keep3 _ main_arg8 (by decide), keep2 _ main_arg8 (by decide), keep1 _ main_arg8 (by decide)]

/-- The reference's run: the results at their stages of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = staged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v50) = truncf .bf16 (m ((c.tc : Thread nD τ).loc main_arg6)) bitsLt_bf16_f32
      ∧ r.2.mem ((c.tc : Thread nD τ).loc main_v51) = truncf .bf16 (m ((c.tc : Thread nD τ).loc main_arg7)) bitsLt_bf16_f32
      ∧ r.2.mem ((c.tc : Thread nD τ).loc main_v52) = truncf .bf16 (m ((c.tc : Thread nD τ).loc main_arg8)) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v49).trans (read_line _), (h c main_v50).trans (line_w6 _), (h c main_v51).trans (line_w7 _), (h c main_v52).trans (line_w8 _),
      (h c main_arg0).trans (keep_line _ main_arg0 (by decide) (by decide) (by decide) (by decide) (by decide) (by decide)),
      (h c main_arg1).trans (keep_line _ main_arg1 (by decide) (by decide) (by decide) (by decide) (by decide) (by decide)),
      (h c main_arg2).trans (keep_line _ main_arg2 (by decide) (by decide) (by decide) (by decide) (by decide) (by decide)),
      (h c main_arg3).trans (keep_line _ main_arg3 (by decide) (by decide) (by decide) (by decide) (by decide) (by decide)),
      (h c main_arg4).trans (keep_line _ main_arg4 (by decide) (by decide) (by decide) (by decide) (by decide) (by decide)),
      (h c main_arg5).trans (keep_line _ main_arg5 (by decide) (by decide) (by decide) (by decide) (by decide) (by decide)),
      (h c main_arg6).trans (keep_line _ main_arg6 (by decide) (by decide) (by decide) (by decide) (by decide) (by decide)),
      (h c main_arg7).trans (keep_line _ main_arg7 (by decide) (by decide) (by decide) (by decide) (by decide) (by decide)),
      (h c main_arg8).trans (keep_line _ main_arg8 (by decide) (by decide) (by decide) (by decide) (by decide) (by decide))⟩)
    (run_seq no_refs no_sems defs main (fun _ => line) main_line (fun _ => line_sub) m ρ (fun _ => line_fresh))

end Cert.Reference2Ideal.Fox

end
-- ==== Proof.Fox.RowsR.lean ====
/- The reference's stages read at a position. -/
module

public import proofs.«01_k».proof.Proof.Fox.HostR
public import proofs.«01_k».proof.Proof.Fox.Math
public import Idealize.ShloMosaic.Lib.Pointwise
public import Idealize.ShloMosaic.Lib.Pipeline.ValueKit

@[expose] public section

set_option maxRecDepth 16384

noncomputable section

namespace Cert.Reference2Ideal.Fox

open Cert.Reference2Ideal Cert.Reference2Ideal.Gen Idealize.ShloMosaic Idealize.ShloMosaic.TcCoe Idealize.SL.Sem

abbrev FV (s : Shape) := FVec Ideal s .f32
abbrev HV (s : Shape) := FVec Ideal s .bf16

theorem bits_bot : Ideal.ofBits .f32 0xFF800000#32 = ⊥ := by
  simp [Ideal.ofBits, Ideal.ieee]

theorem bits_two : Ideal.ofBits .f32 0x40000000#32 = ((2 : ℝ) : EReal) := by
  simp [Ideal.ofBits, Ideal.ieee]
  rw [← EReal.coe_mul]
  norm_num

/-- An exponential at `x log 2` is the power of two. -/
theorem exp_log_two (x : EReal) : Ideal.exp (Ideal.log ((2 : ℝ) : EReal) * x) = Ideal.exp2 x := by
  have h2 : ¬ ((2 : ℝ) ≤ 0) := by norm_num
  have hl : 0 < Real.log 2 := Real.log_pos (by norm_num)
  rw [Ideal.log_coe, if_neg h2]
  induction x with
  | bot => rw [EReal.coe_mul_bot_of_pos hl]; rfl
  | top => rw [EReal.coe_mul_top_of_pos hl]; rfl
  | coe r =>
    rw [← EReal.coe_mul, Ideal.exp_coe, Ideal.exp2_coe]
    exact congrArg _ (Real.rpow_def_of_pos (by norm_num : (0 : ℝ) < 2) r).symm

theorem pick_le (a b : ℕ) (ha : a < 4096) (hb : b < 4096) (x y : EReal) :
    Scalar.select (IntOp.cmpi CmpIPredicate.sle (BitVec.ofNat 32 a) (BitVec.ofNat 32 b)) x y = if a ≤ b then x else y := by
  have hc : IntOp.cmpi CmpIPredicate.sle (BitVec.ofNat 32 a) (BitVec.ofNat 32 b) = if a ≤ b then 1#1 else 0#1 := by
    have e : ∀ n : ℕ, n < 4096 → (BitVec.ofNat 32 n).toInt = n := fun n hn => by
      rw [BitVec.toInt_eq_toNat_of_lt (by rw [BitVec.toNat_ofNat]; omega), BitVec.toNat_ofNat]; omega
    simp only [IntOp.cmpi, BitVec.sle_eq_decide, e a ha, e b hb, Nat.cast_le]
    by_cases h : a ≤ b <;> simp [h]
  rw [hc]
  by_cases h : a ≤ b <;> simp [h, Scalar.select]

theorem fold_bot {n : ℕ} (f : Fin n → EReal) (z : EReal) (hz : z = ⊥) : Finset.univ.fold max z f = Finset.univ.sup f := by
  subst hz; rfl

theorem max_row {A B C n : ℕ} (x : FVec Ideal ⟨4, ![A, B, C, n]⟩ .f32)
    (h' : Shape.ReducesTo ⟨4, ![A, B, C, n]⟩ [3] ⟨3, ![A, B, C]⟩) (a : Fin A) (b : Fin B) (c : Fin C) :
    Host.reduce FloatOps.maximumf x (constant S_ .f32 0xFF800000#32) h' h_S_ (ix3 a b c) = Finset.univ.sup fun k : Fin n => x (ix4 a b c k) := by
  refine Eq.trans ?_ (fold_bot _ _ bits_bot)
  pointwise

theorem hQ_at (A1 : HV S4x8x8x80x512) (b : Fin 4) (hh : Fin 8) (L : Fin 4096) (d : Fin 80) :
    hQ A1 (ix4 b hh L d) = A1 (ix5 b ⟨L.val / 512, by omega⟩ hh d ⟨L.val % 512, by omega⟩) := by
  pointwise [hQ]

theorem hVm_at (A5 : HV S1x1x8x80x128) (h : Fin 8) (d : Fin 80) (k : Fin 16) :
    hVm A5 (ix3 h d k) = A5 (ix5 0 0 h d ⟨k.val, by omega⟩) := by
  pointwise [hVm]

theorem hSm_at (A1 : HV S4x8x8x80x512) (A4 : HV S1x8x128x128) (b : Fin 4) (h : Fin 8) (L : Fin 4096) (k : Fin 16) :
    hSm A1 A4 (ix4 b h L k) = ∑ d : Fin 80, A4 (ix4 0 h ⟨k.val, by omega⟩ ⟨d.val, by omega⟩) * hQ A1 (ix4 b h L d) := by
  pointwise [hSm]

theorem hS_at (A1 : HV S4x8x8x80x512) (A2 : HV S4x8x4096x128) (b : Fin 4) (h : Fin 8) (L k : Fin 4096) :
    hS A1 A2 (ix4 b h L k) = ∑ d : Fin 80, hQ A1 (ix4 b h L d) * A2 (ix4 b h k ⟨d.val, by omega⟩) := by
  pointwise [hS]

theorem hMask_at (s : FV S4x8x4096x4096) (b : Fin 4) (h : Fin 8) (L k : Fin 4096) :
    hMask s (ix4 b h L k) = if k.val ≤ L.val then s (ix4 b h L k) else ⊥ := by
  pointwise [hMask]
  rw [bits_bot]
  exact pick_le k.val L.val k.isLt L.isLt _ _

theorem max_at {s : Shape} (x y : FVec Ideal s .f32) (i : s.Idx) : maximumf (F := Ideal) x y i = max (x i) (y i) := rfl

theorem hTop_at (sm : FV S4x8x4096x16) (s : FV S4x8x4096x4096) (b : Fin 4) (h : Fin 8) (L : Fin 4096) :
    hTop sm s (ix3 b h L) = max (Finset.univ.sup fun k : Fin 16 => sm (ix4 b h L k)) (Finset.univ.sup fun k : Fin 4096 => s (ix4 b h L k)) := by
  unfold hTop
  rw [max_at, max_row, max_row]

theorem hShift_at (A0 : Vec Ideal S32 .i32) (top : FV S4x8x4096) (b : Fin 4) (h : Fin 8) (L : Fin 4096) :
    hShift A0 top (ix4 b h L 0) = if IntOp.cmpi CmpIPredicate.sgt (A0 (ix1 ⟨b.val * 8 + L.val / 512, by omega⟩)) 0#32 = 1#1 then 0 else top (ix3 b h L) := by
  pointwise [hShift]
  rfl

theorem hOut_at (v : FV S4x8x4096x80) (vm : FV S8x80x16) (sm : FV S4x8x4096x16) (s : FV S4x8x4096x4096) (sh : FV S4x8x4096x1)
    (b : Fin 4) (h : Fin 8) (d : Fin 80) (L : Fin 4096) :
    hOut v vm sm s sh (ix4 b h d L) = (∑ k : Fin 16, Ideal.exp2 (sm (ix4 b h L k) - sh (ix4 b h L 0)) * vm (ix3 h d k))
      + ∑ k : Fin 4096, v (ix4 b h k d) * Ideal.exp2 (s (ix4 b h L k) - sh (ix4 b h L 0)) := by
  pointwise [hOut]
  simp only [bits_two, exp_log_two]

end Cert.Reference2Ideal.Fox

end
-- ==== Proof.Fox.RowMath.lean ====
/- A causal row taken tile by tile. -/
module

public import proofs.«01_k».proof.Proof.Fox.Math

@[expose] public section

noncomputable section

namespace Cert.Fox

open Idealize.ShloMosaic

/-- A causal row's scores in tile `j` of the first `i + 1`: all before tile `i`, those up to the query in tile `i`. -/
def causal (st : ℕ → Fin 512 → EReal) (i : ℕ) (q : Fin 512) (j : ℕ) (s : Fin 512) : EReal :=
  if j < i then st j s else if s.val ≤ q.val then st i s else ⊥

section
variable (S W : Fin 4096 → EReal) (st vt : ℕ → Fin 512 → EReal) (L : Fin 4096) (q : Fin 512) {i : ℕ}

theorem causal_at (hL : L.val = 512 * i + q.val)
    (hst : ∀ (j : ℕ) (s : Fin 512) (hj : j < 8), st j s = S ⟨512 * j + s.val, by omega⟩)
    {j : ℕ} (hj : j < i + 1) (s : Fin 512) (hk : 512 * j + s.val < 4096) :
    (if 512 * j + s.val ≤ L.val then S ⟨512 * j + s.val, hk⟩ else ⊥) = causal st i q j s := by
  unfold causal
  by_cases h : j < i
  · rw [if_pos h, if_pos (by omega), hst j s (by omega)]
  · obtain rfl : j = i := by omega
    rw [if_neg h, hst j s (by omega)]
    by_cases hs : s.val ≤ q.val
    · rw [if_pos hs, if_pos (by omega)]
    · rw [if_neg hs, if_neg (by omega)]

/-- A sum over all keys, weighted by a masked row's powers of two, is the sum over the tiles up to the query's own. -/
theorem causal_sum (hL : L.val = 512 * i + q.val)
    (hst : ∀ (j : ℕ) (s : Fin 512) (hj : j < 8), st j s = S ⟨512 * j + s.val, by omega⟩)
    (hvt : ∀ (j : ℕ) (s : Fin 512) (hj : j < 8), vt j s = W ⟨512 * j + s.val, by omega⟩) (x : EReal) :
    (∑ k : Fin 4096, W k * Ideal.exp2 ((if k.val ≤ L.val then S k else ⊥) - x))
      = ∑ j ∈ Finset.range (i + 1), ∑ s, vt j s * Ideal.exp2 (causal st i q j s - x) := by
  have hi : i < 8 := by omega
  let f : ℕ → EReal := fun k => if hk : k < 4096 then W ⟨k, hk⟩ * Ideal.exp2 ((if k ≤ L.val then S ⟨k, hk⟩ else ⊥) - x) else 0
  have e : ∀ k : Fin 4096, W k * Ideal.exp2 ((if k.val ≤ L.val then S k else ⊥) - x) = f k.val := fun k => by
    simp only [f, dif_pos k.isLt]
  rw [Finset.sum_congr rfl fun k _ => e k, sum_tiles f hi fun k hk => ?_]
  · refine Finset.sum_congr rfl fun j hj => Finset.sum_congr rfl fun s _ => ?_
    have hj' : j < i + 1 := Finset.mem_range.mp hj
    have hk : 512 * j + s.val < 4096 := by omega
    simp only [f, dif_pos hk]
    rw [causal_at S st L q hL hst hj' s hk, hvt j s (by omega)]
  · simp only [f]
    by_cases h : k < 4096
    · rw [dif_pos h, if_neg (by omega), exp2_bot_sub, mul_zero]
    · rw [dif_neg h]

/-- The largest score of a masked row is the largest over the tiles up to the query's own. -/
theorem causal_sup (hL : L.val = 512 * i + q.val)
    (hst : ∀ (j : ℕ) (s : Fin 512) (hj : j < 8), st j s = S ⟨512 * j + s.val, by omega⟩) :
    (Finset.univ.sup fun k : Fin 4096 => (if k.val ≤ L.val then S k else ⊥ : EReal))
      = (Finset.range (i + 1)).sup fun j => Finset.univ.sup (causal st i q j) := by
  have hi : i < 8 := by omega
  let f : ℕ → EReal := fun k => if hk : k < 4096 then (if k ≤ L.val then S ⟨k, hk⟩ else ⊥) else ⊥
  have e : ∀ k : Fin 4096, (if k.val ≤ L.val then S k else ⊥ : EReal) = f k.val := fun k => by
    simp only [f, dif_pos k.isLt]
  rw [Finset.sup_congr rfl fun k _ => e k, sup_tiles f hi fun k hk => ?_]
  · refine Finset.sup_congr rfl fun j hj => Finset.sup_congr rfl fun s _ => ?_
    have hj' : j < i + 1 := Finset.mem_range.mp hj
    have hk : 512 * j + s.val < 4096 := by omega
    simp only [f, dif_pos hk]
    exact causal_at S st L q hL hst hj' s hk
  · simp only [f]
    by_cases h : k < 4096
    · rw [dif_pos h, if_neg (by omega)]
    · rw [dif_neg h]

variable (sm vm : Fin 16 → EReal)

/-- A row with no shift, its parts in the order the kernel adds them. -/
theorem row_safe (hL : L.val = 512 * i + q.val)
    (hst : ∀ (j : ℕ) (s : Fin 512) (hj : j < 8), st j s = S ⟨512 * j + s.val, by omega⟩)
    (hvt : ∀ (j : ℕ) (s : Fin 512) (hj : j < 8), vt j s = W ⟨512 * j + s.val, by omega⟩) :
    (∑ k, Ideal.exp2 (sm k - 0) * vm k) + (∑ k : Fin 4096, W k * Ideal.exp2 ((if k.val ≤ L.val then S k else ⊥) - 0))
      = ((∑ s, vt i s * Ideal.exp2 (if s.val ≤ q.val then st i s else ⊥)) + ∑ k, vm k * Ideal.exp2 (sm k))
        + ∑ j ∈ Finset.range i, ∑ s, vt j s * Ideal.exp2 (st j s) := by
  rw [causal_sum S W st vt L q hL hst hvt 0, Finset.sum_range_succ]
  have e0 : ∀ y : EReal, y - 0 = y := fun y => by rw [sub_eq_add_neg, neg_zero, add_zero]
  simp only [e0]
  have e1 : (∑ j ∈ Finset.range i, ∑ s, vt j s * Ideal.exp2 (causal st i q j s)) = ∑ j ∈ Finset.range i, ∑ s, vt j s * Ideal.exp2 (st j s) :=
    Finset.sum_congr rfl fun j hj => Finset.sum_congr rfl fun s _ => by rw [causal, if_pos (Finset.mem_range.mp hj)]
  have e2 : (∑ s, vt i s * Ideal.exp2 (causal st i q i s)) = ∑ s, vt i s * Ideal.exp2 (if s.val ≤ q.val then st i s else ⊥) :=
    Finset.sum_congr rfl fun s _ => by rw [causal, if_neg (lt_irrefl i)]
  have e3 : (∑ k, Ideal.exp2 (sm k) * vm k) = ∑ k, vm k * Ideal.exp2 (sm k) := Finset.sum_congr rfl fun k _ => mul_comm _ _
  rw [e1, e2, e3]
  rw [add_comm (∑ j ∈ Finset.range i, _), ← add_assoc, add_comm (∑ k, _) (∑ s, _)]

/-- A row shifted by its largest score is the running maximum's numerator. -/
theorem row_max (hL : L.val = 512 * i + q.val)
    (hst : ∀ (j : ℕ) (s : Fin 512) (hj : j < 8), st j s = S ⟨512 * j + s.val, by omega⟩)
    (hvt : ∀ (j : ℕ) (s : Fin 512) (hj : j < 8), vt j s = W ⟨512 * j + s.val, by omega⟩) (x : EReal)
    (hx : x = max (Finset.univ.sup sm) (Finset.univ.sup fun k : Fin 4096 => (if k.val ≤ L.val then S k else ⊥ : EReal))) :
    (∑ k, Ideal.exp2 (sm k - x) * vm k) + (∑ k : Fin 4096, W k * Ideal.exp2 ((if k.val ≤ L.val then S k else ⊥) - x))
      = accAt sm vm (causal st i q) vt (i + 1) := by
  rw [accAt_eq, causal_sum S W st vt L q hL hst hvt x]
  have e : mAt sm (causal st i q) (i + 1) = x := by rw [mAt_eq, hx, causal_sup S st L q hL hst]
  rw [e]
  exact congrArg (· + _) (Finset.sum_congr rfl fun k _ => mul_comm _ _)

end

end Cert.Fox

end
-- ==== Proof.Fox.FinalR.lean ====
/- The reference's result in the tiles' words. -/
module

public import proofs.«01_k».proof.Proof.Fox.RowsR
public import proofs.«01_k».proof.Proof.Fox.RowMath
public import proofs.«01_k».proof.Proof.Fox.Target

@[expose] public section

set_option maxRecDepth 16384

noncomputable section

namespace Cert.Reference2Ideal.Fox

open Cert.Fox Cert.Reference2Ideal Cert.Reference2Ideal.Gen Idealize.ShloMosaic Idealize.ShloMosaic.TcCoe
open Cert.Kernel2Ideal.Fox (argQ argK argV argKm argVm tileOf rowOf flagOf outAt outBlk blkSafe blkMax qOf metaS metaV tileS tileV diagS)

theorem flag_iff (v : BitVec 32) : Cert.Kernel2Ideal.k0_cond1 v = 1#1 ↔ IntOp.cmpi CmpIPredicate.sgt v 0#32 = 1#1 := by
  have h : ∀ b : BitVec 1, Scalar.cmpi .sgt v 0#32 = b → IntOp.cmpi CmpIPredicate.sgt v 0#32 = b := fun b h => h
  unfold Cert.Kernel2Ideal.k0_cond1
  dsimp only
  generalize hb : Scalar.cmpi .sgt v 0#32 = b
  rw [h b hb]
  clear hb h
  revert b
  decide +kernel

theorem sm_word (A1 : HV S4x8x8x80x512) (A4 : HV S1x8x128x128) (b : Fin 4) (h : Fin 8) (L : Fin 4096) (k : Fin 16) :
    hSm A1 A4 (ix4 b h L k) = metaS (argKm A4) (qOf (argQ A1 b (tileOf L)) h) h k (rowOf L) := by
  rw [hSm_at]
  exact Finset.sum_congr rfl fun d _ => by rw [hQ_at]; rfl

theorem vm_word (A5 : HV S1x1x8x80x128) (h : Fin 8) (d : Fin 80) (k : Fin 16) :
    hVm A5 (ix3 h d k) = metaV (argVm A5) h d k := hVm_at A5 h d k

theorem s_word (A1 : HV S4x8x8x80x512) (A2 : HV S4x8x4096x128) (b : Fin 4) (h : Fin 8) (L : Fin 4096) (j : ℕ) (s : Fin 512) (hj : j < 8) :
    tileS (argK A2 b) (qOf (argQ A1 b (tileOf L)) h) h j s (rowOf L) = hS A1 A2 (ix4 b h L ⟨512 * j + s.val, by omega⟩) := by
  rw [hS_at, tileS, dif_pos hj]
  exact Finset.sum_congr rfl fun d _ => by rw [hQ_at, mul_comm]; rfl

theorem v_word (A3 : HV S4x8x8x80x512) (b : Fin 4) (h : Fin 8) (d : Fin 80) (j : ℕ) (s : Fin 512) (hj : j < 8) :
    tileV (argV A3 b) h j d s = hQ A3 (ix4 b h ⟨512 * j + s.val, by omega⟩ d) := by
  rw [hQ_at A3 b, tileV, dif_pos hj]
  have e1 : (⟨j, hj⟩ : Fin 8) = ⟨(512 * j + s.val) / 512, by omega⟩ := Fin.ext (by show j = (512 * j + s.val) / 512; omega)
  have e2 : s = ⟨(512 * j + s.val) % 512, by omega⟩ := Fin.ext (by show s.val = (512 * j + s.val) % 512; omega)
  show A3 (ix5 b ⟨j, hj⟩ h d s) = A3 (ix5 b ⟨(512 * j + s.val) / 512, _⟩ h d ⟨(512 * j + s.val) % 512, _⟩)
  rw [← e1, ← e2]

theorem shift_word (A0 : Vec Ideal S32 .i32) (top : FV S4x8x4096) (b : Fin 4) (h : Fin 8) (L : Fin 4096) :
    hShift A0 top (ix4 b h L 0) = if Cert.Kernel2Ideal.k0_cond1 (A0 (ix1 (flagOf b (tileOf L)))) = 1#1 then 0 else top (ix3 b h L) :=
  (hShift_at A0 top b h L).trans (if_congr (flag_iff _).symm rfl rfl)

theorem out_word (A0 : Vec Ideal S32 .i32) (A1 : HV S4x8x8x80x512) (A2 : HV S4x8x4096x128) (A3 : HV S4x8x8x80x512)
    (A4 : HV S1x8x128x128) (A5 : HV S1x1x8x80x128) (b : Fin 4) (h : Fin 8) (d : Fin 80) (L : Fin 4096) :
    outAt A0 A1 A2 A3 A4 A5 b h d L = if Cert.Kernel2Ideal.k0_cond1 (A0 (ix1 (flagOf b (tileOf L)))) = 1#1
      then blkSafe (argQ A1 b (tileOf L)) (argK A2 b) (argV A3 b) (argKm A4) (argVm A5) (tileOf L).val h d (rowOf L)
      else blkMax (argQ A1 b (tileOf L)) (argK A2 b) (argV A3 b) (argKm A4) (argVm A5) (tileOf L).val h d (rowOf L) := rfl

/-- The attention result, position by position, is the tiles' result. -/
theorem staged_at (A0 : Vec Ideal S32 .i32) (A1 : HV S4x8x8x80x512) (A2 : HV S4x8x4096x128) (A3 : HV S4x8x8x80x512)
    (A4 : HV S1x8x128x128) (A5 : HV S1x1x8x80x128) (b : Fin 4) (h : Fin 8) (d : Fin 80) (L : Fin 4096) :
    staged (F := Ideal) A0 A1 A2 A3 A4 A5 (ix4 b h d L) = outAt A0 A1 A2 A3 A4 A5 b h d L := by
  have hL : L.val = 512 * (tileOf L).val + (rowOf L).val := by
    show L.val = 512 * (L.val / 512) + L.val % 512
    omega
  have hst := s_word A1 A2 b h L
  have hvt := v_word A3 b h d
  unfold staged
  rw [hOut_at]
  simp only [sm_word, vm_word, hMask_at]
  rw [shift_word, hTop_at, out_word]
  simp only [sm_word, hMask_at]
  by_cases hf : Cert.Kernel2Ideal.k0_cond1 (A0 (ix1 (flagOf b (tileOf L)))) = 1#1
  · simp only [if_pos hf]
    exact row_safe (fun k => hS A1 A2 (ix4 b h L k)) (fun k => hQ A3 (ix4 b h k d)) (fun j s => tileS (argK A2 b) (qOf (argQ A1 b (tileOf L)) h) h j s (rowOf L))
      (fun j s => tileV (argV A3 b) h j d s) L (rowOf L) _ _ hL hst hvt
  · simp only [if_neg hf]
    exact row_max (fun k => hS A1 A2 (ix4 b h L k)) (fun k => hQ A3 (ix4 b h k d)) (fun j s => tileS (argK A2 b) (qOf (argQ A1 b (tileOf L)) h) h j s (rowOf L))
      (fun j s => tileV (argV A3 b) h j d s) L (rowOf L) _ _ hL hst hvt _ rfl

end Cert.Reference2Ideal.Fox

end
-- ==== Proof.Fox.Claims.lean ====
/- The forgetting-attention call's claims: the frames and the value claim. -/
module

public import proofs.«01_k».proof.Defs
public import proofs.«01_k».proof.Proof.Fox.FrameB
public import proofs.«01_k».proof.Proof.Fox.FinalI
public import proofs.«01_k».proof.Proof.Fox.HostR
public import proofs.«01_k».proof.Proof.Fox.FinalR
public import Idealize.ShloMosaic.Lib.Quiescent

@[expose] public section

noncomputable section

namespace Cert.Fox

open Idealize.ShloMosaic Idealize.ShloMosaic.TcCoe Idealize.SL.Sem

theorem frame_reference : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Fox.run (F := Ideal) m ρ)

theorem frame_kernel : Cert.quiescent_Kernel2 := fun m ρ _ => Cert.Kernel2.Fox.frame (F := Bits) m ρ trivial

theorem frame_ideal : Cert.quiescent_Kernel2Ideal := fun m ρ _ => Cert.Kernel2Ideal.Fox.frame m ρ trivial

theorem preserves : Cert.preserves_Kernel2_Kernel2Ideal :=
  IdealRules.named_const.statement Cert.Kernel2Ideal.κ "mask" .f32 0xF149F2CA#32 ⊥ rfl

theorem algebraic : Cert.algebraic_Kernel2Ideal_Reference2Ideal := by
  intro m ρ m' ρ' _ hagree
  have hO : Cert.Kernel2Ideal.Fox.Ok m := trivial
  refine ⟨fun c => Cert.Kernel2Ideal.Fox.OUT m c, fun c => m ((c.tc : Thread Cert.Kernel2Ideal.nD Cert.Kernel2Ideal.τ).loc Cert.Kernel2Ideal.main_arg6),
    fun c => m ((c.tc : Thread Cert.Kernel2Ideal.nD Cert.Kernel2Ideal.τ).loc Cert.Kernel2Ideal.main_arg7),
    fun c => m ((c.tc : Thread Cert.Kernel2Ideal.nD Cert.Kernel2Ideal.τ).loc Cert.Kernel2Ideal.main_arg8), ?_, ?_⟩
  · exact (θ_run Cert.Kernel2Ideal.defs _ _).mono
      (fun _ h c => ⟨((h.1 c).1 8).trans (Cert.Kernel2Ideal.Fox.final8 m hO c), ((h.1 c).1 9).trans (Cert.Kernel2Ideal.Fox.final9 m hO c),
        ((h.1 c).1 10).trans (Cert.Kernel2Ideal.Fox.final10 m hO c), ((h.1 c).1 11).trans (Cert.Kernel2Ideal.Fox.final11 m hO c), h.2 c⟩)
      (θ_run_and (Cert.Kernel2Ideal.Fox.run_main m ρ hO) (Cert.Kernel2Ideal.Fox.unchanged m ρ hO))
  refine (θ_run Cert.Reference2Ideal.defs _ _).mono (fun _ h c => ?_) (Cert.Reference2Ideal.Fox.run (F := Ideal) m' ρ')
  obtain ⟨r0, r6, r7, r8, rest⟩ := h c
  obtain ⟨h0, h1, h2, h3, h4, h5, h6, h7, h8⟩ := hagree c
  refine ⟨r0.trans ?_, r6.trans ?_, r7.trans ?_, r8.trans ?_, rest⟩
  · rw [h0, h1, h2, h3, h4, h5]
    funext i
    obtain ⟨b, h, d, l, rfl⟩ : ∃ (b : Fin 4) (h : Fin 8) (d : Fin 80) (l : Fin 4096), i = ix4 b h d l :=
      ⟨i 0, i 1, i 2, i 3, by funext a; fin_cases a <;> rfl⟩
    exact Cert.Reference2Ideal.Fox.staged_at _ _ _ _ _ _ b h d l
  · exact h6
  · exact h7
  · exact h8

end Cert.Fox

end
-- ==== Proof.lean ====
/- The certificate's claims, for each of the two calls: the kernel's and its idealization's frames, the reference's, and the value
   claim, which says that the kernel's results are the reference's over the extended reals. -/
module

public import proofs.«01_k».proof.Defs
public import proofs.«01_k».proof.Proof.Gen.Kernel.Frame
public import proofs.«01_k».proof.Proof.Ffn.Final
public import proofs.«01_k».proof.Proof.Ffn.Host
public import proofs.«01_k».proof.Proof.Fox.Claims
public import Idealize.ShloMosaic.Lib.Quiescent

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Ffn.run (F := Ideal) m ρ)

theorem algebraic : Cert.algebraic_KernelIdeal_ReferenceIdeal := by
  intro m ρ m' ρ' _ hagree
  refine ⟨fun c => Cert.KernelIdeal.Ffn.REF m c, ?_, ?_⟩
  · exact (θ_run Cert.KernelIdeal.defs _ _).mono
      (fun _ h c => ⟨(h c).1.trans (Cert.KernelIdeal.Ffn.final m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Ffn.run (F := Ideal) m' ρ')
  obtain ⟨h0, h1, h2, h3, h4, h5, h6, h7, h8⟩ := hagree c
  rw [h0, h1, h2, h3, h4, h5, h6, h7, h8]
  funext i
  obtain ⟨b, l, d, rfl⟩ : ∃ (b : Fin 4) (l : Fin 4096) (d : Fin 1024), i = ix3 b l d := ⟨i 0, i 1, i 2, by funext a; fin_cases a <;> rfl⟩
  exact Cert.ReferenceIdeal.Ffn.staged_at _ _ _ _ _ _ _ _ _ b l d

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, frame_reference,
  Cert.Fox.frame_kernel, Cert.Fox.frame_ideal, Cert.Fox.frame_reference, trivial, algebraic, Cert.Fox.preserves, Cert.Fox.algebraic⟩

end Cert.Proof

end
